-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoder [hPre_finite_encoder : Cert.Pre_finite_encoder.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoder [hPre_finite_encoder : Cert.Pre_finite_encoder.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_encoder [hKernelIdeal : Cert.KernelIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoder m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_encoder [hReferenceIdeal : Cert.ReferenceIdeal.Facts] [hPre_finite_encoder : Cert.Pre_finite_encoder.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoder m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_encoder [hKernelIdeal : Cert.KernelIdeal.Facts] [hReferenceIdeal : Cert.ReferenceIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoder m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_encoder : Cert.Pre_finite_encoder.Facts),
    quiescent_Kernel (hKernel := hKernel)
    ∧ quiescent_KernelIdeal (hKernelIdeal := hKernelIdeal)
    ∧ quiescent_KernelIdeal_pre_finite_encoder (hKernelIdeal := hKernelIdeal) (hPre_finite_encoder := hPre_finite_encoder)
    ∧ quiescent_ReferenceIdeal (hReferenceIdeal := hReferenceIdeal)
    ∧ quiescent_ReferenceIdeal_pre_finite_encoder (hReferenceIdeal := hReferenceIdeal) (hPre_finite_encoder := hPre_finite_encoder)
    ∧ preserves_Kernel_KernelIdeal
    ∧ algebraic_KernelIdeal_ReferenceIdeal_pre_finite_encoder (hKernelIdeal := hKernelIdeal) (hReferenceIdeal := hReferenceIdeal) (hPre_finite_encoder := hPre_finite_encoder)
-- ==== Pre_finite_encoder.lean ====
abbrev S8x3x224x224 : Shape := ⟨4, ![8, 3, 224, 224]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S256x256x3x3 : Shape := ⟨4, ![256, 256, 3, 3]⟩
abbrev S1024x256 : Shape := ⟨2, ![1024, 256]⟩
abbrev S128x256x4x4 : Shape := ⟨4, ![128, 256, 4, 4]⟩
abbrev S3x128x4x4 : Shape := ⟨4, ![3, 128, 4, 4]⟩
abbrev S3 : Shape := ⟨1, ![3]⟩
abbrev S_ : Shape := ⟨0, ![]⟩

class Facts : Prop where
  bcast_S_S8x3x224x224 : S_.BroadcastsInDim S8x3x224x224 (![] : Fin 0 → Fin S8x3x224x224.rank)
  reducesTo_S8x3x224x224_S_d0_1_2_3 : S8x3x224x224.ReducesTo [0, 1, 2, 3] S_
  h_S_ : 0 < S_.numel
  bcast_S_S128x3x4x4 : S_.BroadcastsInDim S128x3x4x4 (![] : Fin 0 → Fin S128x3x4x4.rank)
  reducesTo_S128x3x4x4_S_d0_1_2_3 : S128x3x4x4.ReducesTo [0, 1, 2, 3] S_
  bcast_S_S128 : S_.BroadcastsInDim S128 (![] : Fin 0 → Fin S128.rank)
  reducesTo_S128_S_d0 : S128.ReducesTo [0] S_
  bcast_S_S256x128x4x4 : S_.BroadcastsInDim S256x128x4x4 (![] : Fin 0 → Fin S256x128x4x4.rank)
  reducesTo_S256x128x4x4_S_d0_1_2_3 : S256x128x4x4.ReducesTo [0, 1, 2, 3] S_
  bcast_S_S256 : S_.BroadcastsInDim S256 (![] : Fin 0 → Fin S256.rank)
  reducesTo_S256_S_d0 : S256.ReducesTo [0] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_

variable [Facts]

def fn_part1 {F : FTy → Type} [FloatOps F] (main_arg4 : FVec F S256 .f32) (main_arg5 : FVec F S256x256x3x3 .f32) (main_arg6 : FVec F S256 .f32) (main_v13 : IVec S_ 1) (main_v16 : IVec S256x128x4x4 1) : IVec S_ 1 :=
  let main_c_5 : IVec S_ 1 := constantI S_ 1 1#1
  let main_v17 : IVec S_ 1 := (fun x v => Host.reduce IntOp.andi x v reducesTo_S256x128x4x4_S_d0_1_2_3 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256x3x3 .f32 := Host.absf main_arg5
  let main_cst_8 : FVec F S_ .f32 := constant S_ .f32 0x7F800000#32
  let main_v25 : FVec F S256x256x3x3 .f32 := broadcastInDim S256x256x3x3 ![] bcast_S_S256x256x3x3 main_cst_8
  let main_v26 : IVec S256x256x3x3 1 := cmpf .olt main_v24 main_v25
  let main_c_9 : IVec S_ 1 := constantI S_ 1 1#1
  let main_v27 : IVec S_ 1 := (fun x v => Host.reduce IntOp.andi x v reducesTo_S256x256x3x3_S_d0_1_2_3 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x3x224x224 .f32) (main_arg1 : FVec F S128x3x4x4 .f32) (main_arg2 : FVec F S128 .f32) (main_arg3 : FVec F S256x128x4x4 .f32) (main_arg4 : FVec F S256 .f32) (main_arg5 : FVec F S256x256x3x3 .f32) (main_arg6 : FVec F S256 .f32) (main_arg7 : FVec F S1024x256 .f32) (main_arg8 : FVec F S256x256x3x3 .f32) (main_arg9 : FVec F S256 .f32) (main_arg10 : FVec F S128x256x4x4 .f32) (main_arg11 : FVec F S128 .f32) (main_arg12 : FVec F S3x128x4x4 .f32) (main_arg13 : FVec F S3 .f32) : IVec S_ 1 :=
  let main_v0 : FVec F S8x3x224x224 .f32 := Host.absf main_arg0
  let main_cst : FVec F S_ .f32 := constant S_ .f32 0x7F800000#32
  let main_v1 : FVec F S8x3x224x224 .f32 := broadcastInDim S8x3x224x224 ![] bcast_S_S8x3x224x224 main_cst
  let main_v2 : IVec S8x3x224x224 1 := cmpf .olt main_v0 main_v1
  let main_c : IVec S_ 1 := constantI S_ 1 1#1
  let main_v3 : IVec S_ 1 := (fun x v => Host.reduce IntOp.andi x v reducesTo_S8x3x224x224_S_d0_1_2_3 h_S_) main_v2 main_c
  let main_v4 : FVec F S128x3x4x4 .f32 := Host.absf main_arg1
  let main_cst_0 : FVec F S_ .f32 := constant S_ .f32 0x7F800000#32
  let main_v5 : FVec F S128x3x4x4 .f32 := broadcastInDim S128x3x4x4 ![] bcast_S_S128x3x4x4 main_cst_0
  let main_v6 : IVec S128x3x4x4 1 := cmpf .olt main_v4 main_v5
  let main_c_1 : IVec S_ 1 := constantI S_ 1 1#1
  let main_v7 : IVec S_ 1 := (fun x v => Host.reduce IntOp.andi x v reducesTo_S128x3x4x4_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128x4x4 .f32 := Host.absf main_arg3
  let main_cst_4 : FVec F S_ .f32 := constant S_ .f32 0x7F800000#32
  let main_v15 : FVec F S256x128x4x4 .f32 := broadcastInDim S256x128x4x4 ![] bcast_S_S256x128x4x4 main_cst_4
  let main_v16 : IVec S256x128x4x4 1 := cmpf .olt main_v14 main_v15
  fn_part1 (F := F) main_arg4 main_arg5 main_arg6 main_v13 main_v16
-- ==== Kernel.lean ====
abbrev S8x3x224x224 : Shape := ⟨4, ![8, 3, 224, 224]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S256x256x3x3 : Shape := ⟨4, ![256, 256, 3, 3]⟩
abbrev S1024x256 : Shape := ⟨2, ![1024, 256]⟩
abbrev S128x256x4x4 : Shape := ⟨4, ![128, 256, 4, 4]⟩
abbrev S3x128x4x4 : Shape := ⟨4, ![3, 128, 4, 4]⟩
abbrev S3 : Shape := ⟨1, ![3]⟩
abbrev S8x224x224x3 : Shape := ⟨4, ![8, 224, 224, 3]⟩
abbrev S_ : Shape := ⟨0, ![]⟩
abbrev S8x226x226x3 : Shape := ⟨4, ![8, 226, 226, 3]⟩
abbrev S8x113x2x113x2x3 : Shape := ⟨6, ![8, 113, 2, 113, 2, 3]⟩
abbrev S8x113x113x2x2x3 : Shape := ⟨6, ![8, 113, 113, 2, 2, 3]⟩
abbrev S8x113x113x12 : Shape := ⟨4, ![8, 113, 113, 12]⟩
abbrev S8x113x128x12 : Shape := ⟨4, ![8, 113, 128, 12]⟩
abbrev S128x3x2x2x2x2 : Shape := ⟨6, ![128, 3, 2, 2, 2, 2]⟩
abbrev S2x2x2x2x3x128 : Shape := ⟨6, ![2, 2, 2, 2, 3, 128]⟩
abbrev S4x12x128 : Shape := ⟨3, ![4, 12, 128]⟩
abbrev S8x113x128x128 : Shape := ⟨4, ![8, 113, 128, 128]⟩
abbrev S4x128x128 : Shape := ⟨3, ![4, 128, 128]⟩
abbrev S1x128 : Shape := ⟨2, ![1, 128]⟩
abbrev S8x112x112x128 : Shape := ⟨4, ![8, 112, 112, 128]⟩
abbrev S1x113x128x128 : Shape := ⟨4, ![1, 113, 128, 128]⟩
abbrev S1x28x112x128 : Shape := ⟨4, ![1, 28, 112, 128]⟩
abbrev S1x28x120x128 : Shape := ⟨4, ![1, 28, 120, 128]⟩
abbrev S28x120x128 : Shape := ⟨3, ![28, 120, 128]⟩
abbrev S3360x128 : Shape := ⟨2, ![3360, 128]⟩
abbrev S1x128x128 : Shape := ⟨3, ![1, 128, 128]⟩
abbrev S128x128 : Shape := ⟨2, ![128, 128]⟩
abbrev S28x112x128 : Shape := ⟨3, ![28, 112, 128]⟩
abbrev S8x114x114x128 : Shape := ⟨4, ![8, 114, 114, 128]⟩
abbrev S8x57x2x57x2x128 : Shape := ⟨6, ![8, 57, 2, 57, 2, 128]⟩
abbrev S8x57x57x2x2x128 : Shape := ⟨6, ![8, 57, 57, 2, 2, 128]⟩
abbrev S8x57x57x512 : Shape := ⟨4, ![8, 57, 57, 512]⟩
abbrev S8x57x72x512 : Shape := ⟨4, ![8, 57, 72, 512]⟩
abbrev S256x128x2x2x2x2 : Shape := ⟨6, ![256, 128, 2, 2, 2, 2]⟩
abbrev S2x2x2x2x128x256 : Shape := ⟨6, ![2, 2, 2, 2, 128, 256]⟩
abbrev S4x512x256 : Shape := ⟨3, ![4, 512, 256]⟩
abbrev S1x256 : Shape := ⟨2, ![1, 256]⟩
abbrev S8x56x56x256 : Shape := ⟨4, ![8, 56, 56, 256]⟩
abbrev S1x57x72x512 : Shape := ⟨4, ![1, 57, 72, 512]⟩
abbrev S1x28x56x256 : Shape := ⟨4, ![1, 28, 56, 256]⟩
abbrev S1x28x64x512 : Shape := ⟨4, ![1, 28, 64, 512]⟩
abbrev S28x64x512 : Shape := ⟨3, ![28, 64, 512]⟩
abbrev S1792x512 : Shape := ⟨2, ![1792, 512]⟩
abbrev S1x512x256 : Shape := ⟨3, ![1, 512, 256]⟩
abbrev S512x256 : Shape := ⟨2, ![512, 256]⟩
abbrev S1792x256 : Shape := ⟨2, ![1792, 256]⟩
abbrev S28x64x256 : Shape := ⟨3, ![28, 64, 256]⟩
abbrev S28x56x256 : Shape := ⟨3, ![28, 56, 256]⟩
abbrev S8x58x66x256 : Shape := ⟨4, ![8, 58, 66, 256]⟩
abbrev S3x3x256x256 : Shape := ⟨4, ![3, 3, 256, 256]⟩
abbrev S9x256x256 : Shape := ⟨3, ![9, 256, 256]⟩
abbrev S1x58x66x256 : Shape := ⟨4, ![1, 58, 66, 256]⟩
abbrev S1x28x64x256 : Shape := ⟨4, ![1, 28, 64, 256]⟩
abbrev S1x256x256 : Shape := ⟨3, ![1, 256, 256]⟩
abbrev S256x256 : Shape := ⟨2, ![256, 256]⟩
abbrev S25088x256 : Shape := ⟨2, ![25088, 256]⟩
abbrev S256x1024 : Shape := ⟨2, ![256, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S8x58x67x256 : Shape := ⟨4, ![8, 58, 67, 256]⟩
abbrev S128x256x2x2x2x2 : Shape := ⟨6, ![128, 256, 2, 2, 2, 2]⟩
abbrev S2x2x2x2x256x128 : Shape := ⟨6, ![2, 2, 2, 2, 256, 128]⟩
abbrev S2x2x4x256x128 : Shape := ⟨5, ![2, 2, 4, 256, 128]⟩
abbrev S8x56x2x56x256 : Shape := ⟨5, ![8, 56, 2, 56, 256]⟩
abbrev S1x58x67x256 : Shape := ⟨4, ![1, 58, 67, 256]⟩
abbrev S1x2x4x256x128 : Shape := ⟨5, ![1, 2, 4, 256, 128]⟩
abbrev S1x28x1x56x256 : Shape := ⟨5, ![1, 28, 1, 56, 256]⟩
abbrev S1x1x1x256x128 : Shape := ⟨5, ![1, 1, 1, 256, 128]⟩
abbrev S256x128 : Shape := ⟨2, ![256, 128]⟩
abbrev S1792x128 : Shape := ⟨2, ![1792, 128]⟩
abbrev S28x64x128 : Shape := ⟨3, ![28, 64, 128]⟩
abbrev S28x56x128 : Shape := ⟨3, ![28, 56, 128]⟩
abbrev S8x114x123x128 : Shape := ⟨4, ![8, 114, 123, 128]⟩
abbrev S3x128x2x2x2x2 : Shape := ⟨6, ![3, 128, 2, 2, 2, 2]⟩
abbrev S2x2x2x2x128x3 : Shape := ⟨6, ![2, 2, 2, 2, 128, 3]⟩
abbrev S2x2x4x128x3 : Shape := ⟨5, ![2, 2, 4, 128, 3]⟩
abbrev S1x3 : Shape := ⟨2, ![1, 3]⟩
abbrev S8x112x2x112x6 : Shape := ⟨5, ![8, 112, 2, 112, 6]⟩
abbrev S1x114x123x128 : Shape := ⟨4, ![1, 114, 123, 128]⟩
abbrev S1x2x4x128x3 : Shape := ⟨5, ![1, 2, 4, 128, 3]⟩
abbrev S1x28x1x112x6 : Shape := ⟨5, ![1, 28, 1, 112, 6]⟩
abbrev S1x1x1x128x3 : Shape := ⟨5, ![1, 1, 1, 128, 3]⟩
abbrev S128x3 : Shape := ⟨2, ![128, 3]⟩
abbrev S3360x3 : Shape := ⟨2, ![3360, 3]⟩
abbrev S28x120x3 : Shape := ⟨3, ![28, 120, 3]⟩
abbrev S28x112x3 : Shape := ⟨3, ![28, 112, 3]⟩
abbrev S28x112x6 : Shape := ⟨3, ![28, 112, 6]⟩
abbrev S8x256x56x56 : Shape := ⟨4, ![8, 256, 56, 56]⟩

abbrev nBuf : Space → Nat
  | .hbm => 88
  | .vmem => 44
  | .smem => 0
  | _ => 0

abbrev bufTy : (tb : Table) → Fin (tcTables nBuf tb) → BufTy
  | .hbm, ⟨0, _⟩ => ⟨S8x3x224x224, .f32⟩
  | .hbm, ⟨1, _⟩ => ⟨S128x3x4x4, .f32⟩
  | .hbm, ⟨2, _⟩ => ⟨S128, .f32⟩
  | .hbm, ⟨3, _⟩ => ⟨S256x128x4x4, .f32⟩
  | .hbm, ⟨4, _⟩ => ⟨S256, .f32⟩
  | .hbm, ⟨5, _⟩ => ⟨S256x256x3x3, .f32⟩
  | .hbm, ⟨6, _⟩ => ⟨S256, .f32⟩
  | .hbm, ⟨7, _⟩ => ⟨S1024x256, .f32⟩
  | .hbm, ⟨8, _⟩ => ⟨S256x256x3x3, .f32⟩
  | .hbm, ⟨9, _⟩ => ⟨S256, .f32⟩
  | .hbm, ⟨10, _⟩ => ⟨S128x256x4x4, .f32⟩
  | .hbm, ⟨11, _⟩ => ⟨S128, .f32⟩
  | .hbm, ⟨12, _⟩ => ⟨S3x128x4x4, .f32⟩
  | .hbm, ⟨13, _⟩ => ⟨S3, .f32⟩
  | .hbm, ⟨14, _⟩ => ⟨S8x224x224x3, .f32⟩
  | .hbm, ⟨15, _⟩ => ⟨S_, .i32⟩
  | .hbm, ⟨16, _⟩ => ⟨S_, .f32⟩
  | .hbm, ⟨17, _⟩ => ⟨S8x226x226x3, .f32⟩
  | .hbm, ⟨18, _⟩ => ⟨S8x113x2x113x2x3, .f32⟩
  | .hbm, ⟨19, _⟩ => ⟨S8x113x113x2x2x3, .f32⟩
  | .hbm, ⟨20, _⟩ => ⟨S8x113x113x12, .f32⟩
  | .hbm, ⟨21, _⟩ => ⟨S_, .i32⟩
  | .hbm, ⟨22, _⟩ => ⟨S_, .f32⟩
  | .hbm, ⟨23, _⟩ => ⟨S8x113x128x12, .f32⟩
  | .hbm, ⟨24, _⟩ => ⟨S128x3x2x2x2x2, .f32⟩
  | .hbm, ⟨25, _⟩ => ⟨S2x2x2x2x3x128, .f32⟩
  | .hbm, ⟨26, _⟩ => ⟨S4x12x128, .f32⟩
  | .hbm, ⟨27, _⟩ => ⟨S_, .i32⟩
  | .hbm, ⟨28, _⟩ => ⟨S_, .f32⟩
  | .hbm, ⟨29, _⟩ => ⟨S8x113x128x128, .f32⟩
  | .hbm, ⟨30, _⟩ => ⟨S_, .i32⟩
  | .hbm, ⟨31, _⟩ => ⟨S_, .f32⟩
  | .hbm, ⟨32, _⟩ => ⟨S4x128x128, .f32⟩
  | .hbm, ⟨33, _⟩ => ⟨S1x128, .f32⟩
  | .hbm, ⟨34, _⟩ => ⟨S8x112x112x128, .f32⟩
  | .hbm, ⟨35, _⟩ => ⟨S_, .i32⟩
  | .hbm, ⟨36, _⟩ => ⟨S_, .f32⟩
  | .hbm, ⟨37, _⟩ => ⟨S8x114x114x128, .f32⟩
  | .hbm, ⟨38, _⟩ => ⟨S8x57x2x57x2x128, .f32⟩
  | .hbm, ⟨39, _⟩ => ⟨S8x57x57x2x2x128, .f32⟩
  | .hbm, ⟨40, _⟩ => ⟨S8x57x57x512, .f32⟩
  | .hbm, ⟨41, _⟩ => ⟨S_, .i32⟩
  | .hbm, ⟨42, _⟩ => ⟨S_, .f32⟩
  | .hbm, ⟨43, _⟩ => ⟨S8x57x72x512, .f32⟩
  | .hbm, ⟨44, _⟩ => ⟨S256x128x2x2x2x2, .f32⟩
  | .hbm, ⟨45, _⟩ => ⟨S2x2x2x2x128x256, .f32⟩
  | .hbm, ⟨46, _⟩ => ⟨S4x512x256, .f32⟩
  | .hbm, ⟨47, _⟩ => ⟨S1x256, .f32⟩
  | .hbm, ⟨48, _⟩ => ⟨S8x56x56x256, .f32⟩
  | .hbm, ⟨49, _⟩ => ⟨S_, .i32⟩
  | .hbm, ⟨50, _⟩ => ⟨S_, .f32⟩
  | .hbm, ⟨51, _⟩ => ⟨S8x58x66x256, .f32⟩
  | .hbm, ⟨52, _⟩ => ⟨S3x3x256x256, .f32⟩
  | .hbm, ⟨53, _⟩ => ⟨S9x256x256, .f32⟩
  | .hbm, ⟨54, _⟩ => ⟨S1x256, .f32⟩
  | .hbm, ⟨55, _⟩ => ⟨S8x56x56x256, .f32⟩
  | .hbm, ⟨56, _⟩ => ⟨S25088x256, .f32⟩
  | .hbm, ⟨57, _⟩ => ⟨S256x1024, .f32⟩
  | .hbm, ⟨58, _⟩ => ⟨S25088x256, .f32⟩
  | .hbm, ⟨59, _⟩ => ⟨S8x56x56x256, .f32⟩
  | .hbm, ⟨60, _⟩ => ⟨S_, .i32⟩
  | .hbm, ⟨61, _⟩ => ⟨S_, .f32⟩
  | .hbm, ⟨62, _⟩ => ⟨S8x58x66x256, .f32⟩
  | .hbm, ⟨63, _⟩ => ⟨S3x3x256x256, .f32⟩
  | .hbm, ⟨64, _⟩ => ⟨S9x256x256, .f32⟩
  | .hbm, ⟨65, _⟩ => ⟨S1x256, .f32⟩
  | .hbm, ⟨66, _⟩ => ⟨S8x56x56x256, .f32⟩
  | .hbm, ⟨67, _⟩ => ⟨S_, .i32⟩
  | .hbm, ⟨68, _⟩ => ⟨S_, .f32⟩
  | .hbm, ⟨69, _⟩ => ⟨S8x58x67x256, .f32⟩
  | .hbm, ⟨70, _⟩ => ⟨S128x256x2x2x2x2, .f32⟩
  | .hbm, ⟨71, _⟩ => ⟨S2x2x2x2x256x128, .f32⟩
  | .hbm, ⟨72, _⟩ => ⟨S2x2x4x256x128, .f32⟩
  | .hbm, ⟨73, _⟩ => ⟨S1x128, .f32⟩
  | .hbm, ⟨74, _⟩ => ⟨S8x56x2x56x256, .f32⟩
  | .hbm, ⟨75, _⟩ => ⟨S8x112x112x128, .f32⟩
  | .hbm, ⟨76, _⟩ => ⟨S_, .i32⟩
  | .hbm, ⟨77, _⟩ => ⟨S_, .f32⟩
  | .hbm, ⟨78, _⟩ => ⟨S8x114x123x128, .f32⟩
  | .hbm, ⟨79, _⟩ => ⟨S3x128x2x2x2x2, .f32⟩
  | .hbm, ⟨80, _⟩ => ⟨S2x2x2x2x128x3, .f32⟩
  | .hbm, ⟨81, _⟩ => ⟨S2x2x4x128x3, .f32⟩
  | .hbm, ⟨82, _⟩ => ⟨S1x3, .f32⟩
  | .hbm, ⟨83, _⟩ => ⟨S8x112x2x112x6, .f32⟩
  | .hbm, ⟨84, _⟩ => ⟨S8x224x224x3, .f32⟩
  | .hbm, ⟨85, _⟩ => ⟨S8x3x224x224, .f32⟩
  | .hbm, ⟨86, _⟩ => ⟨S8x256x56x56, .f32⟩
  | .hbm, ⟨87, _⟩ => ⟨S8x256x56x56, .f32⟩
  | .local _ .vmem, ⟨0, _⟩ => ⟨S1x113x128x128, .f32⟩
  | .local _ .vmem, ⟨1, _⟩ => ⟨S1x113x128x128, .f32⟩
  | .local _ .vmem, ⟨2, _⟩ => ⟨S4x128x128, .f32⟩
  | .local _ .vmem, ⟨3, _⟩ => ⟨S1x128, .f32⟩
  | .local _ .vmem, ⟨4, _⟩ => ⟨S1x28x112x128, .f32⟩
  | .local _ .vmem, ⟨5, _⟩ => ⟨S1x28x112x128, .f32⟩
  | .local _ .vmem, ⟨6, _⟩ => ⟨S1x57x72x512, .f32⟩
  | .local _ .vmem, ⟨7, _⟩ => ⟨S1x57x72x512, .f32⟩
  | .local _ .vmem, ⟨8, _⟩ => ⟨S4x512x256, .f32⟩
  | .local _ .vmem, ⟨9, _⟩ => ⟨S1x256, .f32⟩
  | .local _ .vmem, ⟨10, _⟩ => ⟨S1x28x56x256, .f32⟩
  | .local _ .vmem, ⟨11, _⟩ => ⟨S1x28x56x256, .f32⟩
  | .local _ .vmem, ⟨12, _⟩ => ⟨S1x58x66x256, .f32⟩
  | .local _ .vmem, ⟨13, _⟩ => ⟨S1x58x66x256, .f32⟩
  | .local _ .vmem, ⟨14, _⟩ => ⟨S9x256x256, .f32⟩
  | .local _ .vmem, ⟨15, _⟩ => ⟨S1x256, .f32⟩
  | .local _ .vmem, ⟨16, _⟩ => ⟨S1x28x56x256, .f32⟩
  | .local _ .vmem, ⟨17, _⟩ => ⟨S1x28x56x256, .f32⟩
  | .local _ .vmem, ⟨18, _⟩ => ⟨S512x256, .f32⟩
  | .local _ .vmem, ⟨19, _⟩ => ⟨S512x256, .f32⟩
  | .local _ .vmem, ⟨20, _⟩ => ⟨S256x1024, .f32⟩
  | .local _ .vmem, ⟨21, _⟩ => ⟨S1024x256, .f32⟩
  | .local _ .vmem, ⟨22, _⟩ => ⟨S512x256, .f32⟩
  | .local _ .vmem, ⟨23, _⟩ => ⟨S512x256, .f32⟩
  | .local _ .vmem, ⟨24, _⟩ => ⟨S1x58x66x256, .f32⟩
  | .local _ .vmem, ⟨25, _⟩ => ⟨S1x58x66x256, .f32⟩
  | .local _ .vmem, ⟨26, _⟩ => ⟨S9x256x256, .f32⟩
  | .local _ .vmem, ⟨27, _⟩ => ⟨S1x256, .f32⟩
  | .local _ .vmem, ⟨28, _⟩ => ⟨S1x28x56x256, .f32⟩
  | .local _ .vmem, ⟨29, _⟩ => ⟨S1x28x56x256, .f32⟩
  | .local _ .vmem, ⟨30, _⟩ => ⟨S1x58x67x256, .f32⟩
  | .local _ .vmem, ⟨31, _⟩ => ⟨S1x58x67x256, .f32⟩
  | .local _ .vmem, ⟨32, _⟩ => ⟨S1x2x4x256x128, .f32⟩
  | .local _ .vmem, ⟨33, _⟩ => ⟨S1x2x4x256x128, .f32⟩
  | .local _ .vmem, ⟨34, _⟩ => ⟨S1x128, .f32⟩
  | .local _ .vmem, ⟨35, _⟩ => ⟨S1x28x1x56x256, .f32⟩
  | .local _ .vmem, ⟨36, _⟩ => ⟨S1x28x1x56x256, .f32⟩
  | .local _ .vmem, ⟨37, _⟩ => ⟨S1x114x123x128, .f32⟩
  | .local _ .vmem, ⟨38, _⟩ => ⟨S1x114x123x128, .f32⟩
  | .local _ .vmem, ⟨39, _⟩ => ⟨S1x2x4x128x3, .f32⟩
  | .local _ .vmem, ⟨40, _⟩ => ⟨S1x2x4x128x3, .f32⟩
  | .local _ .vmem, ⟨41, _⟩ => ⟨S1x3, .f32⟩
  | .local _ .vmem, ⟨42, _⟩ => ⟨S1x28x1x112x6, .f32⟩
  | .local _ .vmem, ⟨43, _⟩ => ⟨S1x28x1x112x6, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_call1_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_c_2 : Ref sig .tc := ⟨.hbm, 30, rfl⟩
abbrev main_call3_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_call4_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_call5_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_call6_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_call7_v0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_call8_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_8 : Ref sig .tc := ⟨.hbm, 76, rfl⟩
abbrev main_call9_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem3_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem3_0 : DmaSem sig := 42
abbrev cc6_sem3_1 : DmaSem sig := 43

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := Scalar.addi v0 c0_i32
  let v2 : Index := Scalar.indexCast v1
  let c0_0 : Index := 0#32
  let c0_1 : Index := 0#32
  ![0, v2.toNat, 0, 0]
def k0_off2 (i : grid0.Coords) (c0_i32_6 : BitVec 32) : Fin 4 → Nat :=
  let c0_7 : Index := 0#32
  let arg1 : BitVec 32 := BitVec.ofNat 32 (i 1).val
  let c28_i32_5 : BitVec 32 := 28#32
  let v11 : BitVec 32 := Scalar.muli arg1 c28_i32_5
  let v12 : BitVec 32 := Scalar.addi v11 c0_i32_6
  let v13 : Index := Scalar.indexCast v12
  let c1 : Index := 1#32
  let c0_8 : Index := 0#32
  ![0, v13.toNat, 1, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x113x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x28x112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def k1_off1 (i : grid1.Coords) (c0_i32 : BitVec 32) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := Scalar.addi v0 c0_i32
  let v2 : Index := Scalar.indexCast v1
  let c0_0 : Index := 0#32
  let c0_1 : Index := 0#32
  ![0, v2.toNat, 0, 0]
def k1_off2 (i : grid1.Coords) (c0_i32_6 : BitVec 32) : Fin 4 → Nat :=
  let c0_7 : Index := 0#32
  let arg1 : BitVec 32 := BitVec.ofNat 32 (i 1).val
  let c28_i32_5 : BitVec 32 := 28#32
  let v11 : BitVec 32 := Scalar.muli arg1 c28_i32_5
  let v12 : BitVec 32 := Scalar.addi v11 c0_i32_6
  let v13 : Index := Scalar.indexCast v12
  let c1 : Index := 1#32
  let c0_8 : Index := 0#32
  ![0, v13.toNat, 1, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x57x72x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4x512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x28x56x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def k2_off1 (i : grid2.Coords) (c0_i32 : BitVec 32) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := Scalar.addi v0 c0_i32
  let v2 : Index := Scalar.indexCast v1
  let c0_0 : Index := 0#32
  let c0_1 : Index := 0#32
  ![0, v2.toNat, 0, 0]
def k2_off2 (i : grid2.Coords) (c0_i32_6 : BitVec 32) : Fin 4 → Nat :=
  let c0_7 : Index := 0#32
  let arg1 : BitVec 32 := BitVec.ofNat 32 (i 1).val
  let c28_i32_5 : BitVec 32 := 28#32
  let v11 : BitVec 32 := Scalar.muli arg1 c28_i32_5
  let v12 : BitVec 32 := Scalar.addi v11 c0_i32_6
  let v13 : Index := Scalar.indexCast v12
  let c1 : Index := 1#32
  let c0_8 : Index := 0#32
  ![0, v13.toNat, 1, 0]
def k2_off3 (i : grid2.Coords) (c0_i32_14 : BitVec 32) : Fin 4 → Nat :=
  let c0_15 : Index := 0#32
  let arg1 : BitVec 32 := BitVec.ofNat 32 (i 1).val
  let c28_i32_13 : BitVec 32 := 28#32
  let v23 : BitVec 32 := Scalar.muli arg1 c28_i32_13
  let v24 : BitVec 32 := Scalar.addi v23 c0_i32_14
  let v25 : Index := Scalar.indexCast v24
  let c2 : Index := 2#32
  let c0_16 : Index := 0#32
  ![0, v25.toNat, 2, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x58x66x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S9x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x28x56x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 2], ![false, false]⟩

def k4_off1 (i : grid4.Coords) (c0_i32 : BitVec 32) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := Scalar.addi v0 c0_i32
  let v2 : Index := Scalar.indexCast v1
  let c0_0 : Index := 0#32
  let c0_1 : Index := 0#32
  ![0, v2.toNat, 0, 0]
def k4_off2 (i : grid4.Coords) (c0_i32_6 : BitVec 32) : Fin 4 → Nat :=
  let c0_7 : Index := 0#32
  let arg1 : BitVec 32 := BitVec.ofNat 32 (i 1).val
  let c28_i32_5 : BitVec 32 := 28#32
  let v11 : BitVec 32 := Scalar.muli arg1 c28_i32_5
  let v12 : BitVec 32 := Scalar.addi v11 c0_i32_6
  let v13 : Index := Scalar.indexCast v12
  let c1 : Index := 1#32
  let c0_8 : Index := 0#32
  ![0, v13.toNat, 1, 0]
def k4_off3 (i : grid4.Coords) (c0_i32_14 : BitVec 32) : Fin 4 → Nat :=
  let c0_15 : Index := 0#32
  let arg1 : BitVec 32 := BitVec.ofNat 32 (i 1).val
  let c28_i32_13 : BitVec 32 := 28#32
  let v23 : BitVec 32 := Scalar.muli arg1 c28_i32_13
  let v24 : BitVec 32 := Scalar.addi v23 c0_i32_14
  let v25 : Index := Scalar.indexCast v24
  let c2 : Index := 2#32
  let c0_16 : Index := 0#32
  ![0, v25.toNat, 2, 0]
def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x58x66x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S9x256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x28x56x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨3, ![8, 2, 2], ![false, false, false]⟩

def k5_off1 (i : grid5.Coords) (c0_i32 : BitVec 32) : Fin 4 → Nat :=
  let c0 : Index := 0#32
  let arg2 : BitVec 32 := BitVec.ofNat 32 (i 2).val
  let c28_i32 : BitVec 32 := 28#32
  let v0 : BitVec 32 := Scalar.muli arg2 c28_i32
  let v1 : BitVec 32 := Scalar.addi v0 c0_i32
  let arg1 : BitVec 32 := BitVec.ofNat 32 (i 1).val
  let v2 : BitVec 32 := Scalar.addi v1 arg1
  let v3 : Index := Scalar.indexCast v2
  let c0_0 : Index := 0#32
  let c0_1 : Index := 0#32
  ![0, v3.toNat, 0, 0]
def k5_off2 (i : grid5.Coords) (c0_i32_8 : BitVec 32) : Fin 4 → Nat :=
  let c0_9 : Index := 0#32
  let arg2 : BitVec 32 := BitVec.ofNat 32 (i 2).val
  let c28_i32_7 : BitVec 32 := 28#32
  let v12 : BitVec 32 := Scalar.muli arg2 c28_i32_7
  let v13 : BitVec 32 := Scalar.addi v12 c0_i32_8
  let arg1 : BitVec 32 := BitVec.ofNat 32 (i 1).val
  let v14 : BitVec 32 := Scalar.addi v13 arg1
  let v15 : Index := Scalar.indexCast v14
  let c1 : Index := 1#32
  let c0_10 : Index := 0#32
  ![0, v15.toNat, 1, 0]
def k5_off3 (i : grid5.Coords) (c0_i32_51 : BitVec 32) : Fin 4 → Nat :=
  let c0_52 : Index := 0#32
  let arg2 : BitVec 32 := BitVec.ofNat 32 (i 2).val
  let c28_i32_50 : BitVec 32 := 28#32
  let v71 : BitVec 32 := Scalar.muli arg2 c28_i32_50
  let v72 : BitVec 32 := Scalar.addi v71 c0_i32_51
  let arg1 : BitVec 32 := BitVec.ofNat 32 (i 1).val
  let v73 : BitVec 32 := Scalar.addi v72 arg1
  let v74 : Index := Scalar.indexCast v73
  let c2_53 : Index := 2#32
  let c0_54 : Index := 0#32
  ![0, v74.toNat, 2, 0]
def cc5_transform_0 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage5_0 : Fin 2 → Memref sig .tc .vmem S1x58x67x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, false]

abbrev stage5_1 : Fin 2 → Memref sig .tc .vmem S1x2x4x256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false, false]

abbrev stage5_3 : Fin 2 → Memref sig .tc .vmem S1x28x1x56x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev grid6 : Pipeline.Grid := ⟨3, ![8, 2, 4], ![false, false, false]⟩

def k6_off1 (i : grid6.Coords) (c0_i32 : BitVec 32) : Fin 4 → Nat :=
  let c0 : Index := 0#32
  let arg2 : BitVec 32 := BitVec.ofNat 32 (i 2).val
  let c28_i32 : BitVec 32 := 28#32
  let v0 : BitVec 32 := Scalar.muli arg2 c28_i32
  let v1 : BitVec 32 := Scalar.addi v0 c0_i32
  let arg1 : BitVec 32 := BitVec.ofNat 32 (i 1).val
  let v2 : BitVec 32 := Scalar.addi v1 arg1
  let v3 : Index := Scalar.indexCast v2
  let c0_0 : Index := 0#32
  let c0_1 : Index := 0#32
  ![0, v3.toNat, 0, 0]
def k6_off2 (i : grid6.Coords) (c0_i32_8 : BitVec 32) : Fin 4 → Nat :=
  let c0_9 : Index := 0#32
  let arg2 : BitVec 32 := BitVec.ofNat 32 (i 2).val
  let c28_i32_7 : BitVec 32 := 28#32
  let v12 : BitVec 32 := Scalar.muli arg2 c28_i32_7
  let v13 : BitVec 32 := Scalar.addi v12 c0_i32_8
  let arg1 : BitVec 32 := BitVec.ofNat 32 (i 1).val
  let v14 : BitVec 32 := Scalar.addi v13 arg1
  let v15 : Index := Scalar.indexCast v14
  let c1 : Index := 1#32
  let c0_10 : Index := 0#32
  ![0, v15.toNat, 1, 0]
def k6_off3 (i : grid6.Coords) (c0_i32_50 : BitVec 32) : Fin 4 → Nat :=
  let c0_51 : Index := 0#32
  let arg2 : BitVec 32 := BitVec.ofNat 32 (i 2).val
  let c28_i32_49 : BitVec 32 := 28#32
  let v69 : BitVec 32 := Scalar.muli arg2 c28_i32_49
  let v70 : BitVec 32 := Scalar.addi v69 c0_i32_50
  let arg1 : BitVec 32 := BitVec.ofNat 32 (i 1).val
  let v71 : BitVec 32 := Scalar.addi v70 arg1
  let v72 : Index := Scalar.indexCast v71
  let c2_52 : Index := 2#32
  let c0_53 : Index := 0#32
  ![0, v72.toNat, 2, 0]
def cc6_transform_0 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage6_0 : Fin 2 → Memref sig .tc .vmem S1x114x123x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 2 → Memref sig .tc .vmem S1x2x4x128x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 1 → Memref sig .tc .vmem S1x3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false, false]

abbrev stage6_3 : Fin 2 → Memref sig .tc .vmem S1x28x1x112x6 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]
-- ==== ReferenceIdeal.lean ====
abbrev S8x3x224x224 : Shape := ⟨4, ![8, 3, 224, 224]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S256x256x3x3 : Shape := ⟨4, ![256, 256, 3, 3]⟩
abbrev S1024x256 : Shape := ⟨2, ![1024, 256]⟩
abbrev S128x256x4x4 : Shape := ⟨4, ![128, 256, 4, 4]⟩
abbrev S3x128x4x4 : Shape := ⟨4, ![3, 128, 4, 4]⟩
abbrev S3 : Shape := ⟨1, ![3]⟩
abbrev S_ : Shape := ⟨0, ![]⟩
abbrev S8x3x226x226 : Shape := ⟨4, ![8, 3, 226, 226]⟩
abbrev S128x4x4x3 : Shape := ⟨4, ![128, 4, 4, 3]⟩
abbrev S128x48 : Shape := ⟨2, ![128, 48]⟩
abbrev S8x3x112x226 : Shape := ⟨4, ![8, 3, 112, 226]⟩
abbrev S8x12x112x226 : Shape := ⟨4, ![8, 12, 112, 226]⟩
abbrev S8x12x112x112 : Shape := ⟨4, ![8, 12, 112, 112]⟩
abbrev S8x48x112x112 : Shape := ⟨4, ![8, 48, 112, 112]⟩
abbrev S128x8x112x112 : Shape := ⟨4, ![128, 8, 112, 112]⟩
abbrev S8x128x112x112 : Shape := ⟨4, ![8, 128, 112, 112]⟩
abbrev S1x128x1x1 : Shape := ⟨4, ![1, 128, 1, 1]⟩
abbrev S8x128x114x114 : Shape := ⟨4, ![8, 128, 114, 114]⟩
abbrev S256x4x4x128 : Shape := ⟨4, ![256, 4, 4, 128]⟩
abbrev S256x2048 : Shape := ⟨2, ![256, 2048]⟩
abbrev S8x128x56x114 : Shape := ⟨4, ![8, 128, 56, 114]⟩
abbrev S8x512x56x114 : Shape := ⟨4, ![8, 512, 56, 114]⟩
abbrev S8x512x56x56 : Shape := ⟨4, ![8, 512, 56, 56]⟩
abbrev S8x2048x56x56 : Shape := ⟨4, ![8, 2048, 56, 56]⟩
abbrev S256x8x56x56 : Shape := ⟨4, ![256, 8, 56, 56]⟩
abbrev S8x256x56x56 : Shape := ⟨4, ![8, 256, 56, 56]⟩
abbrev S1x256x1x1 : Shape := ⟨4, ![1, 256, 1, 1]⟩
abbrev S8x256x58x58 : Shape := ⟨4, ![8, 256, 58, 58]⟩
abbrev S256x3x3x256 : Shape := ⟨4, ![256, 3, 3, 256]⟩
abbrev S256x2304 : Shape := ⟨2, ![256, 2304]⟩
abbrev S8x256x56x58 : Shape := ⟨4, ![8, 256, 56, 58]⟩
abbrev S8x768x56x58 : Shape := ⟨4, ![8, 768, 56, 58]⟩
abbrev S8x768x56x56 : Shape := ⟨4, ![8, 768, 56, 56]⟩
abbrev S8x2304x56x56 : Shape := ⟨4, ![8, 2304, 56, 56]⟩
abbrev S8x56x56x256 : Shape := ⟨4, ![8, 56, 56, 256]⟩
abbrev S25088x256 : Shape := ⟨2, ![25088, 256]⟩
abbrev S25088 : Shape := ⟨1, ![25088]⟩
abbrev S25088x1 : Shape := ⟨2, ![25088, 1]⟩
abbrev S1024 : Shape := ⟨1, ![1024]⟩
abbrev S1x1024 : Shape := ⟨2, ![1, 1024]⟩
abbrev S25088x1024 : Shape := ⟨2, ![25088, 1024]⟩
abbrev S256x1024 : Shape := ⟨2, ![256, 1024]⟩
abbrev S1 : Shape := ⟨1, ![1]⟩
abbrev S1x1 : Shape := ⟨2, ![1, 1]⟩
abbrev S8x256x115x115 : Shape := ⟨4, ![8, 256, 115, 115]⟩
abbrev S128x4x4x256 : Shape := ⟨4, ![128, 4, 4, 256]⟩
abbrev S128x4096 : Shape := ⟨2, ![128, 4096]⟩
abbrev S8x256x112x115 : Shape := ⟨4, ![8, 256, 112, 115]⟩
abbrev S8x1024x112x115 : Shape := ⟨4, ![8, 1024, 112, 115]⟩
abbrev S8x1024x112x112 : Shape := ⟨4, ![8, 1024, 112, 112]⟩
abbrev S8x4096x112x112 : Shape := ⟨4, ![8, 4096, 112, 112]⟩
abbrev S8x128x227x227 : Shape := ⟨4, ![8, 128, 227, 227]⟩
abbrev S3x4x4x128 : Shape := ⟨4, ![3, 4, 4, 128]⟩
abbrev S3x2048 : Shape := ⟨2, ![3, 2048]⟩
abbrev S8x128x224x227 : Shape := ⟨4, ![8, 128, 224, 227]⟩
abbrev S8x512x224x227 : Shape := ⟨4, ![8, 512, 224, 227]⟩
abbrev S8x512x224x224 : Shape := ⟨4, ![8, 512, 224, 224]⟩
abbrev S8x2048x224x224 : Shape := ⟨4, ![8, 2048, 224, 224]⟩
abbrev S3x8x224x224 : Shape := ⟨4, ![3, 8, 224, 224]⟩
abbrev S1x3x1x1 : Shape := ⟨4, ![1, 3, 1, 1]⟩

abbrev nBuf : Space → Nat
  | .hbm => 187
  | .vmem => 0
  | .smem => 0
  | _ => 0

abbrev hbmTy0_0 (i : Nat) : BufTy := match i % 128 with
  | 0 => ⟨S8x3x224x224, .f32⟩
  | 1 => ⟨S128x3x4x4, .f32⟩
  | 2 => ⟨S128, .f32⟩
  | 3 => ⟨S256x128x4x4, .f32⟩
  | 4 => ⟨S256, .f32⟩
  | 5 => ⟨S256x256x3x3, .f32⟩
  | 6 => ⟨S256, .f32⟩
  | 7 => ⟨S1024x256, .f32⟩
  | 8 => ⟨S256x256x3x3, .f32⟩
  | 9 => ⟨S256, .f32⟩
  | 10 => ⟨S128x256x4x4, .f32⟩
  | 11 => ⟨S128, .f32⟩
  | 12 => ⟨S3x128x4x4, .f32⟩
  | 13 => ⟨S3, .f32⟩
  | 14 => ⟨S_, .f32⟩
  | 15 => ⟨S8x3x226x226, .f32⟩
  | 16 => ⟨S128x4x4x3, .f32⟩
  | 17 => ⟨S128x48, .f32⟩
  | 18 => ⟨S8x3x112x226, .f32⟩
  | 19 => ⟨S8x3x112x226, .f32⟩
  | 20 => ⟨S8x3x112x226, .f32⟩
  | 21 => ⟨S8x3x112x226, .f32⟩
  | 22 => ⟨S8x12x112x226, .f32⟩
  | 23 => ⟨S8x12x112x112, .f32⟩
  | 24 => ⟨S8x12x112x112, .f32⟩
  | 25 => ⟨S8x12x112x112, .f32⟩
  | 26 => ⟨S8x12x112x112, .f32⟩
  | 27 => ⟨S8x48x112x112, .f32⟩
  | 28 => ⟨S128x8x112x112, .f32⟩
  | 29 => ⟨S8x128x112x112, .f32⟩
  | 30 => ⟨S1x128x1x1, .f32⟩
  | 31 => ⟨S8x128x112x112, .f32⟩
  | 32 => ⟨S8x128x112x112, .f32⟩
  | 33 => ⟨S_, .f32⟩
  | 34 => ⟨S8x128x112x112, .f32⟩
  | 35 => ⟨S8x128x112x112, .f32⟩
  | 36 => ⟨S_, .f32⟩
  | 37 => ⟨S8x128x114x114, .f32⟩
  | 38 => ⟨S256x4x4x128, .f32⟩
  | 39 => ⟨S256x2048, .f32⟩
  | 40 => ⟨S8x128x56x114, .f32⟩
  | 41 => ⟨S8x128x56x114, .f32⟩
  | 42 => ⟨S8x128x56x114, .f32⟩
  | 43 => ⟨S8x128x56x114, .f32⟩
  | 44 => ⟨S8x512x56x114, .f32⟩
  | 45 => ⟨S8x512x56x56, .f32⟩
  | 46 => ⟨S8x512x56x56, .f32⟩
  | 47 => ⟨S8x512x56x56, .f32⟩
  | 48 => ⟨S8x512x56x56, .f32⟩
  | 49 => ⟨S8x2048x56x56, .f32⟩
  | 50 => ⟨S256x8x56x56, .f32⟩
  | 51 => ⟨S8x256x56x56, .f32⟩
  | 52 => ⟨S1x256x1x1, .f32⟩
  | 53 => ⟨S8x256x56x56, .f32⟩
  | 54 => ⟨S8x256x56x56, .f32⟩
  | 55 => ⟨S_, .f32⟩
  | 56 => ⟨S8x256x56x56, .f32⟩
  | 57 => ⟨S8x256x56x56, .f32⟩
  | 58 => ⟨S_, .f32⟩
  | 59 => ⟨S8x256x58x58, .f32⟩
  | 60 => ⟨S256x3x3x256, .f32⟩
  | 61 => ⟨S256x2304, .f32⟩
  | 62 => ⟨S8x256x56x58, .f32⟩
  | 63 => ⟨S8x256x56x58, .f32⟩
  | 64 => ⟨S8x256x56x58, .f32⟩
  | 65 => ⟨S8x768x56x58, .f32⟩
  | 66 => ⟨S8x768x56x56, .f32⟩
  | 67 => ⟨S8x768x56x56, .f32⟩
  | 68 => ⟨S8x768x56x56, .f32⟩
  | 69 => ⟨S8x2304x56x56, .f32⟩
  | 70 => ⟨S256x8x56x56, .f32⟩
  | 71 => ⟨S8x256x56x56, .f32⟩
  | 72 => ⟨S1x256x1x1, .f32⟩
  | 73 => ⟨S8x256x56x56, .f32⟩
  | 74 => ⟨S8x256x56x56, .f32⟩
  | 75 => ⟨S8x56x56x256, .f32⟩
  | 76 => ⟨S25088x256, .f32⟩
  | 77 => ⟨S25088x256, .f32⟩
  | 78 => ⟨S_, .f32⟩
  | 79 => ⟨S25088, .f32⟩
  | 80 => ⟨S25088x1, .f32⟩
  | 81 => ⟨S1024x256, .f32⟩
  | 82 => ⟨S_, .f32⟩
  | 83 => ⟨S1024, .f32⟩
  | 84 => ⟨S1x1024, .f32⟩
  | 85 => ⟨S25088x1024, .f32⟩
  | 86 => ⟨S25088x1024, .f32⟩
  | 87 => ⟨S25088x1024, .f32⟩
  | 88 => ⟨S256x1024, .f32⟩
  | 89 => ⟨S25088x1024, .f32⟩
  | 90 => ⟨S_, .f32⟩
  | 91 => ⟨S25088x1024, .f32⟩
  | 92 => ⟨S25088x1024, .f32⟩
  | 93 => ⟨S25088x1024, .f32⟩
  | 94 => ⟨S25088x1024, .i32⟩
  | 95 => ⟨S_, .f32⟩
  | 96 => ⟨S_, .i32⟩
  | 97 => ⟨S25088, .f32⟩
  | 98 => ⟨S25088, .i32⟩
  | 99 => ⟨S_, .i32⟩
  | 100 => ⟨S25088, .i32⟩
  | 101 => ⟨S25088, .i1⟩
  | 102 => ⟨S_, .i32⟩
  | 103 => ⟨S25088, .i32⟩
  | 104 => ⟨S25088, .i32⟩
  | 105 => ⟨S25088, .i32⟩
  | 106 => ⟨S25088x1, .i32⟩
  | 107 => ⟨S1, .i32⟩
  | 108 => ⟨S_, .i32⟩
  | 109 => ⟨S25088x1, .i32⟩
  | 110 => ⟨S25088x1, .i1⟩
  | 111 => ⟨S1x1, .i32⟩
  | 112 => ⟨S25088x1, .i32⟩
  | 113 => ⟨S25088x1, .i1⟩
  | 114 => ⟨S25088x1, .i1⟩
  | 115 => ⟨S_, .i1⟩
  | 116 => ⟨S25088, .i1⟩
  | 117 => ⟨S25088x256, .f32⟩
  | 118 => ⟨S25088x256, .i1⟩
  | 119 => ⟨S_, .f32⟩
  | 120 => ⟨S25088x256, .f32⟩
  | 121 => ⟨S25088x256, .f32⟩
  | 122 => ⟨S8x56x56x256, .f32⟩
  | 123 => ⟨S8x256x56x56, .f32⟩
  | 124 => ⟨S8x256x56x56, .f32⟩
  | 125 => ⟨S8x256x56x56, .f32⟩
  | 126 => ⟨S_, .f32⟩
  | 127 => ⟨S8x256x58x58, .f32⟩
  | _ => ⟨S8x3x224x224, .f32⟩

abbrev hbmTy0_1 (i : Nat) : BufTy := match i % 128 with
  | 0 => ⟨S256x3x3x256, .f32⟩
  | 1 => ⟨S256x2304, .f32⟩
  | 2 => ⟨S8x256x56x58, .f32⟩
  | 3 => ⟨S8x256x56x58, .f32⟩
  | 4 => ⟨S8x256x56x58, .f32⟩
  | 5 => ⟨S8x768x56x58, .f32⟩
  | 6 => ⟨S8x768x56x56, .f32⟩
  | 7 => ⟨S8x768x56x56, .f32⟩
  | 8 => ⟨S8x768x56x56, .f32⟩
  | 9 => ⟨S8x2304x56x56, .f32⟩
  | 10 => ⟨S256x8x56x56, .f32⟩
  | 11 => ⟨S8x256x56x56, .f32⟩
  | 12 => ⟨S1x256x1x1, .f32⟩
  | 13 => ⟨S8x256x56x56, .f32⟩
  | 14 => ⟨S8x256x56x56, .f32⟩
  | 15 => ⟨S_, .f32⟩
  | 16 => ⟨S8x256x56x56, .f32⟩
  | 17 => ⟨S8x256x56x56, .f32⟩
  | 18 => ⟨S_, .f32⟩
  | 19 => ⟨S8x256x115x115, .f32⟩
  | 20 => ⟨S128x4x4x256, .f32⟩
  | 21 => ⟨S128x4096, .f32⟩
  | 22 => ⟨S8x256x112x115, .f32⟩
  | 23 => ⟨S8x256x112x115, .f32⟩
  | 24 => ⟨S8x256x112x115, .f32⟩
  | 25 => ⟨S8x256x112x115, .f32⟩
  | 26 => ⟨S8x1024x112x115, .f32⟩
  | 27 => ⟨S8x1024x112x112, .f32⟩
  | 28 => ⟨S8x1024x112x112, .f32⟩
  | 29 => ⟨S8x1024x112x112, .f32⟩
  | 30 => ⟨S8x1024x112x112, .f32⟩
  | 31 => ⟨S8x4096x112x112, .f32⟩
  | 32 => ⟨S128x8x112x112, .f32⟩
  | 33 => ⟨S8x128x112x112, .f32⟩
  | 34 => ⟨S1x128x1x1, .f32⟩
  | 35 => ⟨S8x128x112x112, .f32⟩
  | 36 => ⟨S8x128x112x112, .f32⟩
  | 37 => ⟨S_, .f32⟩
  | 38 => ⟨S8x128x112x112, .f32⟩
  | 39 => ⟨S8x128x112x112, .f32⟩
  | 40 => ⟨S_, .f32⟩
  | 41 => ⟨S8x128x227x227, .f32⟩
  | 42 => ⟨S3x4x4x128, .f32⟩
  | 43 => ⟨S3x2048, .f32⟩
  | 44 => ⟨S8x128x224x227, .f32⟩
  | 45 => ⟨S8x128x224x227, .f32⟩
  | 46 => ⟨S8x128x224x227, .f32⟩
  | 47 => ⟨S8x128x224x227, .f32⟩
  | 48 => ⟨S8x512x224x227, .f32⟩
  | 49 => ⟨S8x512x224x224, .f32⟩
  | 50 => ⟨S8x512x224x224, .f32⟩
  | 51 => ⟨S8x512x224x224, .f32⟩
  | 52 => ⟨S8x512x224x224, .f32⟩
  | 53 => ⟨S8x2048x224x224, .f32⟩
  | 54 => ⟨S3x8x224x224, .f32⟩
  | 55 => ⟨S8x3x224x224, .f32⟩
  | 56 => ⟨S1x3x1x1, .f32⟩
  | 57 => ⟨S8x3x224x224, .f32⟩
  | 58 => ⟨S8x3x224x224, .f32⟩
  | _ => ⟨S8x3x224x224, .f32⟩

abbrev hbmTy (i : Nat) : BufTy := match i / 128 with
  | 0 => hbmTy0_0 i
  | 1 => hbmTy0_1 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_4 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call0_v0 : Ref sig .tc := ⟨.hbm, 94, rfl⟩
abbrev main_call0_cst : Ref sig .tc := ⟨.hbm, 95, rfl⟩
abbrev main_call0_c : Ref sig .tc := ⟨.hbm, 96, rfl⟩
abbrev main_call0_v1_0 : Ref sig .tc := ⟨.hbm, 97, rfl⟩
abbrev main_v72 : Ref sig .tc := ⟨.hbm, 98, rfl⟩
abbrev main_call1_c : Ref sig .tc := ⟨.hbm, 99, rfl⟩
abbrev main_call1_v0 : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_c_1 : Ref sig .tc := ⟨.hbm, 107, rfl⟩
abbrev main_call1_c_2 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_3 : Ref sig .tc := ⟨.hbm, 115, rfl⟩
abbrev main_call1_v12 : Ref sig .tc := ⟨.hbm, 116, rfl⟩
abbrev main_call1_v13 : Ref sig .tc := ⟨.hbm, 117, rfl⟩
abbrev main_call1_v14 : Ref sig .tc := ⟨.hbm, 118, rfl⟩
abbrev main_call1_cst : Ref sig .tc := ⟨.hbm, 119, rfl⟩
abbrev main_call1_v15 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_8 : Ref sig .tc := ⟨.hbm, 143, rfl⟩
abbrev main_v94 : Ref sig .tc := ⟨.hbm, 144, rfl⟩
abbrev main_v95 : Ref sig .tc := ⟨.hbm, 145, rfl⟩
abbrev main_cst_9 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_10 : Ref sig .tc := ⟨.hbm, 165, rfl⟩
abbrev main_v114 : Ref sig .tc := ⟨.hbm, 166, rfl⟩
abbrev main_v115 : Ref sig .tc := ⟨.hbm, 167, rfl⟩
abbrev main_cst_11 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩

abbrev nD : Nat := 1
abbrev τ : Topo := Topo.v7x

variable {F : FTy → Type} [FloatOps F]
-- ==== Proof.KernelRun.lean ====
/- The run of the kernel's program: the frame's launch, keeping also what the three results hold at the end. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the arguments as launched, the three results at the last boundary's contents, and every
    counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v51) = W35 m ρ c (Proc.devRef .tc main_v51)
      ∧ r.2.mem ((c.tc : Thread nD τ).loc main_v52) = W35 m ρ c (Proc.devRef .tc main_v52)
      ∧ r.2.mem ((c.tc : Thread nD τ).loc main_v53) = W35 m ρ c (Proc.devRef .tc main_v53))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h hz => ⟨(fun c =>
      ⟨(h c _ (mem_uc main_arg0 (by decide))).trans (W35_main_arg0 m ρ c),
       (h c _ (mem_uc main_arg1 (by decide))).trans (W35_main_arg1 m ρ c),
       (h c _ (mem_uc main_arg2 (by decide))).trans (W35_main_arg2 m ρ c),
       (h c _ (mem_uc main_arg3 (by decide))).trans (W35_main_arg3 m ρ c),
       (h c _ (mem_uc main_arg4 (by decide))).trans (W35_main_arg4 m ρ c),
       (h c _ (mem_uc main_arg5 (by decide))).trans (W35_main_arg5 m ρ c),
       (h c _ (mem_uc main_arg6 (by decide))).trans (W35_main_arg6 m ρ c),
       (h c _ (mem_uc main_arg7 (by decide))).trans (W35_main_arg7 m ρ c),
       (h c _ (mem_uc main_arg8 (by decide))).trans (W35_main_arg8 m ρ c),
       (h c _ (mem_uc main_arg9 (by decide))).trans (W35_main_arg9 m ρ c),
       (h c _ (mem_uc main_arg10 (by decide))).trans (W35_main_arg10 m ρ c),
       (h c _ (mem_uc main_arg11 (by decide))).trans (W35_main_arg11 m ρ c),
       (h c _ (mem_uc main_arg12 (by decide))).trans (W35_main_arg12 m ρ c),
       (h c _ (mem_uc main_arg13 (by decide))).trans (W35_main_arg13 m ρ c),
       h c _ (mem_uc main_v51 (by decide)), h c _ (mem_uc main_v52 (by decide)), h c _ (mem_uc main_v53 (by decide))⟩), funext fun g => hz g (.inr (no_unscoped g.2))⟩)

end Cert.KernelIdeal.Gen
end
-- ==== Proof.Coord.lean ====
/- Arrays read at natural-number coordinates, zero outside their extents: the vocabulary in which the kernel's and the
   reference's layers are compared. Padding by zeros is then a shift of coordinates. -/
module

public import Idealize.ShloMosaic.Lib.ValueIdx
public import Idealize.ShloMosaic.Lib.MatmulPlain
public import Idealize.ShloMosaic.Lib.KernelVsHost
public import Idealize.ShloMosaic.Lib.Pipeline.Value
public import Idealize.ShloMosaic.Lib.Pipeline.ValueKit

@[expose] public section

noncomputable section

open scoped BigOperators

namespace Cert.Proof

open Idealize.ShloMosaic

/-- A rank-one array at a natural coordinate. -/
def at1 {a : ℕ} (x : (⟨1, ![a]⟩ : Shape).Idx → EReal) (i : ℕ) : EReal :=
  if h : i < a then x (ValueIdx.ix1 ⟨i, h⟩) else 0
/-- A rank-two array at natural coordinates. -/
def at2 {a b : ℕ} (x : (⟨2, ![a, b]⟩ : Shape).Idx → EReal) (i j : ℕ) : EReal :=
  if h : i < a ∧ j < b then x (ValueIdx.ix2 ⟨i, h.1⟩ ⟨j, h.2⟩) else 0
/-- A rank-three array at natural coordinates. -/
def at3 {a b c : ℕ} (x : (⟨3, ![a, b, c]⟩ : Shape).Idx → EReal) (i j k : ℕ) : EReal :=
  if h : i < a ∧ j < b ∧ k < c then x (ValueIdx.ix3 ⟨i, h.1⟩ ⟨j, h.2.1⟩ ⟨k, h.2.2⟩) else 0
/-- A rank-four array at natural coordinates. -/
def at4 {a b c d : ℕ} (x : (⟨4, ![a, b, c, d]⟩ : Shape).Idx → EReal) (i j k l : ℕ) : EReal :=
  if h : i < a ∧ j < b ∧ k < c ∧ l < d then x (ValueIdx.ix4 ⟨i, h.1⟩ ⟨j, h.2.1⟩ ⟨k, h.2.2.1⟩ ⟨l, h.2.2.2⟩) else 0
/-- A rank-five array at natural coordinates. -/
def at5 {a b c d e : ℕ} (x : (⟨5, ![a, b, c, d, e]⟩ : Shape).Idx → EReal) (i j k l n : ℕ) : EReal :=
  if h : i < a ∧ j < b ∧ k < c ∧ l < d ∧ n < e then
    x (ValueIdx.ix5 ⟨i, h.1⟩ ⟨j, h.2.1⟩ ⟨k, h.2.2.1⟩ ⟨l, h.2.2.2.1⟩ ⟨n, h.2.2.2.2⟩) else 0

section Read
variable {a b c d e : ℕ}

theorem at1_ix (x : (⟨1, ![a]⟩ : Shape).Idx → EReal) (j : (⟨1, ![a]⟩ : Shape).Idx) : x j = at1 x (j 0).val := by
  unfold at1; rw [dif_pos (show (j 0).val < a from (j 0).isLt)]; exact congrArg x (ValueIdx.eq_ix1 j)
theorem at2_ix (x : (⟨2, ![a, b]⟩ : Shape).Idx → EReal) (j : (⟨2, ![a, b]⟩ : Shape).Idx) :
    x j = at2 x (j 0).val (j 1).val := by
  unfold at2; rw [dif_pos ⟨(j 0).isLt, (j 1).isLt⟩]; exact congrArg x (ValueIdx.eq_ix2 j)
theorem at3_ix (x : (⟨3, ![a, b, c]⟩ : Shape).Idx → EReal) (j : (⟨3, ![a, b, c]⟩ : Shape).Idx) :
    x j = at3 x (j 0).val (j 1).val (j 2).val := by
  unfold at3; rw [dif_pos ⟨(j 0).isLt, (j 1).isLt, (j 2).isLt⟩]; exact congrArg x (ValueIdx.eq_ix3 j)
theorem at4_ix (x : (⟨4, ![a, b, c, d]⟩ : Shape).Idx → EReal) (j : (⟨4, ![a, b, c, d]⟩ : Shape).Idx) :
    x j = at4 x (j 0).val (j 1).val (j 2).val (j 3).val := by
  unfold at4; rw [dif_pos ⟨(j 0).isLt, (j 1).isLt, (j 2).isLt, (j 3).isLt⟩]; exact congrArg x (ValueIdx.eq_ix4 j)
theorem at5_ix (x : (⟨5, ![a, b, c, d, e]⟩ : Shape).Idx → EReal) (j : (⟨5, ![a, b, c, d, e]⟩ : Shape).Idx) :
    x j = at5 x (j 0).val (j 1).val (j 2).val (j 3).val (j 4).val := by
  unfold at5; rw [dif_pos ⟨(j 0).isLt, (j 1).isLt, (j 2).isLt, (j 3).isLt, (j 4).isLt⟩]; exact congrArg x (ValueIdx.eq_ix5 j)

/-- Two rank-four arrays that read alike inside their extents are equal. -/
theorem ext4 {x y : (⟨4, ![a, b, c, d]⟩ : Shape).Idx → EReal}
    (h : ∀ i j k l, i < a → j < b → k < c → l < d → at4 x i j k l = at4 y i j k l) : x = y :=
  funext fun i => by
    rw [at4_ix x i, at4_ix y i]; exact h _ _ _ _ (i 0).isLt (i 1).isLt (i 2).isLt (i 3).isLt
/-- Two rank-two arrays that read alike inside their extents are equal. -/
theorem ext2 {x y : (⟨2, ![a, b]⟩ : Shape).Idx → EReal}
    (h : ∀ i j, i < a → j < b → at2 x i j = at2 y i j) : x = y :=
  funext fun i => by
    rw [at2_ix x i, at2_ix y i]; exact h _ _ (i 0).isLt (i 1).isLt

theorem at1_of (x : (⟨1, ![a]⟩ : Shape).Idx → EReal) {i : ℕ} (hi : i < a) : at1 x i = x (ValueIdx.ix1 ⟨i, hi⟩) := dif_pos hi
theorem at2_of (x : (⟨2, ![a, b]⟩ : Shape).Idx → EReal) {i j : ℕ} (hi : i < a) (hj : j < b) :
    at2 x i j = x (ValueIdx.ix2 ⟨i, hi⟩ ⟨j, hj⟩) := dif_pos ⟨hi, hj⟩
theorem at3_of (x : (⟨3, ![a, b, c]⟩ : Shape).Idx → EReal) {i j k : ℕ} (hi : i < a) (hj : j < b) (hk : k < c) :
    at3 x i j k = x (ValueIdx.ix3 ⟨i, hi⟩ ⟨j, hj⟩ ⟨k, hk⟩) := dif_pos ⟨hi, hj, hk⟩
theorem at4_of (x : (⟨4, ![a, b, c, d]⟩ : Shape).Idx → EReal) {i j k l : ℕ} (hi : i < a) (hj : j < b) (hk : k < c)
    (hl : l < d) : at4 x i j k l = x (ValueIdx.ix4 ⟨i, hi⟩ ⟨j, hj⟩ ⟨k, hk⟩ ⟨l, hl⟩) := dif_pos ⟨hi, hj, hk, hl⟩
theorem at5_of (x : (⟨5, ![a, b, c, d, e]⟩ : Shape).Idx → EReal) {i j k l n : ℕ} (hi : i < a) (hj : j < b) (hk : k < c)
    (hl : l < d) (hn : n < e) : at5 x i j k l n = x (ValueIdx.ix5 ⟨i, hi⟩ ⟨j, hj⟩ ⟨k, hk⟩ ⟨l, hl⟩ ⟨n, hn⟩) :=
  dif_pos ⟨hi, hj, hk, hl, hn⟩
end Read

/-- A sum over a product range is the double sum over quotient and remainder. -/
theorem sum_range_mul {M : Type*} [AddCommMonoid M] (p q : ℕ) (f : ℕ → M) :
    ∑ k ∈ Finset.range (p * q), f k = ∑ i ∈ Finset.range p, ∑ j ∈ Finset.range q, f (i * q + j) := by
  induction p with
  | zero => simp
  | succ p ih => rw [Nat.succ_mul, Finset.sum_range_add, ih, Finset.sum_range_succ]

/-- A 3x3 convolution of a padded array by stacked taps, with its bias. -/
def conv3At {a b c d e f g h i : ℕ} (x : (⟨4, ![a, b, c, d]⟩ : Shape).Idx → EReal) (w : (⟨3, ![e, f, g]⟩ : Shape).Idx → EReal)
    (v : (⟨2, ![h, i]⟩ : Shape).Idx → EReal) (n r q o : ℕ) : EReal :=
  (∑ s ∈ Finset.range 3, ∑ t ∈ Finset.range 3, ∑ k ∈ Finset.range d, at4 x n (s + r) (t + q) k * at3 w (3 * s + t) k o) + at2 v 0 o
/-- A 2x2 convolution of a padded array by stacked taps, with its bias. -/
def conv2At {a b c d e f g h i : ℕ} (x : (⟨4, ![a, b, c, d]⟩ : Shape).Idx → EReal) (w : (⟨3, ![e, f, g]⟩ : Shape).Idx → EReal)
    (v : (⟨2, ![h, i]⟩ : Shape).Idx → EReal) (n r q o : ℕ) : EReal :=
  (∑ s ∈ Finset.range 2, ∑ t ∈ Finset.range 2, ∑ k ∈ Finset.range d, at4 x n (s + r) (t + q) k * at3 w (2 * s + t) k o) + at2 v 0 o

section Tap
variable {R C K N : ℕ}

/-- One tap of a kernel's convolution: a block of rows and columns, flattened, times one weight matrix. -/
theorem tap_at {M : ℕ} (d : DotDims ⟨2, ![M, K]⟩ ⟨2, ![K, N]⟩ ⟨2, ![M, N]⟩)
    (prec : Option ContractPrecision)
    (x : (⟨4, ![1, R, C, K]⟩ : Shape).Idx → EReal) (w : (⟨3, ![1, K, N]⟩ : Shape).Idx → EReal)
    (h1 : (⟨4, ![1, R, C, K]⟩ : Shape).ShapeCasts ⟨3, ![R, C, K]⟩)
    (h2 : (⟨3, ![R, C, K]⟩ : Shape).ShapeCasts ⟨2, ![M, K]⟩)
    (h3 : (⟨3, ![1, K, N]⟩ : Shape).ShapeCasts ⟨2, ![K, N]⟩)
    (h4 : FTy.bf16.bits < FTy.f32.bits) (hM : M = R * C) (hd : d = DotDims.plain M K N)
    (r c o : ℕ) (hr : r < R) (hc : c < C) (ho : o < N) :
    at2 (matmul (F := Ideal) d prec (truncf .bf16 (shapeCast ⟨2, ![M, K]⟩ (shapeCast ⟨3, ![R, C, K]⟩ x h1) h2 : FVec Ideal _ .f32) h4)
      (truncf .bf16 (shapeCast ⟨2, ![K, N]⟩ w h3 : FVec Ideal _ .f32) h4) (constant ⟨2, ![M, N]⟩ .f32 0x00000000#32)) (r * C + c) o
      = ∑ k ∈ Finset.range K, at4 x 0 r c k * at3 w 0 k o := by
  subst hM
  subst hd
  have hR : r * C + c < R * C := by
    calc r * C + c < r * C + C := by omega
      _ = (r + 1) * C := by ring
      _ ≤ R * C := Nat.mul_le_mul_right _ hr
  rw [at2_of _ hR ho]
  refine (Ideal.matmul_plain_apply prec _ _ _ _ _).trans ?_
  rw [show (constant ⟨2, ![R * C, N]⟩ .f32 0x00000000#32 : FVec Ideal _ .f32) (ValueIdx.ix2 ⟨r * C + c, hR⟩ ⟨o, ho⟩) = (0 : EReal) from
    Ideal.ofBits_zero_f32, zero_add, Finset.sum_range]
  refine Finset.sum_congr rfl fun k _ => ?_
  rw [at4_of x Nat.one_pos hr hc k.isLt, at3_of w Nat.one_pos k.isLt ho]
  refine congrArg₂ (· * ·) ?_ ?_
  · refine (shapeCast_apply _ h2 _ (ValueIdx.ix3 ⟨r, hr⟩ ⟨c, hc⟩ k) ?_).trans (shapeCast_apply x h1 _ _ ?_)
    · rw [Shape.rowMajor_val_three, Shape.rowMajor_val_two]; rfl
    · rw [Shape.rowMajor_val_four, Shape.rowMajor_val_three]
      show ((0 * R + r) * C + c) * K + k.val = (r * C + c) * K + k.val
      rw [Nat.zero_mul, Nat.zero_add]
  · refine shapeCast_apply w h3 _ _ ?_
    rw [Shape.rowMajor_val_three, Shape.rowMajor_val_two]
    show (0 * K + k.val) * N + o = k.val * N + o
    rw [Nat.zero_mul, Nat.zero_add]

/-- The block a kernel stores: the first `C'` columns of a flattened result of `R` rows of `C`. -/
theorem outBlock_at {M C' : ℕ} (y : (⟨2, ![M, N]⟩ : Shape).Idx → EReal)
    (h1 : (⟨2, ![M, N]⟩ : Shape).ShapeCasts ⟨3, ![R, C, N]⟩)
    (h2 : (⟨3, ![R, C, N]⟩ : Shape).Slices ![0, 0, 0] ⟨3, ![R, C', N]⟩)
    (h3 : (⟨3, ![R, C', N]⟩ : Shape).ShapeCasts ⟨4, ![1, R, C', N]⟩)
    (r c o : ℕ) (hr : r < R) (hc : c < C') (ho : o < N) :
    at4 (shapeCast ⟨4, ![1, R, C', N]⟩ (extractStridedSlice ⟨3, ![R, C', N]⟩ ![0, 0, 0] (shapeCast ⟨3, ![R, C, N]⟩ y h1) h2) h3) 0 r c o
      = at2 y (r * C + c) o := by
  have hC : c < C := lt_of_lt_of_le hc (by have := h2.2 1; simpa using this)
  have hM : M * N = R * C * N := by have := h1; simpa [Shape.ShapeCasts, Shape.numel, Fin.prod_univ_succ, Nat.mul_assoc] using this.symm
  have hR : r * C + c < M := by
    have h0 : r * C + c < R * C := by
      calc r * C + c < r * C + C := by omega
        _ = (r + 1) * C := by ring
        _ ≤ R * C := Nat.mul_le_mul_right _ hr
    exact (Nat.eq_of_mul_eq_mul_right (by omega : 0 < N) hM) ▸ h0
  rw [at4_of _ Nat.one_pos hr hc ho, at2_of y hR ho]
  refine (shapeCast_apply _ h3 _ (ValueIdx.ix3 ⟨r, hr⟩ ⟨c, hc⟩ ⟨o, ho⟩) ?_).trans ?_
  · rw [Shape.rowMajor_val_four, Shape.rowMajor_val_three]
    show (r * C' + c) * N + o = ((0 * R + r) * C' + c) * N + o
    rw [Nat.zero_mul, Nat.zero_add]
  · refine shapeCast_apply y h1 _ _ ?_
    rw [Shape.rowMajor_val_two, Shape.rowMajor_val_three]
    show (r * C + c) * N + o = ((0 + r) * C + (0 + c)) * N + (0 + o)
    simp only [Nat.zero_add]

/-- A bias row added to every row. -/
theorem biasRow_at {M : ℕ} (b : (⟨2, ![1, N]⟩ : Shape).Idx → EReal) (h1 : (⟨2, ![1, N]⟩ : Shape).ShapeCasts ⟨2, ![1, N]⟩)
    (h2 : (⟨2, ![1, N]⟩ : Shape).Broadcasts ⟨2, ![M, N]⟩) (i o : ℕ) (hi : i < M) :
    at2 (broadcastTo ⟨2, ![M, N]⟩ (shapeCast ⟨2, ![1, N]⟩ b h1) h2) i o = at2 b 0 o := by
  by_cases ho : o < N
  · rw [at2_of _ hi ho, at2_of b Nat.one_pos ho]
    refine (broadcastTo_apply _ h2 _ (ValueIdx.ix2 ⟨0, Nat.one_pos⟩ ⟨o, ho⟩) fun a => ?_).trans
      (shapeCast_apply b h1 _ _ rfl)
    match a with
    | ⟨0, _⟩ => rfl
    | ⟨1, _⟩ =>
      show o = if N = 1 then 0 else o
      split <;> omega
  · unfold at2; rw [dif_neg (by tauto), dif_neg (by tauto)]

theorem addf_at2 {a b : ℕ} (x y : FVec Ideal ⟨2, ![a, b]⟩ .f32) (i j : ℕ) :
    at2 (addf x y) i j = at2 x i j + at2 y i j := by
  unfold at2; split
  · rfl
  · rw [add_zero]

theorem relu_at2 {a b : ℕ} (x : FVec Ideal ⟨2, ![a, b]⟩ .f32) (i j : ℕ) :
    at2 (maximumf x (broadcast ⟨2, ![a, b]⟩ (Scalar.ofBits (F := Ideal) .f32 0x00000000#32))) i j = max (at2 x i j) 0 := by
  unfold at2; split
  · exact congrArg (max _) Ideal.ofBits_zero_f32
  · rw [max_self]

/-- A load of some rows and columns of every channel, of one image. -/
theorem ld_at4 {n0 n1 n2 o o1 o2 : ℕ} (x : Vec Ideal ⟨4, ![n0, n1, n2, K]⟩ .f32) (off : Fin 4 → ℕ)
    (hoff : off = ![o, o1, o2, 0]) (inb : ∀ a, off a + (![1, R, C, K] : Fin 4 → ℕ) a ≤ (⟨4, ![n0, n1, n2, K]⟩ : Shape).size a)
    (r c k : ℕ) (hr : r < R) (hc : c < C) :
    at4 (View.ld x (Rect.unit off ![1, R, C, K] inb)) 0 r c k = at4 x o (o1 + r) (o2 + c) k := by
  subst hoff
  have e0 : o + 1 ≤ n0 := inb 0
  have e1 : o1 + R ≤ n1 := inb 1
  have e2 : o2 + C ≤ n2 := inb 2
  by_cases hk : k < K
  · rw [at4_of _ Nat.one_pos hr hc hk, at4_of x (by omega : o < n0) (by omega : o1 + r < n1) (by omega : o2 + c < n2) hk]
    refine View.ld_unit_apply_of _ _ _ _ _ _ fun a => ?_
    match a with
    | ⟨0, _⟩ => rfl
    | ⟨1, _⟩ => rfl
    | ⟨2, _⟩ => rfl
    | ⟨3, _⟩ => exact (Nat.zero_add k).symm
  · unfold at4; rw [dif_neg (by tauto), dif_neg (by tauto)]

/-- A load of one of the stacked weight matrices. -/
theorem ld_at3 {n0 : ℕ} (x : Vec Ideal ⟨3, ![n0, K, N]⟩ .f32) (t : ℕ)
    (inb : ∀ a, (![t, 0, 0] : Fin 3 → ℕ) a + (![1, K, N] : Fin 3 → ℕ) a ≤ (⟨3, ![n0, K, N]⟩ : Shape).size a) (k o : ℕ) :
    at3 (View.ld x (Rect.unit ![t, 0, 0] ![1, K, N] inb)) 0 k o = at3 x t k o := by
  have e0 : t + 1 ≤ n0 := inb 0
  by_cases hk : k < K ∧ o < N
  · rw [at3_of _ Nat.one_pos hk.1 hk.2, at3_of x (by omega : t < n0) hk.1 hk.2]
    refine View.ld_unit_apply_of _ _ _ _ _ _ fun a => ?_
    match a with
    | ⟨0, _⟩ => rfl
    | ⟨1, _⟩ => exact (Nat.zero_add k).symm
    | ⟨2, _⟩ => exact (Nat.zero_add o).symm
  · unfold at3; rw [dif_neg (by tauto), dif_neg (by tauto)]

variable {sig : RefSig}

/-- `ld_at4` in a kernel body's spelling: a load from a staging buffer that holds `x`. -/
theorem rd_at4 {n0 n1 n2 o o1 o2 : ℕ} (arg : Memref sig .tc .vmem ⟨4, ![n0, n1, n2, K]⟩ .f32) (harg : arg.IsWhole)
    (x : Vec Ideal ⟨4, ![n0, n1, n2, K]⟩ .f32) (off : Fin 4 → ℕ)
    (hoff : off = ![o, o1, o2, 0]) (inb : ∀ a, off a + (![1, R, C, K] : Fin 4 → ℕ) a ≤ (⟨4, ![n0, n1, n2, K]⟩ : Shape).size a)
    (r c k : ℕ) (hr : r < R) (hc : c < C) :
    at4 (a := 1) (b := R) (c := C) (d := K) (arg.view.readAt (Elt Ideal) (Rect.unit (s := ⟨4, ![n0, n1, n2, K]⟩) off ![1, R, C, K] inb).toLoadRect (harg.unread x)) 0 r c k = at4 x o (o1 + r) (o2 + c) k := by
  rw [View.readAt_eq_ld, harg.read_unread]
  exact ld_at4 x off hoff inb r c k hr hc

/-- `ld_at3` in a kernel body's spelling. -/
theorem rd_at3 {n0 : ℕ} (arg : Memref sig .tc .vmem ⟨3, ![n0, K, N]⟩ .f32) (harg : arg.IsWhole)
    (x : Vec Ideal ⟨3, ![n0, K, N]⟩ .f32) (t : ℕ)
    (inb : ∀ a, (![t, 0, 0] : Fin 3 → ℕ) a + (![1, K, N] : Fin 3 → ℕ) a ≤ (⟨3, ![n0, K, N]⟩ : Shape).size a) (k o : ℕ) :
    at3 (a := 1) (b := K) (c := N) (arg.view.readAt (Elt Ideal) (Rect.unit (s := ⟨3, ![n0, K, N]⟩) ![t, 0, 0] ![1, K, N] inb).toLoadRect (harg.unread x)) 0 k o = at3 x t k o := by
  rw [View.readAt_eq_ld, harg.read_unread]
  exact ld_at3 x t inb k o

/-- A load of a whole bias row. -/
theorem rd_at2 (arg : Memref sig .tc .vmem ⟨2, ![K, N]⟩ .f32) (harg : arg.IsWhole) (x : Vec Ideal ⟨2, ![K, N]⟩ .f32)
    (inb : ∀ a, (![0, 0] : Fin 2 → ℕ) a + (![K, N] : Fin 2 → ℕ) a ≤ (⟨2, ![K, N]⟩ : Shape).size a) (k o : ℕ) :
    at2 (a := K) (b := N) (arg.view.readAt (Elt Ideal) (Rect.unit (s := ⟨2, ![K, N]⟩) ![0, 0] ![K, N] inb).toLoadRect (harg.unread x)) k o = at2 x k o := by
  rw [View.readAt_eq_ld, harg.read_unread]
  exact congrArg (fun y => at2 y k o) (View.ld_unit_zero (S := ⟨2, ![K, N]⟩) (by funext a; fin_cases a <;> rfl) inb x)

end Tap
end Cert.Proof
end
-- ==== Proof.Layout.lean ====
/- The data movements of the two programs read at natural coordinates: paddings, transpositions, and the reshapes that
   gather 2x2 cells of pixels into channels and spread them out again. -/
module

public import proofs.«01_k».proof.Proof.Coord
public import Idealize.ShloMosaic.Lib.ValueIdxRank6

@[expose] public section

noncomputable section

open scoped BigOperators

namespace Cert.Proof

open Idealize.ShloMosaic

theorem mul_add_lt {a b c d : ℕ} (ha : a < b) (hc : c < d) : a * d + c < b * d := by
  calc a * d + c < a * d + d := by omega
    _ = (a + 1) * d := by ring
    _ ≤ b * d := Nat.mul_le_mul_right _ ha

/-- A padding by zeros, with zeros between the elements, reads an element or zero. -/
theorem pad4_at {a b c d a' b' c' d' l0 l1 l2 l3 h0 h1 h2 h3 p0 p1 p2 p3 : ℕ} (x : (⟨4, ![a, b, c, d]⟩ : Shape).Idx → EReal) {u : Shape}
    (v : u.Idx → EReal) (hv : ∀ i, v i = 0)
    (h : (⟨4, ![a, b, c, d]⟩ : Shape).Pads ![l0, l1, l2, l3] ![h0, h1, h2, h3] ![p0, p1, p2, p3] ⟨4, ![a', b', c', d']⟩) (hu : 0 < u.numel)
    (i j k l : ℕ) (hi : i < a') (hj : j < b') (hk : k < c') (hl : l < d') :
    at4 (pad ⟨4, ![a', b', c', d']⟩ ![l0, l1, l2, l3] ![h0, h1, h2, h3] ![p0, p1, p2, p3] x v h hu) i j k l
      = if (l0 ≤ i ∧ (i - l0) % (p0 + 1) = 0) ∧ (l1 ≤ j ∧ (j - l1) % (p1 + 1) = 0) ∧ (l2 ≤ k ∧ (k - l2) % (p2 + 1) = 0)
          ∧ (l3 ≤ l ∧ (l - l3) % (p3 + 1) = 0)
        then at4 x ((i - l0) / (p0 + 1)) ((j - l1) / (p1 + 1)) ((k - l2) / (p2 + 1)) ((l - l3) / (p3 + 1)) else 0 := by
  have hback : ∀ {z q r : ℕ}, r ≤ z → (z - r) % (q + 1) = 0 → z = r + (z - r) / (q + 1) * (q + 1) := fun {z q r} h1 h2 => by
    have := Nat.div_add_mod (z - r) (q + 1)
    rw [h2, Nat.add_zero, Nat.mul_comm] at this
    omega
  rw [at4_of _ hi hj hk hl]
  by_cases hin : ((l0 ≤ i ∧ (i - l0) % (p0 + 1) = 0 ∧ (i - l0) / (p0 + 1) < a) ∧ (l1 ≤ j ∧ (j - l1) % (p1 + 1) = 0 ∧ (j - l1) / (p1 + 1) < b)
      ∧ (l2 ≤ k ∧ (k - l2) % (p2 + 1) = 0 ∧ (k - l2) / (p2 + 1) < c) ∧ (l3 ≤ l ∧ (l - l3) % (p3 + 1) = 0 ∧ (l - l3) / (p3 + 1) < d))
  · obtain ⟨⟨i1, i2, i3⟩, ⟨j1, j2, j3⟩, ⟨k1, k2, k3⟩, m1, m2, m3⟩ := hin
    rw [if_pos ⟨⟨i1, i2⟩, ⟨j1, j2⟩, ⟨k1, k2⟩, m1, m2⟩, at4_of x i3 j3 k3 m3]
    refine pad_apply_of_inside _ _ _ x v h hu _ _ fun z => ?_
    match z with
    | ⟨0, _⟩ => exact hback i1 i2
    | ⟨1, _⟩ => exact hback j1 j2
    | ⟨2, _⟩ => exact hback k1 k2
    | ⟨3, _⟩ => exact hback m1 m2
  · have hz : pad ⟨4, ![a', b', c', d']⟩ ![l0, l1, l2, l3] ![h0, h1, h2, h3] ![p0, p1, p2, p3] x v h hu
        (ValueIdx.ix4 ⟨i, hi⟩ ⟨j, hj⟩ ⟨k, hk⟩ ⟨l, hl⟩) = 0 := by
      by_cases c0 : l0 ≤ i ∧ (i - l0) % (p0 + 1) = 0 ∧ (i - l0) / (p0 + 1) < a
      · by_cases c1 : l1 ≤ j ∧ (j - l1) % (p1 + 1) = 0 ∧ (j - l1) / (p1 + 1) < b
        · by_cases c2 : l2 ≤ k ∧ (k - l2) % (p2 + 1) = 0 ∧ (k - l2) / (p2 + 1) < c
          · exact (pad_apply_of_not_inside _ _ _ x v h hu (ValueIdx.ix4 ⟨i, hi⟩ ⟨j, hj⟩ ⟨k, hk⟩ ⟨l, hl⟩) 3 fun h' => hin ⟨c0, c1, c2, h'⟩).trans (hv _)
          · exact (pad_apply_of_not_inside _ _ _ x v h hu (ValueIdx.ix4 ⟨i, hi⟩ ⟨j, hj⟩ ⟨k, hk⟩ ⟨l, hl⟩) 2 fun h' => c2 h').trans (hv _)
        · exact (pad_apply_of_not_inside _ _ _ x v h hu (ValueIdx.ix4 ⟨i, hi⟩ ⟨j, hj⟩ ⟨k, hk⟩ ⟨l, hl⟩) 1 fun h' => c1 h').trans (hv _)
      · exact (pad_apply_of_not_inside _ _ _ x v h hu (ValueIdx.ix4 ⟨i, hi⟩ ⟨j, hj⟩ ⟨k, hk⟩ ⟨l, hl⟩) 0 fun h' => c0 h').trans (hv _)
    rw [hz]
    split
    · next hc =>
      unfold at4
      rw [dif_neg]
      rintro ⟨q0, q1, q2, q3⟩
      exact hin ⟨⟨hc.1.1, hc.1.2, q0⟩, ⟨hc.2.1.1, hc.2.1.2, q1⟩, ⟨hc.2.2.1.1, hc.2.2.1.2, q2⟩, hc.2.2.2.1, hc.2.2.2.2, q3⟩
    · rfl

/-- A padding by zeros behind the last elements reads as the array itself. -/
theorem pad3_at {a b c a' b' c' h0 h1 h2 : ℕ} (x : (⟨3, ![a, b, c]⟩ : Shape).Idx → EReal) {u : Shape}
    (v : u.Idx → EReal) (hv : ∀ i, v i = 0)
    (h : (⟨3, ![a, b, c]⟩ : Shape).Pads ![0, 0, 0] ![h0, h1, h2] ![0, 0, 0] ⟨3, ![a', b', c']⟩) (hu : 0 < u.numel)
    (i j k : ℕ) (hi : i < a') (hj : j < b') (hk : k < c') :
    at3 (pad ⟨3, ![a', b', c']⟩ ![0, 0, 0] ![h0, h1, h2] ![0, 0, 0] x v h hu) i j k = at3 x i j k := by
  rw [at3_of _ hi hj hk]
  by_cases hin : i < a ∧ j < b ∧ k < c
  · rw [at3_of x hin.1 hin.2.1 hin.2.2]
    refine pad_apply_of_inside _ _ _ x v h hu _ _ fun z => ?_
    match z with
    | ⟨0, _⟩ => show i = 0 + i * (0 + 1); omega
    | ⟨1, _⟩ => show j = 0 + j * (0 + 1); omega
    | ⟨2, _⟩ => show k = 0 + k * (0 + 1); omega
  · have hz : pad ⟨3, ![a', b', c']⟩ ![0, 0, 0] ![h0, h1, h2] ![0, 0, 0] x v h hu (ValueIdx.ix3 ⟨i, hi⟩ ⟨j, hj⟩ ⟨k, hk⟩) = 0 := by
      by_cases c0 : i < a
      · by_cases c1 : j < b
        · refine (pad_apply_of_not_inside _ _ _ x v h hu (ValueIdx.ix3 ⟨i, hi⟩ ⟨j, hj⟩ ⟨k, hk⟩) 2 fun h' => hin ⟨c0, c1, ?_⟩).trans (hv _)
          have h3 : (k - 0) / (0 + 1) < c := h'.2.2
          simpa using h3
        · refine (pad_apply_of_not_inside _ _ _ x v h hu (ValueIdx.ix3 ⟨i, hi⟩ ⟨j, hj⟩ ⟨k, hk⟩) 1 fun h' => c1 ?_).trans (hv _)
          have h3 : (j - 0) / (0 + 1) < b := h'.2.2
          simpa using h3
      · refine (pad_apply_of_not_inside _ _ _ x v h hu (ValueIdx.ix3 ⟨i, hi⟩ ⟨j, hj⟩ ⟨k, hk⟩) 0 fun h' => c0 ?_).trans (hv _)
        have h3 : (i - 0) / (0 + 1) < a := h'.2.2
        simpa using h3
    rw [hz]; unfold at3; rw [dif_neg hin]

/-- Gathering 2x2 cells of pixels into channels. -/
theorem cells_at {n A B c A2 B2 C4 : ℕ} (x : (⟨4, ![n, A2, B2, c]⟩ : Shape).Idx → EReal)
    (h1 : (⟨4, ![n, A2, B2, c]⟩ : Shape).ShapeCasts ⟨6, ![n, A, 2, B, 2, c]⟩)
    (h2 : (⟨6, ![n, A, 2, B, 2, c]⟩ : Shape).Transposes [0, 1, 3, 2, 4, 5] ⟨6, ![n, A, B, 2, 2, c]⟩)
    (h3 : (⟨6, ![n, A, B, 2, 2, c]⟩ : Shape).ShapeCasts ⟨4, ![n, A, B, C4]⟩)
    (hA : A2 = A * 2) (hB : B2 = B * 2) (hC : C4 = 4 * c)
    (i I J p q ch : ℕ) (hi : i < n) (hI : I < A) (hJ : J < B) (hp : p < 2) (hq : q < 2) (hch : ch < c) :
    at4 (shapeCast ⟨4, ![n, A, B, C4]⟩ (transpose ⟨6, ![n, A, B, 2, 2, c]⟩ [0, 1, 3, 2, 4, 5] (shapeCast ⟨6, ![n, A, 2, B, 2, c]⟩ x h1) h2) h3)
        i I J ((p * 2 + q) * c + ch)
      = at4 x i (2 * I + p) (2 * J + q) ch := by
  subst hA hB hC
  rw [at4_of _ hi hI hJ (mul_add_lt (show p * 2 + q < 4 by omega) hch),
    at4_of x hi (show 2 * I + p < A * 2 by omega) (show 2 * J + q < B * 2 by omega) hch]
  refine (shapeCast_apply _ h3 _ (ValueIdx.ix6 ⟨i, hi⟩ ⟨I, hI⟩ ⟨J, hJ⟩ ⟨p, hp⟩ ⟨q, hq⟩ ⟨ch, hch⟩) ?_).trans
    ((transpose_apply _ _ h2 _ (ValueIdx.ix6 ⟨i, hi⟩ ⟨I, hI⟩ ⟨p, hp⟩ ⟨J, hJ⟩ ⟨q, hq⟩ ⟨ch, hch⟩) fun b => ?_).trans
      (shapeCast_apply x h1 _ _ ?_))
  · rw [Shape.rowMajor_val_six, Shape.rowMajor_val_four]
    show ((((i * A + I) * B + J) * 2 + p) * 2 + q) * c + ch = ((i * A + I) * B + J) * (4 * c) + ((p * 2 + q) * c + ch)
    ring
  · match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_four]
    show ((i * (A * 2) + (2 * I + p)) * (B * 2) + (2 * J + q)) * c + ch = ((((i * A + I) * 2 + p) * B + J) * 2 + q) * c + ch
    ring

/-- The 4x4 kernels of a strided convolution, gathered likewise. -/
theorem cellKernel_at {o c C4 : ℕ} (w : (⟨4, ![o, c, 4, 4]⟩ : Shape).Idx → EReal)
    (h1 : (⟨4, ![o, c, 4, 4]⟩ : Shape).ShapeCasts ⟨6, ![o, c, 2, 2, 2, 2]⟩)
    (h2 : (⟨6, ![o, c, 2, 2, 2, 2]⟩ : Shape).Transposes [2, 4, 3, 5, 1, 0] ⟨6, ![2, 2, 2, 2, c, o]⟩)
    (h3 : (⟨6, ![2, 2, 2, 2, c, o]⟩ : Shape).ShapeCasts ⟨3, ![4, C4, o]⟩) (hC : C4 = 4 * c)
    (u t p q ch i : ℕ) (hu : u < 2) (ht : t < 2) (hp : p < 2) (hq : q < 2) (hch : ch < c) (hi : i < o) :
    at3 (shapeCast ⟨3, ![4, C4, o]⟩ (transpose ⟨6, ![2, 2, 2, 2, c, o]⟩ [2, 4, 3, 5, 1, 0] (shapeCast ⟨6, ![o, c, 2, 2, 2, 2]⟩ w h1) h2) h3)
        (2 * u + t) ((p * 2 + q) * c + ch) i
      = at4 w i ch (2 * u + p) (2 * t + q) := by
  subst hC
  rw [at3_of _ (show 2 * u + t < 4 by omega) (mul_add_lt (show p * 2 + q < 4 by omega) hch) hi,
    at4_of w hi hch (show 2 * u + p < 4 by omega) (show 2 * t + q < 4 by omega)]
  refine (shapeCast_apply _ h3 _ (ValueIdx.ix6 ⟨u, hu⟩ ⟨t, ht⟩ ⟨p, hp⟩ ⟨q, hq⟩ ⟨ch, hch⟩ ⟨i, hi⟩) ?_).trans
    ((transpose_apply _ _ h2 _ (ValueIdx.ix6 ⟨i, hi⟩ ⟨ch, hch⟩ ⟨u, hu⟩ ⟨p, hp⟩ ⟨t, ht⟩ ⟨q, hq⟩) fun b => ?_).trans
      (shapeCast_apply w h1 _ _ ?_))
  · rw [Shape.rowMajor_val_six, Shape.rowMajor_val_three]
    show ((((u * 2 + t) * 2 + p) * 2 + q) * c + ch) * o + i = ((2 * u + t) * (4 * c) + ((p * 2 + q) * c + ch)) * o + i
    ring
  · match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_four]
    show ((i * c + ch) * 4 + (2 * u + p)) * 4 + (2 * t + q) = ((((i * c + ch) * 2 + u) * 2 + p) * 2 + t) * 2 + q
    ring

/-- The 4x4 kernels of a strided transposed convolution, split by the parity of the result. -/
theorem phaseKernel_at {o c : ℕ} (w : (⟨4, ![o, c, 4, 4]⟩ : Shape).Idx → EReal)
    (h1 : (⟨4, ![o, c, 4, 4]⟩ : Shape).ShapeCasts ⟨6, ![o, c, 2, 2, 2, 2]⟩)
    (h2 : (⟨6, ![o, c, 2, 2, 2, 2]⟩ : Shape).Transposes [3, 5, 2, 4, 1, 0] ⟨6, ![2, 2, 2, 2, c, o]⟩)
    (h3 : (⟨6, ![2, 2, 2, 2, c, o]⟩ : Shape).ShapeCasts ⟨5, ![2, 2, 4, c, o]⟩)
    (r s u t ch i : ℕ) (hr : r < 2) (hs : s < 2) (hu : u < 2) (ht : t < 2) (hch : ch < c) (hi : i < o) :
    at5 (shapeCast ⟨5, ![2, 2, 4, c, o]⟩ (transpose ⟨6, ![2, 2, 2, 2, c, o]⟩ [3, 5, 2, 4, 1, 0] (shapeCast ⟨6, ![o, c, 2, 2, 2, 2]⟩ w h1) h2) h3)
        r s (2 * u + t) ch i
      = at4 w i ch (2 * u + r) (2 * t + s) := by
  rw [at5_of _ hr hs (show 2 * u + t < 4 by omega) hch hi,
    at4_of w hi hch (show 2 * u + r < 4 by omega) (show 2 * t + s < 4 by omega)]
  refine (shapeCast_apply _ h3 _ (ValueIdx.ix6 ⟨r, hr⟩ ⟨s, hs⟩ ⟨u, hu⟩ ⟨t, ht⟩ ⟨ch, hch⟩ ⟨i, hi⟩) ?_).trans
    ((transpose_apply _ _ h2 _ (ValueIdx.ix6 ⟨i, hi⟩ ⟨ch, hch⟩ ⟨u, hu⟩ ⟨r, hr⟩ ⟨t, ht⟩ ⟨s, hs⟩) fun b => ?_).trans
      (shapeCast_apply w h1 _ _ ?_))
  · rw [Shape.rowMajor_val_six, Shape.rowMajor_val_five]
    show ((((r * 2 + s) * 2 + u) * 2 + t) * c + ch) * o + i = (((r * 2 + s) * 4 + (2 * u + t)) * c + ch) * o + i
    ring
  · match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_four]
    show ((i * c + ch) * 4 + (2 * u + r)) * 4 + (2 * t + s) = ((((i * c + ch) * 2 + u) * 2 + r) * 2 + t) * 2 + s
    ring

/-- The 3x3 kernels, one matrix to a tap. -/
theorem tapKernel_at {o c : ℕ} (w : (⟨4, ![o, c, 3, 3]⟩ : Shape).Idx → EReal)
    (h2 : (⟨4, ![o, c, 3, 3]⟩ : Shape).Transposes [2, 3, 1, 0] ⟨4, ![3, 3, c, o]⟩)
    (h3 : (⟨4, ![3, 3, c, o]⟩ : Shape).ShapeCasts ⟨3, ![9, c, o]⟩)
    (u t ch i : ℕ) (hu : u < 3) (ht : t < 3) (hch : ch < c) (hi : i < o) :
    at3 (shapeCast ⟨3, ![9, c, o]⟩ (transpose ⟨4, ![3, 3, c, o]⟩ [2, 3, 1, 0] w h2) h3) (3 * u + t) ch i = at4 w i ch u t := by
  rw [at3_of _ (show 3 * u + t < 9 by omega) hch hi, at4_of w hi hch hu ht]
  refine (shapeCast_apply _ h3 _ (ValueIdx.ix4 ⟨u, hu⟩ ⟨t, ht⟩ ⟨ch, hch⟩ ⟨i, hi⟩) ?_).trans (transpose_apply _ _ h2 _ _ fun b => ?_)
  · rw [Shape.rowMajor_val_four, Shape.rowMajor_val_three]
    show ((u * 3 + t) * c + ch) * o + i = ((3 * u + t) * c + ch) * o + i
    ring
  · match b with
    | ⟨0, _⟩ => rfl
    | ⟨1, _⟩ => rfl
    | ⟨2, _⟩ => rfl
    | ⟨3, _⟩ => rfl

/-- A bias as a row. -/
theorem biasCast_at {o : ℕ} (v : (⟨1, ![o]⟩ : Shape).Idx → EReal) (h : (⟨1, ![o]⟩ : Shape).ShapeCasts ⟨2, ![1, o]⟩) (i : ℕ) :
    at2 (shapeCast ⟨2, ![1, o]⟩ v h) 0 i = at1 v i := by
  by_cases hi : i < o
  · rw [at2_of _ Nat.one_pos hi, at1_of v hi]
    refine shapeCast_apply v h _ _ ?_
    rw [Shape.rowMajor_val_one, Shape.rowMajor_val_two]
    show i = 0 * o + i
    omega
  · unfold at2 at1; rw [dif_neg (fun h' => hi h'.2), dif_neg hi]

/-- Channels last to channels second. -/
theorem toNchw_at {a b c d : ℕ} (x : (⟨4, ![a, b, c, d]⟩ : Shape).Idx → EReal)
    (h : (⟨4, ![a, b, c, d]⟩ : Shape).Transposes [0, 3, 1, 2] ⟨4, ![a, d, b, c]⟩) (i j k l : ℕ) :
    at4 (transpose ⟨4, ![a, d, b, c]⟩ [0, 3, 1, 2] x h) i j k l = at4 x i k l j := by
  by_cases hh : i < a ∧ j < d ∧ k < b ∧ l < c
  · rw [at4_of _ hh.1 hh.2.1 hh.2.2.1 hh.2.2.2, at4_of x hh.1 hh.2.2.1 hh.2.2.2 hh.2.1]
    exact transpose_apply _ _ h _ _ fun b => by
      match b with
      | ⟨0, _⟩ => rfl
      | ⟨1, _⟩ => rfl
      | ⟨2, _⟩ => rfl
      | ⟨3, _⟩ => rfl
  · unfold at4; rw [dif_neg hh, dif_neg (by tauto)]

/-- Channels second to channels last. -/
theorem toNhwc_at {a b c d : ℕ} (x : (⟨4, ![a, b, c, d]⟩ : Shape).Idx → EReal)
    (h : (⟨4, ![a, b, c, d]⟩ : Shape).Transposes [0, 2, 3, 1] ⟨4, ![a, c, d, b]⟩) (i j k l : ℕ) :
    at4 (transpose ⟨4, ![a, c, d, b]⟩ [0, 2, 3, 1] x h) i j k l = at4 x i l j k := by
  by_cases hh : i < a ∧ j < c ∧ k < d ∧ l < b
  · rw [at4_of _ hh.1 hh.2.1 hh.2.2.1 hh.2.2.2, at4_of x hh.1 hh.2.2.2 hh.2.1 hh.2.2.1]
    exact transpose_apply _ _ h _ _ fun b => by
      match b with
      | ⟨0, _⟩ => rfl
      | ⟨1, _⟩ => rfl
      | ⟨2, _⟩ => rfl
      | ⟨3, _⟩ => rfl
  · unfold at4; rw [dif_neg hh, dif_neg (by tauto)]

theorem swap_at {a b : ℕ} (x : (⟨2, ![a, b]⟩ : Shape).Idx → EReal) (h : (⟨2, ![a, b]⟩ : Shape).Transposes [1, 0] ⟨2, ![b, a]⟩) (i j : ℕ) :
    at2 (transpose ⟨2, ![b, a]⟩ [1, 0] x h) i j = at2 x j i := by
  by_cases hh : i < b ∧ j < a
  · rw [at2_of _ hh.1 hh.2, at2_of x hh.2 hh.1]
    exact transpose_apply _ _ h _ _ fun b => by
      match b with
      | ⟨0, _⟩ => rfl
      | ⟨1, _⟩ => rfl
  · unfold at2; rw [dif_neg hh, dif_neg (by tauto)]

/-- Pixels as rows. -/
theorem rows_at {n a b c N : ℕ} (x : (⟨4, ![n, a, b, c]⟩ : Shape).Idx → EReal)
    (h : (⟨4, ![n, a, b, c]⟩ : Shape).ShapeCasts ⟨2, ![N, c]⟩) (hN : N = n * a * b)
    (i j k l : ℕ) (hi : i < n) (hj : j < a) (hk : k < b) (hl : l < c) :
    at2 (shapeCast ⟨2, ![N, c]⟩ x h) ((i * a + j) * b + k) l = at4 x i j k l := by
  subst hN
  rw [at2_of _ (mul_add_lt (mul_add_lt hi hj) hk) hl, at4_of x hi hj hk hl]
  refine shapeCast_apply x h _ _ ?_
  rw [Shape.rowMajor_val_two, Shape.rowMajor_val_four]; rfl

/-- Rows as pixels. -/
theorem pixels_at {n a b c N : ℕ} (x : (⟨2, ![N, c]⟩ : Shape).Idx → EReal)
    (h : (⟨2, ![N, c]⟩ : Shape).ShapeCasts ⟨4, ![n, a, b, c]⟩) (hN : N = n * a * b)
    (i j k l : ℕ) (hi : i < n) (hj : j < a) (hk : k < b) (hl : l < c) :
    at4 (shapeCast ⟨4, ![n, a, b, c]⟩ x h) i j k l = at2 x ((i * a + j) * b + k) l := by
  subst hN
  rw [at2_of x (mul_add_lt (mul_add_lt hi hj) hk) hl, at4_of _ hi hj hk hl]
  refine shapeCast_apply x h _ _ ?_
  rw [Shape.rowMajor_val_two, Shape.rowMajor_val_four]; rfl

/-- The rows and columns of one parity, interleaved. -/
theorem interleave_at {n A B c A2 B2 C2 : ℕ} (x : (⟨5, ![n, A, 2, B, C2]⟩ : Shape).Idx → EReal)
    (h : (⟨5, ![n, A, 2, B, C2]⟩ : Shape).ShapeCasts ⟨4, ![n, A2, B2, c]⟩) (hA : A2 = A * 2) (hB : B2 = B * 2) (hC : C2 = 2 * c)
    (i I J r s ch : ℕ) (hi : i < n) (hI : I < A) (hJ : J < B) (hr : r < 2) (hs : s < 2) (hch : ch < c) :
    at4 (shapeCast ⟨4, ![n, A2, B2, c]⟩ x h) i (2 * I + r) (2 * J + s) ch = at5 x i I r J (s * c + ch) := by
  subst hA hB hC
  rw [at4_of _ hi (show 2 * I + r < A * 2 by omega) (show 2 * J + s < B * 2 by omega) hch, at5_of x hi hI hr hJ (mul_add_lt hs hch)]
  refine shapeCast_apply x h _ _ ?_
  rw [Shape.rowMajor_val_five, Shape.rowMajor_val_four]
  show (((i * A + I) * 2 + r) * B + J) * (2 * c) + (s * c + ch) = ((i * (A * 2) + (2 * I + r)) * (B * 2) + (2 * J + s)) * c + ch
  ring

end Cert.Proof
end
-- ==== Proof.Deconv.lean ====
/- The transposed convolution's kernel body at natural coordinates: its taps, and the block it stores, where the two
   column parities lie side by side along the channels. -/
module

public import proofs.«01_k».proof.Proof.Coord

@[expose] public section

noncomputable section

open scoped BigOperators

namespace Cert.Proof

open Idealize.ShloMosaic

/-- A 2x2 convolution of a padded array for the output parities `p` (row) and `s` (column), with its bias. -/
def deconvAt {a b c d e f g h i l m : ℕ} (x : (⟨4, ![a, b, c, d]⟩ : Shape).Idx → EReal)
    (w : (⟨5, ![e, f, g, h, i]⟩ : Shape).Idx → EReal) (v : (⟨2, ![l, m]⟩ : Shape).Idx → EReal) (n r p q s o : ℕ) : EReal :=
  (∑ u ∈ Finset.range 2, ∑ t ∈ Finset.range 2, ∑ k ∈ Finset.range d, at4 x n (u + p + r) (t + s + q) k * at5 w p s (2 * u + t) k o) + at2 v 0 o

section Tap
variable {R C K N : ℕ}

/-- One tap, its weight matrix taken out of a rank-five array. -/
theorem tap5_at {M : ℕ} (d : DotDims ⟨2, ![M, K]⟩ ⟨2, ![K, N]⟩ ⟨2, ![M, N]⟩)
    (prec : Option ContractPrecision)
    (x : (⟨4, ![1, R, C, K]⟩ : Shape).Idx → EReal) (w : (⟨5, ![1, 1, 1, K, N]⟩ : Shape).Idx → EReal)
    (h1 : (⟨4, ![1, R, C, K]⟩ : Shape).ShapeCasts ⟨3, ![R, C, K]⟩)
    (h2 : (⟨3, ![R, C, K]⟩ : Shape).ShapeCasts ⟨2, ![M, K]⟩)
    (h3 : (⟨5, ![1, 1, 1, K, N]⟩ : Shape).ShapeCasts ⟨2, ![K, N]⟩)
    (h4 : FTy.bf16.bits < FTy.f32.bits) (hM : M = R * C) (hd : d = DotDims.plain M K N)
    (r c o : ℕ) (hr : r < R) (hc : c < C) (ho : o < N) :
    at2 (matmul (F := Ideal) d prec (truncf .bf16 (shapeCast ⟨2, ![M, K]⟩ (shapeCast ⟨3, ![R, C, K]⟩ x h1) h2 : FVec Ideal _ .f32) h4)
      (truncf .bf16 (shapeCast ⟨2, ![K, N]⟩ w h3 : FVec Ideal _ .f32) h4) (constant ⟨2, ![M, N]⟩ .f32 0x00000000#32)) (r * C + c) o
      = ∑ k ∈ Finset.range K, at4 x 0 r c k * at5 w 0 0 0 k o := by
  subst hM
  subst hd
  have hR : r * C + c < R * C := by
    calc r * C + c < r * C + C := by omega
      _ = (r + 1) * C := by ring
      _ ≤ R * C := Nat.mul_le_mul_right _ hr
  rw [at2_of _ hR ho]
  refine (Ideal.matmul_plain_apply prec _ _ _ _ _).trans ?_
  rw [show (constant ⟨2, ![R * C, N]⟩ .f32 0x00000000#32 : FVec Ideal _ .f32) (ValueIdx.ix2 ⟨r * C + c, hR⟩ ⟨o, ho⟩) = (0 : EReal) from
    Ideal.ofBits_zero_f32, zero_add, Finset.sum_range]
  refine Finset.sum_congr rfl fun k _ => ?_
  rw [at4_of x Nat.one_pos hr hc k.isLt, at5_of w Nat.one_pos Nat.one_pos Nat.one_pos k.isLt ho]
  refine congrArg₂ (· * ·) ?_ ?_
  · refine (shapeCast_apply _ h2 _ (ValueIdx.ix3 ⟨r, hr⟩ ⟨c, hc⟩ k) ?_).trans (shapeCast_apply x h1 _ _ ?_)
    · rw [Shape.rowMajor_val_three, Shape.rowMajor_val_two]; rfl
    · rw [Shape.rowMajor_val_four, Shape.rowMajor_val_three]
      show ((0 * R + r) * C + c) * K + k.val = (r * C + c) * K + k.val
      rw [Nat.zero_mul, Nat.zero_add]
  · refine shapeCast_apply w h3 _ _ ?_
    rw [Shape.rowMajor_val_five, Shape.rowMajor_val_two]
    show (((0 * 1 + 0) * 1 + 0) * K + k.val) * N + o = k.val * N + o
    simp only [Nat.zero_mul, Nat.zero_add]

/-- The first `C'` columns of a flattened result of `R` rows of `C`. -/
theorem cut_at {M C' : ℕ} (y : (⟨2, ![M, N]⟩ : Shape).Idx → EReal)
    (h1 : (⟨2, ![M, N]⟩ : Shape).ShapeCasts ⟨3, ![R, C, N]⟩)
    (h2 : (⟨3, ![R, C, N]⟩ : Shape).Slices ![0, 0, 0] ⟨3, ![R, C', N]⟩) (hM : M = R * C)
    (r c o : ℕ) (hr : r < R) (hc : c < C') (ho : o < N) :
    at3 (extractStridedSlice ⟨3, ![R, C', N]⟩ ![0, 0, 0] (shapeCast ⟨3, ![R, C, N]⟩ y h1) h2) r c o = at2 y (r * C + c) o := by
  have hC : c < C := lt_of_lt_of_le hc (by have := h2.2 1; simpa using this)
  have hR : r * C + c < M := by
    subst hM
    calc r * C + c < r * C + C := by omega
      _ = (r + 1) * C := by ring
      _ ≤ R * C := Nat.mul_le_mul_right _ hr
  rw [at3_of _ hr hc ho, at2_of y hR ho]
  refine shapeCast_apply y h1 _ _ ?_
  rw [Shape.rowMajor_val_two, Shape.rowMajor_val_three]
  show (r * C + c) * N + o = ((0 + r) * C + (0 + c)) * N + (0 + o)
  simp only [Nat.zero_add]

/-- The stored block at an entry of its first half of channels. -/
theorem pairBlock_fst {C' N2 : ℕ} (y z : (⟨3, ![R, C', N]⟩ : Shape).Idx → EReal)
    (h : Shape.Concatenates (List.map Sigma.fst [(⟨⟨3, ![R, C', N]⟩, y⟩ : (s : Shape) × (s.Idx → EReal)), ⟨⟨3, ![R, C', N]⟩, z⟩]) ⟨3, ![R, C', N2]⟩ 2)
    (h3 : (⟨3, ![R, C', N2]⟩ : Shape).ShapeCasts ⟨5, ![1, R, 1, C', N2]⟩) (hN : N2 = 2 * N)
    (r c o : ℕ) (hr : r < R) (hc : c < C') (ho : o < N) :
    at5 (shapeCast ⟨5, ![1, R, 1, C', N2]⟩ (concatenate ⟨3, ![R, C', N2]⟩ 2 [⟨⟨3, ![R, C', N]⟩, y⟩, ⟨⟨3, ![R, C', N]⟩, z⟩] h) h3) 0 r 0 c (0 * N + o)
      = at3 y r c o := by
  rw [Nat.zero_mul, Nat.zero_add, at5_of _ Nat.one_pos hr Nat.one_pos hc (by omega : o < N2), at3_of y hr hc ho]
  refine (shapeCast_apply _ h3 _ (ValueIdx.ix3 ⟨r, hr⟩ ⟨c, hc⟩ ⟨o, by omega⟩) ?_).trans ?_
  · rw [Shape.rowMajor_val_five, Shape.rowMajor_val_three]
    show (r * C' + c) * N2 + o = (((0 * R + r) * 1 + 0) * C' + c) * N2 + o
    simp only [Nat.zero_mul, Nat.zero_add, Nat.mul_one, Nat.add_zero]
  · refine concatenate_apply_piece 2 _ h _ 0 (by simp) ⟨3, ![R, C', N]⟩ y rfl rfl 0 rfl
      (ValueIdx.ix3 ⟨r, hr⟩ ⟨c, hc⟩ ⟨o, ho⟩) (fun b hb => ?_) (Nat.zero_add _)
    match b with
    | ⟨0, _⟩ => rfl
    | ⟨1, _⟩ => rfl
    | ⟨2, _⟩ => exact absurd rfl hb

/-- The stored block at an entry of its second half of channels. -/
theorem pairBlock_snd {C' N2 : ℕ} (y z : (⟨3, ![R, C', N]⟩ : Shape).Idx → EReal)
    (h : Shape.Concatenates (List.map Sigma.fst [(⟨⟨3, ![R, C', N]⟩, y⟩ : (s : Shape) × (s.Idx → EReal)), ⟨⟨3, ![R, C', N]⟩, z⟩]) ⟨3, ![R, C', N2]⟩ 2)
    (h3 : (⟨3, ![R, C', N2]⟩ : Shape).ShapeCasts ⟨5, ![1, R, 1, C', N2]⟩) (hN : N2 = 2 * N)
    (r c o : ℕ) (hr : r < R) (hc : c < C') (ho : o < N) :
    at5 (shapeCast ⟨5, ![1, R, 1, C', N2]⟩ (concatenate ⟨3, ![R, C', N2]⟩ 2 [⟨⟨3, ![R, C', N]⟩, y⟩, ⟨⟨3, ![R, C', N]⟩, z⟩] h) h3) 0 r 0 c (1 * N + o)
      = at3 z r c o := by
  rw [Nat.one_mul, at5_of _ Nat.one_pos hr Nat.one_pos hc (by omega : N + o < N2), at3_of z hr hc ho]
  refine (shapeCast_apply _ h3 _ (ValueIdx.ix3 ⟨r, hr⟩ ⟨c, hc⟩ ⟨N + o, by omega⟩) ?_).trans ?_
  · rw [Shape.rowMajor_val_five, Shape.rowMajor_val_three]
    show (r * C' + c) * N2 + (N + o) = (((0 * R + r) * 1 + 0) * C' + c) * N2 + (N + o)
    simp only [Nat.zero_mul, Nat.zero_add, Nat.mul_one, Nat.add_zero]
  · refine concatenate_apply_piece 2 _ h _ 1 (by simp) ⟨3, ![R, C', N]⟩ z rfl rfl N (by simp)
      (ValueIdx.ix3 ⟨r, hr⟩ ⟨c, hc⟩ ⟨o, ho⟩) (fun b hb => ?_) rfl
    match b with
    | ⟨0, _⟩ => rfl
    | ⟨1, _⟩ => rfl
    | ⟨2, _⟩ => exact absurd rfl hb

variable {sig : RefSig}

/-- A load of one weight matrix out of a rank-five staging buffer that holds `x`. -/
theorem rd_at5 {n1 n2 : ℕ} (arg : Memref sig .tc .vmem ⟨5, ![1, n1, n2, K, N]⟩ .f32) (harg : arg.IsWhole)
    (x : Vec Ideal ⟨5, ![1, n1, n2, K, N]⟩ .f32) (s t : ℕ)
    (inb : ∀ a, (![0, s, t, 0, 0] : Fin 5 → ℕ) a + (![1, 1, 1, K, N] : Fin 5 → ℕ) a ≤ (⟨5, ![1, n1, n2, K, N]⟩ : Shape).size a) (k o : ℕ) :
    at5 (a := 1) (b := 1) (c := 1) (d := K) (e := N) (arg.view.readAt (Elt Ideal) (Rect.unit (s := ⟨5, ![1, n1, n2, K, N]⟩) ![0, s, t, 0, 0] ![1, 1, 1, K, N] inb).toLoadRect (harg.unread x)) 0 0 0 k o
      = at5 x 0 s t k o := by
  rw [View.readAt_eq_ld, harg.read_unread]
  have e1 : s + 1 ≤ n1 := inb 1
  have e2 : t + 1 ≤ n2 := inb 2
  by_cases hk : k < K ∧ o < N
  · rw [at5_of _ Nat.one_pos Nat.one_pos Nat.one_pos hk.1 hk.2, at5_of x Nat.one_pos (by omega : s < n1) (by omega : t < n2) hk.1 hk.2]
    refine View.ld_unit_apply_of _ _ _ _ _ _ fun a => ?_
    match a with
    | ⟨0, _⟩ => rfl
    | ⟨1, _⟩ => rfl
    | ⟨2, _⟩ => rfl
    | ⟨3, _⟩ => exact (Nat.zero_add k).symm
    | ⟨4, _⟩ => exact (Nat.zero_add o).symm
  · unfold at5; rw [dif_neg (by tauto), dif_neg (by tauto)]

end Tap
end Cert.Proof
end
-- ==== Proof.Nearest.lean ====
/- The nearest codeword: the smallest position at which a finite list of extended reals takes its least value, and the
   folds by which the kernel and the reference find it. -/
module

public import proofs.«01_k».proof.Proof.Coord

@[expose] public section

noncomputable section

open scoped BigOperators

namespace Cert.Proof

open Idealize.ShloMosaic

/-- The smallest position below `n` at which `f` is least. -/
def firstMin (n : ℕ) (f : ℕ → EReal) : ℕ := sInf {i | i < n ∧ ∀ c < n, f i ≤ f c}

section FirstMin
variable {n : ℕ} {f : ℕ → EReal}

theorem firstMin_mem (hn : 0 < n) : firstMin n f < n ∧ ∀ c < n, f (firstMin n f) ≤ f c := by
  refine Nat.sInf_mem (s := {i | i < n ∧ ∀ c < n, f i ≤ f c}) ?_
  obtain ⟨i, hi, hm⟩ := Finset.exists_min_image (Finset.range n) f ⟨0, Finset.mem_range.mpr hn⟩
  exact ⟨i, Finset.mem_range.mp hi, fun c hc => hm c (Finset.mem_range.mpr hc)⟩

theorem firstMin_lt (hn : 0 < n) : firstMin n f < n := (firstMin_mem hn).1

theorem firstMin_first {i : ℕ} (hi : i < n) (h : ∀ c < n, f i ≤ f c) : firstMin n f ≤ i := Nat.sInf_le ⟨hi, h⟩

theorem firstMin_eq {i : ℕ} (hi : i < n) (h : ∀ c < n, f i ≤ f c) (h' : ∀ c < i, f i < f c) : firstMin n f = i := by
  have hm := firstMin_mem (f := f) (Nat.zero_lt_of_lt hi)
  rcases (firstMin_first hi h).lt_or_eq with hl | he
  · exact absurd (hm.2 i hi) (not_le.mpr (h' _ hl))
  · exact he

theorem firstMin_congr {g : ℕ → EReal} (h : ∀ c < n, f c = g c) : firstMin n f = firstMin n g := by
  unfold firstMin
  congr 1; ext i
  constructor
  · rintro ⟨hi, hm⟩; exact ⟨hi, fun c hc => by rw [← h i hi, ← h c hc]; exact hm c hc⟩
  · rintro ⟨hi, hm⟩; exact ⟨hi, fun c hc => by rw [h i hi, h c hc]; exact hm c hc⟩

/-- The least value, folded from infinity. -/
theorem fold_min_eq (hn : 0 < n) :
    (Finset.univ : Finset (Fin n)).fold min (⊤ : EReal) (fun k => f k.val) = f (firstMin n f) := by
  have hm := firstMin_mem (f := f) hn
  refine le_antisymm ((Finset.fold_min_le _).mpr (Or.inr ⟨⟨_, hm.1⟩, Finset.mem_univ _, le_rfl⟩)) ?_
  exact (Finset.le_fold_min _).mpr ⟨le_top, fun k _ => hm.2 k.val k.isLt⟩

/-- The signed minimum reads as the minimum of the integers. -/
theorem minsi_toInt (x y : BitVec 32) : (IntOp.minsi x y).toInt = min x.toInt y.toInt := by
  unfold IntOp.minsi
  by_cases h : x.slt y
  · rw [if_pos h]; rw [BitVec.slt_iff_toInt_lt] at h; rw [min_eq_left h.le]
  · rw [if_neg h]; rw [BitVec.slt_iff_toInt_lt, not_lt] at h; rw [min_eq_right h]

theorem toInt_small {i : ℕ} (hi : i < 2 ^ 30) : (BitVec.ofNat 32 i).toInt = (i : ℤ) := by
  rw [BitVec.toInt_eq_toNat_of_lt (by rw [BitVec.toNat_ofNat, Nat.mod_eq_of_lt (by omega)]; omega), BitVec.toNat_ofNat,
    Nat.mod_eq_of_lt (by omega)]

/-- The smallest of the positions whose value is the least, the others replaced by a large word. -/
theorem fold_minsi_eq (hn : 0 < n) (hN : n < 2 ^ 30) (g : Fin n → BitVec 32)
    (hg : ∀ k : Fin n, g k = if f k.val = f (firstMin n f) then BitVec.ofNat 32 k.val else 1073741824#32) :
    (Finset.univ : Finset (Fin n)).fold IntOp.minsi 2147483647#32 g = BitVec.ofNat 32 (firstMin n f) := by
  have hm := firstMin_mem (f := f) hn
  have hv : (BitVec.ofNat 32 (firstMin n f)).toInt = (firstMin n f : ℤ) := toInt_small (hm.1.trans hN)
  have hlt : ((firstMin n f : ℕ) : ℤ) < 2 ^ 30 := by exact_mod_cast hm.1.trans hN
  refine BitVec.eq_of_toInt_eq ?_
  have hh := Finset.fold_hom (op := IntOp.minsi) (op' := min) (s := (Finset.univ : Finset (Fin n))) (b := 2147483647#32)
    (f := g) (m := BitVec.toInt) minsi_toInt
  rw [← hh, hv]
  refine le_antisymm ((Finset.fold_min_le _).mpr (Or.inr ⟨⟨_, hm.1⟩, Finset.mem_univ _, ?_⟩))
    ((Finset.le_fold_min _).mpr ⟨?_, fun k _ => ?_⟩)
  · rw [hg, if_pos rfl, hv]
  · have hb : (2147483647#32).toInt = 2147483647 := by decide
    exact hlt.le.trans (by rw [hb]; norm_num)
  · rw [hg]
    split
    · next he =>
      rw [toInt_small (k.isLt.trans hN)]
      exact_mod_cast firstMin_first k.isLt fun c hc => he ▸ hm.2 c hc
    · have hb : (1073741824#32).toInt = 1073741824 := by decide
      exact hlt.le.trans (by rw [hb]; norm_num)

end FirstMin

/-- Twice, as the two programs write it. -/
def two : EReal := Ideal.ofBits .f32 0x40000000#32

/-- The squared distance of row `r` of `z` from column `c` of `t`, expanded, each sum over the `K` features. -/
def distAt {a K b K' N : ℕ} (z : (⟨2, ![a, K]⟩ : Shape).Idx → EReal) (t : (⟨2, ![b, N]⟩ : Shape).Idx → EReal) (r c : ℕ) : EReal :=
  (∑ k ∈ Finset.range K', at2 z r k * at2 z r k + ∑ k ∈ Finset.range K', at2 t k c * at2 t k c)
    - two * ∑ k ∈ Finset.range K', at2 z r k * at2 t k c

/-- A row of zeros with a single one picks a row of the codebook. -/
theorem pick_at {N O : ℕ} (cb : (⟨2, ![N, O]⟩ : Shape).Idx → EReal) (m o : ℕ) (hm : m < N) (ho : o < O) (g : Fin N → EReal)
    (hg : ∀ k : Fin N, g k = if k.val = m then 1 else 0) :
    ∑ k : Fin N, g k * cb (ValueIdx.ix2 k ⟨o, ho⟩) = at2 cb m o := by
  rw [Finset.sum_eq_single (⟨m, hm⟩ : Fin N), hg, if_pos rfl, one_mul, at2_of cb hm ho]
  · intro k _ hk
    rw [hg, if_neg (fun h => hk (Fin.ext h)), zero_mul]
  · intro h; exact absurd (Finset.mem_univ _) h

theorem infinity_eq : Ideal.ofBits .f32 0x7F800000#32 = ⊤ := by simp [Ideal.ofBits, Ideal.ieee]

end Cert.Proof
end
-- ==== Proof.Spec.lean ====
/- The layers of the network over natural coordinates (example, channel, row, column), zero outside their extents, and each
   convolution of the kernel read as such a layer. -/
module

public import proofs.«01_k».proof.Proof.Layout
public import proofs.«01_k».proof.Proof.Deconv
public import proofs.«01_k».proof.Proof.Nearest

@[expose] public section

noncomputable section

open scoped BigOperators

namespace Cert.Proof

open Idealize.ShloMosaic

/-- An array with its border of one row and one column of zeros before the first. -/
def padF (X : ℕ → ℕ → ℕ → ℕ → EReal) (n c i j : ℕ) : EReal := if 1 ≤ i ∧ 1 ≤ j then X n c (i - 1) (j - 1) else 0

/-- The convolution with a 4x4 kernel and stride 2. -/
def convS2 (C : ℕ) (X W : ℕ → ℕ → ℕ → ℕ → EReal) (B : ℕ → EReal) (n o i j : ℕ) : EReal :=
  (∑ u ∈ Finset.range 4, ∑ t ∈ Finset.range 4, ∑ k ∈ Finset.range C, padF X n k (2 * i + u) (2 * j + t) * W o k u t) + B o

/-- The convolution with a 3x3 kernel. -/
def conv3 (C : ℕ) (X W : ℕ → ℕ → ℕ → ℕ → EReal) (B : ℕ → EReal) (n o i j : ℕ) : EReal :=
  (∑ u ∈ Finset.range 3, ∑ t ∈ Finset.range 3, ∑ k ∈ Finset.range C, padF X n k (i + u) (j + t) * W o k u t) + B o

/-- The transposed convolution with a 4x4 kernel and stride 2: the taps that meet an element of the spread out array. -/
def deconv (C : ℕ) (X W : ℕ → ℕ → ℕ → ℕ → EReal) (B : ℕ → EReal) (n o i j : ℕ) : EReal :=
  (∑ u ∈ Finset.range 2, ∑ t ∈ Finset.range 2, ∑ k ∈ Finset.range C,
    padF X n k (i / 2 + u + i % 2) (j / 2 + t + j % 2) * W o k (2 * u + i % 2) (2 * t + j % 2)) + B o

/-- A layer on its extents, zero outside. -/
def clip (a b c d : ℕ) (f : ℕ → ℕ → ℕ → ℕ → EReal) (n o i j : ℕ) : EReal := if n < a ∧ o < b ∧ i < c ∧ j < d then f n o i j else 0

def relu (f : ℕ → ℕ → ℕ → ℕ → EReal) (n o i j : ℕ) : EReal := max (f n o i j) 0

/-- The distance of a pixel to a codebook row, as both programs expand the square. -/
def distF (E : ℕ → ℕ → ℕ → ℕ → EReal) (CB : ℕ → ℕ → EReal) (n i j c : ℕ) : EReal :=
  (∑ k ∈ Finset.range 256, E n k i j * E n k i j) + (∑ k ∈ Finset.range 256, CB c k * CB c k)
    - two * ∑ k ∈ Finset.range 256, E n k i j * CB c k

/-- Each pixel's nearest codebook row. -/
def quant (E : ℕ → ℕ → ℕ → ℕ → EReal) (CB : ℕ → ℕ → EReal) (n o i j : ℕ) : EReal := CB (firstMin 1024 (distF E CB n i j)) o

theorem conv2At_eq {a b c d e f g h i K : ℕ} (C : ℕ) {x : (⟨4, ![a, b, c, d]⟩ : Shape).Idx → EReal} {w : (⟨3, ![e, f, g]⟩ : Shape).Idx → EReal}
    {v : (⟨2, ![h, i]⟩ : Shape).Idx → EReal} {X W : ℕ → ℕ → ℕ → ℕ → EReal} {B : ℕ → EReal} {n r q o : ℕ} (hd : d = 2 * 2 * C + K)
    (hx : ∀ s t p p' k, s < 2 → t < 2 → p < 2 → p' < 2 → k < C →
      at4 x n (s + r) (t + q) ((p * 2 + p') * C + k) = padF X n k (2 * (s + r) + p) (2 * (t + q) + p'))
    (hx0 : ∀ s t k, s < 2 → t < 2 → 2 * 2 * C ≤ k → k < d → at4 x n (s + r) (t + q) k = 0)
    (hw : ∀ s t p p' k, s < 2 → t < 2 → p < 2 → p' < 2 → k < C →
      at3 w (2 * s + t) ((p * 2 + p') * C + k) o = W o k (2 * s + p) (2 * t + p'))
    (hv : at2 v 0 o = B o) :
    conv2At x w v n r q o = convS2 C X W B n o r q := by
  subst hd
  unfold conv2At convS2
  rw [hv]
  congr 1
  have hin : ∀ s < 2, ∀ t < 2, (∑ k ∈ Finset.range (2 * 2 * C + K), at4 x n (s + r) (t + q) k * at3 w (2 * s + t) k o)
      = ∑ p ∈ Finset.range 2, ∑ p' ∈ Finset.range 2, ∑ k ∈ Finset.range C,
          padF X n k (2 * r + (s * 2 + p)) (2 * q + (t * 2 + p')) * W o k (s * 2 + p) (t * 2 + p') := by
    intro s hs t ht
    rw [Finset.sum_range_add, Finset.sum_eq_zero (s := Finset.range K) fun k hk => by
      rw [hx0 s t _ hs ht (Nat.le_add_right _ _) (by have := Finset.mem_range.mp hk; omega), zero_mul], add_zero,
      sum_range_mul (2 * 2) C, sum_range_mul 2 2]
    refine Finset.sum_congr rfl fun p hp => Finset.sum_congr rfl fun p' hp' => Finset.sum_congr rfl fun k hk => ?_
    have h1 := Finset.mem_range.mp hp
    have h2 := Finset.mem_range.mp hp'
    have h3 := Finset.mem_range.mp hk
    rw [hx s t p p' k hs ht h1 h2 h3, hw s t p p' k hs ht h1 h2 h3]
    rw [show 2 * (s + r) + p = 2 * r + (s * 2 + p) by ring, show 2 * (t + q) + p' = 2 * q + (t * 2 + p') by ring,
      show 2 * s + p = s * 2 + p by ring, show 2 * t + p' = t * 2 + p' by ring]
  rw [Finset.sum_congr rfl fun s hs => Finset.sum_congr rfl fun t ht => hin s (Finset.mem_range.mp hs) t (Finset.mem_range.mp ht)]
  rw [show (4 : ℕ) = 2 * 2 from rfl, sum_range_mul 2 2]
  refine Finset.sum_congr rfl fun s _ => ?_
  rw [Finset.sum_comm]
  refine Finset.sum_congr rfl fun p _ => ?_
  rw [sum_range_mul 2 2]

theorem conv3At_eq {a b c d e f g h i : ℕ} {x : (⟨4, ![a, b, c, d]⟩ : Shape).Idx → EReal} {w : (⟨3, ![e, f, g]⟩ : Shape).Idx → EReal}
    {v : (⟨2, ![h, i]⟩ : Shape).Idx → EReal} {X W : ℕ → ℕ → ℕ → ℕ → EReal} {B : ℕ → EReal} {n r q o : ℕ}
    (hx : ∀ s t k, s < 3 → t < 3 → k < d → at4 x n (s + r) (t + q) k = padF X n k (s + r) (t + q))
    (hw : ∀ s t k, s < 3 → t < 3 → k < d → at3 w (3 * s + t) k o = W o k s t)
    (hv : at2 v 0 o = B o) :
    conv3At x w v n r q o = conv3 d X W B n o r q := by
  unfold conv3At conv3
  rw [hv]
  congr 1
  refine Finset.sum_congr rfl fun s hs => Finset.sum_congr rfl fun t ht => Finset.sum_congr rfl fun k hk => ?_
  rw [hx s t k (Finset.mem_range.mp hs) (Finset.mem_range.mp ht) (Finset.mem_range.mp hk),
    hw s t k (Finset.mem_range.mp hs) (Finset.mem_range.mp ht) (Finset.mem_range.mp hk), Nat.add_comm s, Nat.add_comm t]

theorem deconvAt_eq {a b c d e f g h i l m : ℕ} {x : (⟨4, ![a, b, c, d]⟩ : Shape).Idx → EReal}
    {w : (⟨5, ![e, f, g, h, i]⟩ : Shape).Idx → EReal} {v : (⟨2, ![l, m]⟩ : Shape).Idx → EReal}
    {X W : ℕ → ℕ → ℕ → ℕ → EReal} {B : ℕ → EReal} {n I J r s o : ℕ} (hr : r < 2) (hs : s < 2)
    (hx : ∀ u t k, u < 2 → t < 2 → k < d → at4 x n (u + r + I) (t + s + J) k = padF X n k (u + r + I) (t + s + J))
    (hw : ∀ u t k, u < 2 → t < 2 → k < d → at5 w r s (2 * u + t) k o = W o k (2 * u + r) (2 * t + s))
    (hv : at2 v 0 o = B o) :
    deconvAt x w v n I r J s o = deconv d X W B n o (2 * I + r) (2 * J + s) := by
  unfold deconvAt deconv
  rw [hv, show (2 * I + r) / 2 = I by omega, show (2 * I + r) % 2 = r by omega, show (2 * J + s) / 2 = J by omega,
    show (2 * J + s) % 2 = s by omega]
  congr 1
  refine Finset.sum_congr rfl fun u hu => Finset.sum_congr rfl fun t ht => Finset.sum_congr rfl fun k hk => ?_
  have h1 := hx u t k (Finset.mem_range.mp hu) (Finset.mem_range.mp ht) (Finset.mem_range.mp hk)
  have h2 := hw u t k (Finset.mem_range.mp hu) (Finset.mem_range.mp ht) (Finset.mem_range.mp hk)
  rw [h1, h2, show u + r + I = I + u + r by ring, show t + s + J = J + t + s by ring]

/-- A border of zeros read at every coordinate: one row and one column before, any number after. -/
theorem border_at {a b c d b' c' h1 h2 : ℕ} {x : (⟨4, ![a, b, c, d]⟩ : Shape).Idx → EReal} {u : Shape}
    {v : u.Idx → EReal} (hv : ∀ i, v i = 0) {X : ℕ → ℕ → ℕ → ℕ → EReal}
    (h : (⟨4, ![a, b, c, d]⟩ : Shape).Pads ![0, 1, 1, 0] ![0, h1, h2, 0] ![0, 0, 0, 0] ⟨4, ![a, b', c', d]⟩) (hu : 0 < u.numel)
    (hX : ∀ n i j k, at4 x n i j k = X n k i j)
    {i j k l : ℕ} (hi : i < a) (hj : j < b') (hk : k < c') (hl : l < d) :
    at4 (pad ⟨4, ![a, b', c', d]⟩ ![0, 1, 1, 0] ![0, h1, h2, 0] ![0, 0, 0, 0] x v h hu) i j k l = padF X i l j k := by
  rw [pad4_at x v hv h hu i j k l hi hj hk hl]
  unfold padF
  simp only [Nat.zero_le, Nat.mod_one, Nat.zero_add, Nat.div_one, Nat.sub_zero, and_true, true_and]
  by_cases hc : 1 ≤ j ∧ 1 ≤ k
  · rw [if_pos hc, if_pos hc, hX]
  · rw [if_neg hc, if_neg hc]

/-- Zeros after the last column or channel change nothing. -/
theorem tail_at {a b c d c' d' h2 h3 : ℕ} {x : (⟨4, ![a, b, c, d]⟩ : Shape).Idx → EReal} {u : Shape}
    {v : u.Idx → EReal} (hv : ∀ i, v i = 0)
    (h : (⟨4, ![a, b, c, d]⟩ : Shape).Pads ![0, 0, 0, 0] ![0, 0, h2, h3] ![0, 0, 0, 0] ⟨4, ![a, b, c', d']⟩) (hu : 0 < u.numel)
    {i j k l : ℕ} (hi : i < a) (hj : j < b) (hk : k < c') (hl : l < d') :
    at4 (pad ⟨4, ![a, b, c', d']⟩ ![0, 0, 0, 0] ![0, 0, h2, h3] ![0, 0, 0, 0] x v h hu) i j k l = at4 x i j k l := by
  rw [pad4_at x v hv h hu i j k l hi hj hk hl]
  simp only [Nat.zero_le, Nat.mod_one, Nat.zero_add, Nat.div_one, Nat.sub_zero, and_true, true_and, if_true]

/-- An array whose in-range elements are a layer's is that layer everywhere. -/
theorem at4_clip {a b c d : ℕ} {x : (⟨4, ![a, b, c, d]⟩ : Shape).Idx → EReal} {f : ℕ → ℕ → ℕ → ℕ → EReal}
    (h : ∀ n i j o, n < a → i < b → j < c → o < d → at4 x n i j o = f n o i j) (n i j o : ℕ) : at4 x n i j o = clip a d b c f n o i j := by
  unfold clip
  by_cases hh : n < a ∧ o < d ∧ i < b ∧ j < c
  · rw [if_pos hh, h n i j o hh.1 hh.2.2.1 hh.2.2.2 hh.2.1]
  · rw [if_neg hh]
    exact dif_neg (by tauto)

theorem at4_clip' {a b c d : ℕ} {x : (⟨4, ![a, b, c, d]⟩ : Shape).Idx → EReal} {f : ℕ → ℕ → ℕ → ℕ → EReal}
    (h : ∀ n o i j, n < a → o < b → i < c → j < d → at4 x n o i j = f n o i j) (n o i j : ℕ) : at4 x n o i j = clip a b c d f n o i j := by
  unfold clip
  by_cases hh : n < a ∧ o < b ∧ i < c ∧ j < d
  · rw [if_pos hh, h n o i j hh.1 hh.2.1 hh.2.2.1 hh.2.2.2]
  · rw [if_neg hh]
    exact dif_neg hh

/-- The padding value: the integer zero as a float. -/
theorem zeroPad (i : (⟨0, ![]⟩ : Shape).Idx) : (sitofp .f32 (constantI ⟨0, ![]⟩ 32 0#32) : FVec Ideal ⟨0, ![]⟩ .f32) i = 0 := by
  show ((((0#32 : BitVec 32).toInt : ℝ)) : EReal) = 0
  simp

/-- The network's layers, from the arguments at natural coordinates. -/
def L1 (A W : ℕ → ℕ → ℕ → ℕ → EReal) (B : ℕ → EReal) := clip 8 128 112 112 (relu (convS2 3 A W B))
def L2 (A W : ℕ → ℕ → ℕ → ℕ → EReal) (B : ℕ → EReal) := clip 8 256 56 56 (relu (convS2 128 A W B))
def L3 (A W : ℕ → ℕ → ℕ → ℕ → EReal) (B : ℕ → EReal) := clip 8 256 56 56 (conv3 256 A W B)
def LQ (E : ℕ → ℕ → ℕ → ℕ → EReal) (CB : ℕ → ℕ → EReal) := clip 8 256 56 56 (quant E CB)
def L4 (A W : ℕ → ℕ → ℕ → ℕ → EReal) (B : ℕ → EReal) := clip 8 256 56 56 (relu (conv3 256 A W B))
def L5 (A W : ℕ → ℕ → ℕ → ℕ → EReal) (B : ℕ → EReal) := clip 8 128 112 112 (relu (deconv 256 A W B))
def L6 (A W : ℕ → ℕ → ℕ → ℕ → EReal) (B : ℕ → EReal) := clip 8 3 224 224 (deconv 128 A W B)

end Cert.Proof
end
-- ==== Proof.Region0.lean ====
/- The first pallas_call (the first strided convolution of the encoder), read as a formula of its operand arrays. -/
module

public import proofs.«01_k».proof.Proof.Coord
public import proofs.«01_k».proof.Proof.Gen.KernelIdeal.Frame.Region0

@[expose] public section

set_option maxRecDepth 16384

noncomputable section

open scoped BigOperators

namespace Cert.KernelIdeal.Gen

open Idealize.ShloMosaic Idealize.ShloMosaic.TcCoe Idealize.ShloMosaic.Tactic
open Cert.Proof

/-- The body's arithmetic on the values it loads: four taps added in order, plus the bias, cut off at zero. -/
theorem pay0_at (a0 a1 a2 a3 : Vec Ideal S1x28x120x128 .f32) (w0 w1 w2 w3 : Vec Ideal S1x128x128 .f32)
    (b : Vec Ideal S1x128 .f32) (r q o : ℕ) (hr : r < 28) (hq : q < 112) (ho : o < 128) :
    at4 (k0_pay1 (k0_pay2 a0 w0 a1 w1) (k0_pay3 w2) (k0_pay4 a2) a3 w3 b) 0 r q o
      = max (∑ k ∈ Finset.range 128, at4 a0 0 r q k * at3 w0 0 k o
        + ∑ k ∈ Finset.range 128, at4 a1 0 r q k * at3 w1 0 k o
        + ∑ k ∈ Finset.range 128, at4 a2 0 r q k * at3 w2 0 k o
        + ∑ k ∈ Finset.range 128, at4 a3 0 r q k * at3 w3 0 k o
        + at2 b 0 o) 0 := by
  have hq' : q < 120 := by omega
  have hrow : r * 120 + q < 3360 := by omega
  unfold k0_pay1 k0_pay2 k0_pay3 k0_pay4
  dsimp only
  rw [outBlock_at (R := 28) (C := 120) _ _ _ _ r q o hr hq ho]
  simp only [relu_at2, addf_at2, biasRow_at _ _ _ _ _ hrow]
  simp only [tap_at (R := 28) (C := 120) dot_S3360x128_S128x128_S3360x128_1_0_0_1_n_n _ _ _ _ _ _ _ rfl rfl r q o hr hq' ho]

/-- The four taps of the block's entry at row `r`, column `q`, channel `o`, added in the kernel's order. -/
theorem out0_at (c : Dev nD) (i : grid0.Coords) (arg2 : Memref sig .tc .vmem S1x113x128x128 .f32) (harg2 : arg2.IsWhole) (arg3 : Memref sig .tc .vmem S4x128x128 .f32) (harg3 : arg3.IsWhole) (arg4 : Memref sig .tc .vmem S1x128 .f32) (harg4 : arg4.IsWhole) (arg5 : Memref sig .tc .vmem S1x28x112x128 .f32) (harg5 : arg5.IsWhole)
    (x0 : Vec Ideal S1x113x128x128 .f32) (x1 : Vec Ideal S4x128x128 .f32) (x2 : Vec Ideal S1x128 .f32)
    (r q o : ℕ) (hr : r < 28) (hq : q < 112) (ho : o < 128) :
    at4 (out0_A_3 c i arg2 harg2 arg3 harg3 arg4 harg4 arg5 harg5 x0 x1 x2) 0 r q o
      = max ((∑ d ∈ Finset.range 2, ∑ e ∈ Finset.range 2, ∑ k ∈ Finset.range 128,
          at4 x0 0 (28 * (i 1).val + d + r) (e + q) k * at3 x1 (2 * d + e) k o) + at2 x2 0 o) 0 := by
  have hq' : q < 120 := by omega
  have hi : (i 1).val < 4 := (i 1).isLt
  unfold out0_A_3
  rw [View.read_writes_eq_canon _ _ _ (cover0_A_3 c i arg2 harg2 arg3 harg3 arg4 harg4 arg5 harg5 x0 x1 x2)]
  unfold kernelRun0_A
  dsimp only
  rw [View.canon_unit_zero (S := S1x28x112x128) (off := ![0, 0, 0, 0]) (by funext a; fin_cases a <;> rfl)]
  refine (pay0_at _ _ _ _ _ _ _ _ _ r q o hr hq ho).trans ?_
  simp only [rd_at4 arg2 harg2 x0 (k0_off1 i 0#32) (k0_off1_eq i 0) _ r q _ hr hq', rd_at4 arg2 harg2 x0 (k0_off1 i 1#32) (k0_off1_eq i 1) _ r q _ hr hq',
    rd_at4 arg2 harg2 x0 (k0_off2 i 0#32) (k0_off2_eq i 0) _ r q _ hr hq', rd_at4 arg2 harg2 x0 (k0_off2 i 1#32) (k0_off2_eq i 1) _ r q _ hr hq', rd_at3, rd_at2]
  simp only [Finset.sum_range_succ _ 1, Finset.sum_range_succ _ 0, Finset.sum_range_zero, zero_add, add_assoc, Nat.mul_zero, Nat.mul_one, Nat.zero_add, Nat.add_zero]
  simp only [Fin.val_zero, Fin.val_one, Nat.zero_add, Nat.reduceMul, Nat.reduceAdd]

section Array
variable (V : (c : Dev nD) → (b : Ref sig .tc) → Buf (Elt Ideal) ((c : Thread nD τ).loc b))

theorem blk0_0 (c : Dev nD) (t : Fin cfg0.N) (r q k : ℕ) :
    at4 (a := 1) (b := 113) (c := 128) (d := 128) (iblk0 (F := Ideal) V c 0 t) 0 r q k
      = at4 (a := 8) (b := 113) (c := 128) (d := 128) (V c main_v9) (grid0.coords t 0).val r q k := by
  have e : ∀ t : Fin cfg0.N, win0_0.index t = ![(grid0.coords t 0).val, 0, 0, 0] := (by decide +kernel : ∀ t : Fin grid0.N, _)
  have ht : (grid0.coords t 0).val < 8 := (grid0.coords t 0).isLt
  unfold at4
  by_cases h : r < 113 ∧ q < 128 ∧ k < 128
  · rw [dif_pos ⟨Nat.one_pos, h⟩, dif_pos ⟨ht, h⟩]
    blk_simp [iblk0]
    refine congrArg (V c main_v9) ?_
    blk_ext [e]
  · rw [dif_neg (fun h' => h h'.2), dif_neg (fun h' => h h'.2)]

theorem blk0_1 (c : Dev nD) (t : Fin cfg0.N) : iblk0 (F := Ideal) V c 1 t = V c main_v10 := by
  have e : ∀ t : Fin cfg0.N, win0_1.index t = ![0, 0, 0] := (by decide +kernel : ∀ t : Fin grid0.N, _)
  funext x
  blk_simp [iblk0]
  refine congrArg (V c main_v10) ?_
  blk_ext [e]

theorem blk0_2 (c : Dev nD) (t : Fin cfg0.N) : iblk0 (F := Ideal) V c 2 t = V c main_v11 := by
  have e : ∀ t : Fin cfg0.N, win0_2.index t = ![0, 0] := (by decide +kernel : ∀ t : Fin grid0.N, _)
  funext x
  blk_simp [iblk0]
  refine congrArg (V c main_v11) ?_
  blk_ext [e]

/-- The array the first pallas_call leaves. -/
theorem arr0 (c : Dev nD) : (dat0 (F := Ideal) V c).arrAt 3 cfg0.N
    = fun j => max (conv2At (a := 8) (b := 113) (c := 128) (d := 128) (e := 4) (f := 128) (g := 128) (h := 1) (i := 128)
        (V c main_v9) (V c main_v10) (V c main_v11) (j 0).val (j 1).val (j 2).val (j 3).val) 0 := by
  refine (dat0 V c).arrAt_eq_of_covers 3 _ (by decide +kernel) fun t hf y => ?_
  have e : ∀ t : Fin cfg0.N, win0_3.index t = ![(grid0.coords t 0).val, (grid0.coords t 1).val, 0, 0] := (by decide +kernel : ∀ t : Fin grid0.N, _)
  have h0 : (y 0).val = 0 := Nat.lt_one_iff.mp (y 0).isLt
  blk_simp [e]
  rw [after0_3]
  unfold outsAt0
  refine (at4_ix (a := 1) (b := 28) (c := 112) (d := 128) _ y).trans ?_
  rw [h0, out0_at c _ _ _ _ _ _ _ _ _ _ _ _ _ _ _ (y 1).isLt (y 2).isLt (y 3).isLt]
  simp only [blk0_0, blk0_1, blk0_2]
  unfold conv2At
  refine congrArg (fun z => max (z + _) 0) (Finset.sum_congr rfl fun s _ => Finset.sum_congr rfl fun u _ => Finset.sum_congr rfl fun k _ => ?_)
  rw [show 28 * (grid0.coords t 1).val + s + (y 1).val = s + ((grid0.coords t 1).val * 28 + (y 1).val) by omega]
end Array

end Cert.KernelIdeal.Gen
end
-- ==== Proof.Region1.lean ====
/- The second pallas_call (the second strided convolution of the encoder), read as a formula of its operand arrays. -/
module

public import proofs.«01_k».proof.Proof.Coord
public import proofs.«01_k».proof.Proof.Gen.KernelIdeal.Frame.Region1

@[expose] public section

set_option maxRecDepth 16384

noncomputable section

open scoped BigOperators

namespace Cert.KernelIdeal.Gen

open Idealize.ShloMosaic Idealize.ShloMosaic.TcCoe Idealize.ShloMosaic.Tactic
open Cert.Proof

/-- The body's arithmetic on the values it loads: four taps added in order, plus the bias, cut off at zero. -/
theorem pay1_at (a0 a1 a2 a3 : Vec Ideal S1x28x64x512 .f32) (w0 w1 w2 w3 : Vec Ideal S1x512x256 .f32)
    (b : Vec Ideal S1x256 .f32) (r q o : ℕ) (hr : r < 28) (hq : q < 56) (ho : o < 256) :
    at4 (k1_pay1 (k1_pay2 a0 w0 a1 w1) (k1_pay3 w2) (k1_pay4 a2) a3 w3 b) 0 r q o
      = max (∑ k ∈ Finset.range 512, at4 a0 0 r q k * at3 w0 0 k o
        + ∑ k ∈ Finset.range 512, at4 a1 0 r q k * at3 w1 0 k o
        + ∑ k ∈ Finset.range 512, at4 a2 0 r q k * at3 w2 0 k o
        + ∑ k ∈ Finset.range 512, at4 a3 0 r q k * at3 w3 0 k o
        + at2 b 0 o) 0 := by
  have hq' : q < 64 := by omega
  have hrow : r * 64 + q < 1792 := by omega
  unfold k1_pay1 k1_pay2 k1_pay3 k1_pay4
  dsimp only
  rw [outBlock_at (R := 28) (C := 64) _ _ _ _ r q o hr hq ho]
  simp only [relu_at2, addf_at2, biasRow_at _ _ _ _ _ hrow]
  simp only [tap_at (R := 28) (C := 64) dot_S1792x512_S512x256_S1792x256_1_0_0_1_n_n _ _ _ _ _ _ _ rfl rfl r q o hr hq' ho]

/-- The four taps of the block's entry at row `r`, column `q`, channel `o`, added in the kernel's order. -/
theorem out1_at (c : Dev nD) (i : grid1.Coords) (arg2 : Memref sig .tc .vmem S1x57x72x512 .f32) (harg2 : arg2.IsWhole) (arg3 : Memref sig .tc .vmem S4x512x256 .f32) (harg3 : arg3.IsWhole) (arg4 : Memref sig .tc .vmem S1x256 .f32) (harg4 : arg4.IsWhole) (arg5 : Memref sig .tc .vmem S1x28x56x256 .f32) (harg5 : arg5.IsWhole)
    (x0 : Vec Ideal S1x57x72x512 .f32) (x1 : Vec Ideal S4x512x256 .f32) (x2 : Vec Ideal S1x256 .f32)
    (r q o : ℕ) (hr : r < 28) (hq : q < 56) (ho : o < 256) :
    at4 (out1_A_3 c i arg2 harg2 arg3 harg3 arg4 harg4 arg5 harg5 x0 x1 x2) 0 r q o
      = max ((∑ d ∈ Finset.range 2, ∑ e ∈ Finset.range 2, ∑ k ∈ Finset.range 512,
          at4 x0 0 (28 * (i 1).val + d + r) (e + q) k * at3 x1 (2 * d + e) k o) + at2 x2 0 o) 0 := by
  have hq' : q < 64 := by omega
  have hi : (i 1).val < 2 := (i 1).isLt
  unfold out1_A_3
  rw [View.read_writes_eq_canon _ _ _ (cover1_A_3 c i arg2 harg2 arg3 harg3 arg4 harg4 arg5 harg5 x0 x1 x2)]
  unfold kernelRun1_A
  dsimp only
  rw [View.canon_unit_zero (S := S1x28x56x256) (off := ![0, 0, 0, 0]) (by funext a; fin_cases a <;> rfl)]
  refine (pay1_at _ _ _ _ _ _ _ _ _ r q o hr hq ho).trans ?_
  simp only [rd_at4 arg2 harg2 x0 (k1_off1 i 0#32) (k1_off1_eq i 0) _ r q _ hr hq', rd_at4 arg2 harg2 x0 (k1_off1 i 1#32) (k1_off1_eq i 1) _ r q _ hr hq',
    rd_at4 arg2 harg2 x0 (k1_off2 i 0#32) (k1_off2_eq i 0) _ r q _ hr hq', rd_at4 arg2 harg2 x0 (k1_off2 i 1#32) (k1_off2_eq i 1) _ r q _ hr hq', rd_at3, rd_at2]
  simp only [Finset.sum_range_succ _ 1, Finset.sum_range_succ _ 0, Finset.sum_range_zero, zero_add, add_assoc, Nat.mul_zero, Nat.mul_one, Nat.zero_add, Nat.add_zero]
  simp only [Fin.val_zero, Fin.val_one, Nat.zero_add, Nat.reduceMul, Nat.reduceAdd]

section Array
variable (V : (c : Dev nD) → (b : Ref sig .tc) → Buf (Elt Ideal) ((c : Thread nD τ).loc b))

theorem blk1_0 (c : Dev nD) (t : Fin cfg1.N) (r q k : ℕ) :
    at4 (a := 1) (b := 57) (c := 72) (d := 512) (iblk1 (F := Ideal) V c 0 t) 0 r q k
      = at4 (a := 8) (b := 57) (c := 72) (d := 512) (V c main_v17) (grid1.coords t 0).val r q k := by
  have e : ∀ t : Fin cfg1.N, win1_0.index t = ![(grid1.coords t 0).val, 0, 0, 0] := (by decide +kernel : ∀ t : Fin grid1.N, _)
  have ht : (grid1.coords t 0).val < 8 := (grid1.coords t 0).isLt
  unfold at4
  by_cases h : r < 57 ∧ q < 72 ∧ k < 512
  · rw [dif_pos ⟨Nat.one_pos, h⟩, dif_pos ⟨ht, h⟩]
    blk_simp [iblk1]
    refine congrArg (V c main_v17) ?_
    blk_ext [e]
  · rw [dif_neg (fun h' => h h'.2), dif_neg (fun h' => h h'.2)]

theorem blk1_1 (c : Dev nD) (t : Fin cfg1.N) : iblk1 (F := Ideal) V c 1 t = V c main_v20 := by
  have e : ∀ t : Fin cfg1.N, win1_1.index t = ![0, 0, 0] := (by decide +kernel : ∀ t : Fin grid1.N, _)
  funext x
  blk_simp [iblk1]
  refine congrArg (V c main_v20) ?_
  blk_ext [e]

theorem blk1_2 (c : Dev nD) (t : Fin cfg1.N) : iblk1 (F := Ideal) V c 2 t = V c main_v21 := by
  have e : ∀ t : Fin cfg1.N, win1_2.index t = ![0, 0] := (by decide +kernel : ∀ t : Fin grid1.N, _)
  funext x
  blk_simp [iblk1]
  refine congrArg (V c main_v21) ?_
  blk_ext [e]

/-- The array the second pallas_call leaves. -/
theorem arr1 (c : Dev nD) : (dat1 (F := Ideal) V c).arrAt 3 cfg1.N
    = fun j => max (conv2At (a := 8) (b := 57) (c := 72) (d := 512) (e := 4) (f := 512) (g := 256) (h := 1) (i := 256)
        (V c main_v17) (V c main_v20) (V c main_v21) (j 0).val (j 1).val (j 2).val (j 3).val) 0 := by
  refine (dat1 V c).arrAt_eq_of_covers 3 _ (by decide +kernel) fun t hf y => ?_
  have e : ∀ t : Fin cfg1.N, win1_3.index t = ![(grid1.coords t 0).val, (grid1.coords t 1).val, 0, 0] := (by decide +kernel : ∀ t : Fin grid1.N, _)
  have h0 : (y 0).val = 0 := Nat.lt_one_iff.mp (y 0).isLt
  blk_simp [e]
  rw [after1_3]
  unfold outsAt1
  refine (at4_ix (a := 1) (b := 28) (c := 56) (d := 256) _ y).trans ?_
  rw [h0, out1_at c _ _ _ _ _ _ _ _ _ _ _ _ _ _ _ (y 1).isLt (y 2).isLt (y 3).isLt]
  simp only [blk1_0, blk1_1, blk1_2]
  unfold conv2At
  refine congrArg (fun z => max (z + _) 0) (Finset.sum_congr rfl fun s _ => Finset.sum_congr rfl fun u _ => Finset.sum_congr rfl fun k _ => ?_)
  rw [show 28 * (grid1.coords t 1).val + s + (y 1).val = s + ((grid1.coords t 1).val * 28 + (y 1).val) by omega]
end Array

end Cert.KernelIdeal.Gen
end
-- ==== Proof.Region2.lean ====
/- The third pallas_call (the 3x3 convolution that ends the encoder), read as a formula of its operand arrays. -/
module

public import proofs.«01_k».proof.Proof.Coord
public import proofs.«01_k».proof.Proof.Gen.KernelIdeal.Frame.Region2

@[expose] public section

set_option maxRecDepth 16384

noncomputable section

open scoped BigOperators

namespace Cert.KernelIdeal.Gen

open Idealize.ShloMosaic Idealize.ShloMosaic.TcCoe Idealize.ShloMosaic.Tactic
open Cert.Proof

/-- The body's arithmetic on the values it loads: nine taps added in order, plus the bias. -/
theorem pay2_at (a0 a1 a2 a3 a4 a5 a6 a7 a8 : Vec Ideal S1x28x64x256 .f32) (w0 w1 w2 w3 w4 w5 w6 w7 w8 : Vec Ideal S1x256x256 .f32)
    (b : Vec Ideal S1x256 .f32) (r q o : ℕ) (hr : r < 28) (hq : q < 56) (ho : o < 256) :
    at4 (k2_pay1 (k2_pay7 (k2_pay5 (k2_pay2 a0 w0 a1 w1) (k2_pay3 w2) (k2_pay4 a2) a3 w3 a4 w4) (k2_pay6 a5) w5 a6 w6 a7 w7)
        (k2_pay8 a8) w8 b) 0 r q o
      = ∑ k ∈ Finset.range 256, at4 a0 0 r q k * at3 w0 0 k o
        + ∑ k ∈ Finset.range 256, at4 a1 0 r q k * at3 w1 0 k o
        + ∑ k ∈ Finset.range 256, at4 a2 0 r q k * at3 w2 0 k o
        + ∑ k ∈ Finset.range 256, at4 a3 0 r q k * at3 w3 0 k o
        + ∑ k ∈ Finset.range 256, at4 a4 0 r q k * at3 w4 0 k o
        + ∑ k ∈ Finset.range 256, at4 a5 0 r q k * at3 w5 0 k o
        + ∑ k ∈ Finset.range 256, at4 a6 0 r q k * at3 w6 0 k o
        + ∑ k ∈ Finset.range 256, at4 a7 0 r q k * at3 w7 0 k o
        + ∑ k ∈ Finset.range 256, at4 a8 0 r q k * at3 w8 0 k o
        + at2 b 0 o := by
  have hq' : q < 64 := by omega
  have hrow : r * 64 + q < 1792 := by omega
  unfold k2_pay1 k2_pay2 k2_pay3 k2_pay4 k2_pay5 k2_pay6 k2_pay7 k2_pay8
  dsimp only
  rw [outBlock_at (R := 28) (C := 64) _ _ _ _ r q o hr hq ho]
  simp only [addf_at2, biasRow_at _ _ _ _ _ hrow]
  simp only [tap_at (R := 28) (C := 64) dot_S1792x256_S256x256_S1792x256_1_0_0_1_n_n _ _ _ _ _ _ _ rfl rfl r q o hr hq' ho]

/-- The nine taps of the block's entry at row `r`, column `c`, channel `o`, added in the kernel's order, plus the bias. -/
theorem out2_at (c : Dev nD) (i : grid2.Coords) (arg2 : Memref sig .tc .vmem S1x58x66x256 .f32) (harg2 : arg2.IsWhole) (arg3 : Memref sig .tc .vmem S9x256x256 .f32) (harg3 : arg3.IsWhole) (arg4 : Memref sig .tc .vmem S1x256 .f32) (harg4 : arg4.IsWhole) (arg5 : Memref sig .tc .vmem S1x28x56x256 .f32) (harg5 : arg5.IsWhole)
    (x0 : Vec Ideal S1x58x66x256 .f32) (x1 : Vec Ideal S9x256x256 .f32) (x2 : Vec Ideal S1x256 .f32)
    (r q o : ℕ) (hr : r < 28) (hq : q < 56) (ho : o < 256) :
    at4 (out2_A_3 c i arg2 harg2 arg3 harg3 arg4 harg4 arg5 harg5 x0 x1 x2) 0 r q o
      = (∑ d ∈ Finset.range 3, ∑ e ∈ Finset.range 3, ∑ k ∈ Finset.range 256,
          at4 x0 0 (28 * (i 1).val + d + r) (e + q) k * at3 x1 (3 * d + e) k o) + at2 x2 0 o := by
  have hq' : q < 64 := by omega
  have hi : (i 1).val < 2 := (i 1).isLt
  have hrow : r * 64 + q < 1792 := by omega
  unfold out2_A_3
  rw [View.read_writes_eq_canon _ _ _ (cover2_A_3 c i arg2 harg2 arg3 harg3 arg4 harg4 arg5 harg5 x0 x1 x2)]
  unfold kernelRun2_A
  dsimp only
  rw [View.canon_unit_zero (S := S1x28x56x256) (off := ![0, 0, 0, 0]) (by funext a; fin_cases a <;> rfl)]
  refine (pay2_at _ _ _ _ _ _ _ _ _ _ _ _ _ _ _ _ _ _ _ r q o hr hq ho).trans ?_
  simp only [rd_at4 arg2 harg2 x0 (k2_off1 i 0#32) (k2_off1_eq i 0) _ r q _ hr hq', rd_at4 arg2 harg2 x0 (k2_off1 i 1#32) (k2_off1_eq i 1) _ r q _ hr hq', rd_at4 arg2 harg2 x0 (k2_off1 i 2#32) (k2_off1_eq i 2) _ r q _ hr hq',
    rd_at4 arg2 harg2 x0 (k2_off2 i 0#32) (k2_off2_eq i 0) _ r q _ hr hq', rd_at4 arg2 harg2 x0 (k2_off2 i 1#32) (k2_off2_eq i 1) _ r q _ hr hq', rd_at4 arg2 harg2 x0 (k2_off2 i 2#32) (k2_off2_eq i 2) _ r q _ hr hq',
    rd_at4 arg2 harg2 x0 (k2_off3 i 0#32) (k2_off3_eq i 0) _ r q _ hr hq', rd_at4 arg2 harg2 x0 (k2_off3 i 1#32) (k2_off3_eq i 1) _ r q _ hr hq', rd_at4 arg2 harg2 x0 (k2_off3 i 2#32) (k2_off3_eq i 2) _ r q _ hr hq', rd_at3, rd_at2]
  simp only [Finset.sum_range_succ _ 2, Finset.sum_range_succ _ 1, Finset.sum_range_succ _ 0, Finset.sum_range_zero, zero_add, add_assoc, Nat.mul_zero, Nat.mul_one, Nat.zero_add, Nat.add_zero]
  simp only [Fin.val_zero, Fin.val_one, Fin.val_two, Nat.zero_add, Nat.reduceMul, Nat.reduceAdd]

section Array
variable (V : (c : Dev nD) → (b : Ref sig .tc) → Buf (Elt Ideal) ((c : Thread nD τ).loc b))

theorem blk2_0 (c : Dev nD) (t : Fin cfg2.N) (r q k : ℕ) :
    at4 (a := 1) (b := 58) (c := 66) (d := 256) (iblk2 (F := Ideal) V c 0 t) 0 r q k
      = at4 (a := 8) (b := 58) (c := 66) (d := 256) (V c main_v23) (grid2.coords t 0).val r q k := by
  have e : ∀ t : Fin cfg2.N, win2_0.index t = ![(grid2.coords t 0).val, 0, 0, 0] := (by decide +kernel : ∀ t : Fin grid2.N, _)
  have ht : (grid2.coords t 0).val < 8 := (grid2.coords t 0).isLt
  unfold at4
  by_cases h : r < 58 ∧ q < 66 ∧ k < 256
  · rw [dif_pos ⟨Nat.one_pos, h⟩, dif_pos ⟨ht, h⟩]
    blk_simp [iblk2]
    refine congrArg (V c main_v23) ?_
    blk_ext [e]
  · rw [dif_neg (fun h' => h h'.2), dif_neg (fun h' => h h'.2)]

theorem blk2_1 (c : Dev nD) (t : Fin cfg2.N) : iblk2 (F := Ideal) V c 1 t = V c main_v25 := by
  have e : ∀ t : Fin cfg2.N, win2_1.index t = ![0, 0, 0] := (by decide +kernel : ∀ t : Fin grid2.N, _)
  funext x
  blk_simp [iblk2]
  refine congrArg (V c main_v25) ?_
  blk_ext [e]

theorem blk2_2 (c : Dev nD) (t : Fin cfg2.N) : iblk2 (F := Ideal) V c 2 t = V c main_v26 := by
  have e : ∀ t : Fin cfg2.N, win2_2.index t = ![0, 0] := (by decide +kernel : ∀ t : Fin grid2.N, _)
  funext x
  blk_simp [iblk2]
  refine congrArg (V c main_v26) ?_
  blk_ext [e]

/-- The array the third pallas_call leaves. -/
theorem arr2 (c : Dev nD) : (dat2 (F := Ideal) V c).arrAt 3 cfg2.N
    = fun j => conv3At (a := 8) (b := 58) (c := 66) (d := 256) (e := 9) (f := 256) (g := 256) (h := 1) (i := 256)
        (V c main_v23) (V c main_v25) (V c main_v26) (j 0).val (j 1).val (j 2).val (j 3).val := by
  refine (dat2 V c).arrAt_eq_of_covers 3 _ (by decide +kernel) fun t hf y => ?_
  have e : ∀ t : Fin cfg2.N, win2_3.index t = ![(grid2.coords t 0).val, (grid2.coords t 1).val, 0, 0] := (by decide +kernel : ∀ t : Fin grid2.N, _)
  have h0 : (y 0).val = 0 := Nat.lt_one_iff.mp (y 0).isLt
  blk_simp [e]
  rw [after2_3]
  unfold outsAt2
  refine (at4_ix (a := 1) (b := 28) (c := 56) (d := 256) _ y).trans ?_
  rw [h0, out2_at c _ _ _ _ _ _ _ _ _ _ _ _ _ _ _ (y 1).isLt (y 2).isLt (y 3).isLt]
  simp only [blk2_0, blk2_1, blk2_2]
  unfold conv3At
  refine congrArg (· + _) (Finset.sum_congr rfl fun s _ => Finset.sum_congr rfl fun u _ => Finset.sum_congr rfl fun k _ => ?_)
  rw [show 28 * (grid2.coords t 1).val + s + (y 1).val = s + ((grid2.coords t 1).val * 28 + (y 1).val) by omega]
end Array

end Cert.KernelIdeal.Gen
end
-- ==== Proof.KernelEnc.lean ====
/- The kernel's encoder: what its first three regions leave, as layers over natural coordinates. -/
module

public import proofs.«01_k».proof.Proof.Spec
public import proofs.«01_k».proof.Proof.Region0
public import proofs.«01_k».proof.Proof.Region1
public import proofs.«01_k».proof.Proof.Region2
public import proofs.«01_k».proof.Proof.Gen.KernelIdeal.Frame.Fold0
public import Idealize.ShloMosaic.Lib.StableHlo.ReadAt

@[expose] public section

set_option maxRecDepth 16384

noncomputable section

open scoped BigOperators

namespace Cert.KernelIdeal.Gen

open Idealize.ShloMosaic Idealize.ShloMosaic.TcCoe Idealize.ShloMosaic.Tactic
open Idealize.ShloMosaic.StableHlo
open Cert.Proof

variable (m : (ℓ : Loc nD τ sig) → Buf (Elt Ideal) ℓ) (ρ : Dev nD → PrngReg)

/-! ## The arguments -/

def kA (c : Dev nD) := at4 (a := 8) (b := 3) (c := 224) (d := 224) (m (c.tc.loc main_arg0))
def kW1 (c : Dev nD) := at4 (a := 128) (b := 3) (c := 4) (d := 4) (m (c.tc.loc main_arg1))
def kB1 (c : Dev nD) := at1 (a := 128) (m (c.tc.loc main_arg2))
def kW2 (c : Dev nD) := at4 (a := 256) (b := 128) (c := 4) (d := 4) (m (c.tc.loc main_arg3))
def kB2 (c : Dev nD) := at1 (a := 256) (m (c.tc.loc main_arg4))
def kW3 (c : Dev nD) := at4 (a := 256) (b := 256) (c := 3) (d := 3) (m (c.tc.loc main_arg5))
def kB3 (c : Dev nD) := at1 (a := 256) (m (c.tc.loc main_arg6))

/-! ## The first convolution -/

theorem v9_at (c : Dev nD) {n I J p q k : ℕ} (hn : n < 8) (hI : I < 113) (hJ : J < 113) (hp : p < 2) (hq : q < 2) (hk : k < 3) :
    at4 (a := 8) (b := 113) (c := 128) (d := 128) (W9 m ρ c (Proc.devRef .tc main_v9)) n I J ((p * 2 + q) * 3 + k)
      = padF (kA m c) n k (2 * I + p) (2 * J + q) := by
  after_reads_simp
  simp -implicitDefEqProofs only [TRef.toBuf, TRef.ofBuf, cast_cast, cast_eq]
  refine (tail_at zeroPad _ _ hn hI (by omega) (by omega)).trans ?_
  refine (tail_at zeroPad _ _ hn hI (by omega) (by omega)).trans ?_
  refine (cells_at _ _ _ _ rfl rfl rfl n I J p q k hn hI hJ hp hq hk).trans ?_
  exact border_at zeroPad _ _ (fun a b d e => toNhwc_at _ _ a b d e) hn (by omega) (by omega) hk

theorem v9_zero (c : Dev nD) {n I J k : ℕ} (hn : n < 8) (hI : I < 113) (hJ : J < 113) (hk : 12 ≤ k) (hk' : k < 128) :
    at4 (a := 8) (b := 113) (c := 128) (d := 128) (W9 m ρ c (Proc.devRef .tc main_v9)) n I J k = 0 := by
  after_reads_simp
  simp -implicitDefEqProofs only [TRef.toBuf, TRef.ofBuf, cast_cast, cast_eq]
  refine (tail_at zeroPad _ _ hn hI (by omega) (by omega)).trans ?_
  exact dif_neg (by omega)

theorem v10_at (c : Dev nD) {u t p q k o : ℕ} (hu : u < 2) (ht : t < 2) (hp : p < 2) (hq : q < 2) (hk : k < 3) (ho : o < 128) :
    at3 (a := 4) (b := 128) (c := 128) (W9 m ρ c (Proc.devRef .tc main_v10)) (2 * u + t) ((p * 2 + q) * 3 + k) o
      = kW1 m c o k (2 * u + p) (2 * t + q) := by
  after_reads_simp
  simp -implicitDefEqProofs only [TRef.toBuf, TRef.ofBuf, cast_cast, cast_eq]
  refine (pad3_at _ _ zeroPad _ _ _ _ _ (by omega) (by omega) ho).trans ?_
  exact cellKernel_at _ _ _ _ rfl u t p q k o hu ht hp hq hk ho

theorem v11_at (c : Dev nD) (o : ℕ) : at2 (a := 1) (b := 128) (W9 m ρ c (Proc.devRef .tc main_v11)) 0 o = kB1 m c o := by
  after_reads_simp
  exact biasCast_at _ _ o

theorem layer1 (c : Dev nD) (n i j o : ℕ) :
    at4 (a := 8) (b := 112) (c := 112) (d := 128) (W10 m ρ c (Proc.devRef .tc main_v12)) n i j o
      = L1 (kA m c) (kW1 m c) (kB1 m c) n o i j := by
  refine at4_clip (fun n i j o hn hi hj ho => ?_) n i j o
  rw [at4_of _ hn hi hj ho]
  refine (congrFun ((W10_arr m ρ c 3).trans (arr0 (V9 m ρ) c)) _).trans ?_
  show max (conv2At _ _ _ n i j o) 0 = max (convS2 3 _ _ _ n o i j) 0
  congr 1
  exact conv2At_eq (K := 116) 3 rfl
    (fun s t p p' k hs ht hp hp' hk => v9_at m ρ c hn (by omega) (by omega) hp hp' hk)
    (fun s t k hs ht hk hk' => v9_zero m ρ c hn (by omega) (by omega) hk hk')
    (fun s t p p' k hs ht hp hp' hk => v10_at m ρ c hs ht hp hp' hk ho) (v11_at m ρ c o)

/-! ## The second convolution -/

theorem v17_at (c : Dev nD) {n I J p q k : ℕ} (hn : n < 8) (hI : I < 57) (hJ : J < 57) (hp : p < 2) (hq : q < 2) (hk : k < 128) :
    at4 (a := 8) (b := 57) (c := 72) (d := 512) (W15 m ρ c (Proc.devRef .tc main_v17)) n I J ((p * 2 + q) * 128 + k)
      = padF (L1 (kA m c) (kW1 m c) (kB1 m c)) n k (2 * I + p) (2 * J + q) := by
  after_reads_simp
  simp -implicitDefEqProofs only [TRef.toBuf, TRef.ofBuf, cast_cast, cast_eq]
  refine (tail_at zeroPad _ _ hn hI (by omega) (by omega)).trans ?_
  refine (cells_at _ _ _ _ rfl rfl rfl n I J p q k hn hI hJ hp hq hk).trans ?_
  exact border_at zeroPad _ _ (layer1 m ρ c) hn (by omega) (by omega) hk

theorem v20_at (c : Dev nD) {u t p q k o : ℕ} (hu : u < 2) (ht : t < 2) (hp : p < 2) (hq : q < 2) (hk : k < 128) (ho : o < 256) :
    at3 (a := 4) (b := 512) (c := 256) (W15 m ρ c (Proc.devRef .tc main_v20)) (2 * u + t) ((p * 2 + q) * 128 + k) o
      = kW2 m c o k (2 * u + p) (2 * t + q) := by
  after_reads_simp
  rw [W10_args m ρ c main_arg3 (by decide)]
  exact cellKernel_at _ _ _ _ rfl u t p q k o hu ht hp hq hk ho

theorem v21_at (c : Dev nD) (o : ℕ) : at2 (a := 1) (b := 256) (W15 m ρ c (Proc.devRef .tc main_v21)) 0 o = kB2 m c o := by
  after_reads_simp
  rw [W10_args m ρ c main_arg4 (by decide)]
  exact biasCast_at _ _ o

theorem layer2 (c : Dev nD) (n i j o : ℕ) :
    at4 (a := 8) (b := 56) (c := 56) (d := 256) (W16 m ρ c (Proc.devRef .tc main_v22)) n i j o
      = L2 (L1 (kA m c) (kW1 m c) (kB1 m c)) (kW2 m c) (kB2 m c) n o i j := by
  refine at4_clip (fun n i j o hn hi hj ho => ?_) n i j o
  rw [at4_of _ hn hi hj ho]
  refine (congrFun ((W16_arr m ρ c 3).trans (arr1 (V15 m ρ) c)) _).trans ?_
  show max (conv2At _ _ _ n i j o) 0 = max (convS2 128 _ _ _ n o i j) 0
  congr 1
  exact conv2At_eq (K := 0) 128 rfl
    (fun s t p p' k hs ht hp hp' hk => v17_at m ρ c hn (by omega) (by omega) hp hp' hk)
    (fun s t k hs ht hk hk' => absurd hk' (by omega))
    (fun s t p p' k hs ht hp hp' hk => v20_at m ρ c hs ht hp hp' hk ho) (v21_at m ρ c o)

/-! ## The encoder's last convolution -/

/-- The encoder's output. -/
def kE (c : Dev nD) := L3 (L2 (L1 (kA m c) (kW1 m c) (kB1 m c)) (kW2 m c) (kB2 m c)) (kW3 m c) (kB3 m c)

theorem v23_at (c : Dev nD) {n i j k : ℕ} (hn : n < 8) (hi : i < 58) (hj : j < 66) (hk : k < 256) :
    at4 (a := 8) (b := 58) (c := 66) (d := 256) (W19 m ρ c (Proc.devRef .tc main_v23)) n i j k
      = padF (L2 (L1 (kA m c) (kW1 m c) (kB1 m c)) (kW2 m c) (kB2 m c)) n k i j := by
  after_reads_simp
  simp -implicitDefEqProofs only [TRef.toBuf, TRef.ofBuf, cast_cast, cast_eq]
  exact border_at zeroPad _ _ (layer2 m ρ c) hn hi hj hk

theorem v25_at (c : Dev nD) {u t k o : ℕ} (hu : u < 3) (ht : t < 3) (hk : k < 256) (ho : o < 256) :
    at3 (a := 9) (b := 256) (c := 256) (W19 m ρ c (Proc.devRef .tc main_v25)) (3 * u + t) k o = kW3 m c o k u t := by
  after_reads_simp
  rw [W16_args m ρ c main_arg5 (by decide)]
  exact tapKernel_at _ _ _ u t k o hu ht hk ho

theorem v26_at (c : Dev nD) (o : ℕ) : at2 (a := 1) (b := 256) (W19 m ρ c (Proc.devRef .tc main_v26)) 0 o = kB3 m c o := by
  after_reads_simp
  rw [W16_args m ρ c main_arg6 (by decide)]
  exact biasCast_at _ _ o

theorem layer3 (c : Dev nD) (n i j o : ℕ) :
    at4 (a := 8) (b := 56) (c := 56) (d := 256) (W20 m ρ c (Proc.devRef .tc main_v27)) n i j o = kE m c n o i j := by
  refine at4_clip (fun n i j o hn hi hj ho => ?_) n i j o
  rw [at4_of _ hn hi hj ho]
  refine (congrFun ((W20_arr m ρ c 3).trans (arr2 (V19 m ρ) c)) _).trans ?_
  exact conv3At_eq (r := i) (q := j) (fun s t k hs ht hk => v23_at m ρ c (i := s + i) (j := t + j) hn (by omega) (by omega) hk)
    (fun s t k hs ht hk => v25_at m ρ c hs ht hk ho) (v26_at m ρ c o)

end Cert.KernelIdeal.Gen
end
-- ==== Proof.Region3.lean ====
/- The fourth pallas_call (the vector quantiser), read as a formula of its operand arrays. -/
module

public import proofs.«01_k».proof.Proof.Nearest
public import proofs.«01_k».proof.Proof.Gen.KernelIdeal.Frame.Region3

@[expose] public section

set_option maxRecDepth 16384

noncomputable section

open scoped BigOperators

namespace Cert.KernelIdeal.Gen

open Idealize.ShloMosaic Idealize.ShloMosaic.TcCoe Idealize.ShloMosaic.Tactic
open Cert.Proof

/-- A vector of row values spread over the columns. -/
theorem rowSpread {α : Type} (v : S512.Idx → α) (h1 : S512.ShapeCasts S512x1) (h2 : S512x1.Broadcasts S512x1024) (r : Fin 512) (c : Fin 1024) :
    broadcastTo S512x1024 (shapeCast S512x1 v h1) h2 (ValueIdx.ix2 r c) = v (ValueIdx.ix1 r) := by
  refine (broadcastTo_apply _ h2 _ (ValueIdx.ix2 r ⟨0, Nat.one_pos⟩) fun a => ?_).trans (shapeCast_apply v h1 _ _ ?_)
  · match a with
    | ⟨0, _⟩ => rfl
    | ⟨1, _⟩ => rfl
  · rw [Shape.rowMajor_val_one, Shape.rowMajor_val_two]
    show r.val = r.val * 1 + 0
    omega

/-- A vector of column values spread over the rows. -/
theorem colSpread {α : Type} (v : S1024.Idx → α) (h1 : S1024.ShapeCasts S1x1024) (h2 : S1x1024.Broadcasts S512x1024) (r : Fin 512) (c : Fin 1024) :
    broadcastTo S512x1024 (shapeCast S1x1024 v h1) h2 (ValueIdx.ix2 r c) = v (ValueIdx.ix1 c) := by
  refine (broadcastTo_apply _ h2 _ (ValueIdx.ix2 ⟨0, Nat.one_pos⟩ c) fun a => ?_).trans (shapeCast_apply v h1 _ _ ?_)
  · match a with
    | ⟨0, _⟩ => rfl
    | ⟨1, _⟩ => rfl
  · rw [Shape.rowMajor_val_one, Shape.rowMajor_val_two]
    show c.val = 0 * 1024 + c.val
    omega

/-- The block of expanded squared distances. -/
def dist3 (z : FVec Ideal S512x256 .f32) (t : FVec Ideal S256x1024 .f32) : FVec Ideal S512x1024 .f32 :=
  subf (addf
      (broadcastTo S512x1024 (shapeCast S512x1 (multiReduction .add [1] S512 (mulf z z) 0x00000000#32 reduces_S512x256_S512 (.inl rfl) rfl) shapeCasts_S512_S512x1) broadcasts_S512x1_S512x1024)
      (broadcastTo S512x1024 (shapeCast S1x1024 (multiReduction .add [0] S1024 (mulf t t) 0x00000000#32 reduces_S256x1024_S1024 (.inl rfl) rfl) shapeCasts_S1024_S1x1024) broadcasts_S1x1024_S512x1024))
    (mulf (broadcast S512x1024 (Scalar.ofBits (F := Ideal) .f32 0x40000000#32))
      (matmul dot_S512x256_S256x1024_S512x1024_1_0_0_1_n_n none (truncf .bf16 z bitsLt_bf16_f32) (truncf .bf16 t bitsLt_bf16_f32) (constant S512x1024 .f32 0x00000000#32)))

theorem dist3_at (z : FVec Ideal S512x256 .f32) (t : FVec Ideal S256x1024 .f32) (r : Fin 512) (c : Fin 1024) :
    dist3 z t (ValueIdx.ix2 r c) = distAt (a := 512) (K := 256) (b := 256) (K' := 256) (N := 1024) z t r.val c.val := by
  unfold distAt dist3
  simp only [Finset.sum_range]
  show (_ + _) - (_ * _) = _
  rw [rowSpread, colSpread]
  refine congrArg₂ (· - ·) (congrArg₂ (· + ·) ?_ ?_) (congrArg₂ (· * ·) rfl ?_)
  · refine (Ideal.multiReduction_add_single _ _ _ _ _ _).trans (Finset.sum_congr rfl fun k _ => ?_)
    rw [at2_of z r.isLt k.isLt]
    exact congrArg (fun i => z i * z i) (ValueIdx.eq_ix2 _)
  · refine (Ideal.multiReduction_add_single _ _ _ _ _ _).trans (Finset.sum_congr rfl fun k _ => ?_)
    rw [at2_of t k.isLt c.isLt]
    exact congrArg (fun i => t i * t i) (ValueIdx.eq_ix2 _)
  · refine (Ideal.matmul_plain_apply none _ _ _ r c).trans ?_
    rw [show (constant S512x1024 .f32 0x00000000#32 : FVec Ideal S512x1024 .f32) (ValueIdx.ix2 r c) = (0 : EReal) from
      Ideal.ofBits_zero_f32, zero_add]
    refine Finset.sum_congr rfl fun k _ => ?_
    rw [at2_of z r.isLt k.isLt, at2_of t k.isLt c.isLt]
    rfl

/-- The words naming, in each row, the first column of least distance. -/
def near3 (d : FVec Ideal S512x1024 .f32) : IVec S512 32 :=
  multiReductionI .minsi [1] S512
    (select (cmpf .oeq d (broadcastTo S512x1024 (shapeCast S512x1 (multiReduction .minimumf [1] S512 d 0x7F800000#32 reduces_S512x1024_S512 (.inl rfl) rfl) shapeCasts_S512_S512x1) broadcasts_S512x1_S512x1024))
      (iota .tc S512x1024 32 [1] iota_S512x1024_d1_w32) (broadcast S512x1024 1073741824#32))
    2147483647#32 reduces_S512x1024_S512 rfl

theorem near3_at (d : FVec Ideal S512x1024 .f32) (f : ℕ → EReal) (r : Fin 512) (hf : ∀ c : Fin 1024, d (ValueIdx.ix2 r c) = f c.val) :
    near3 d (ValueIdx.ix1 r) = BitVec.ofNat 32 (firstMin 1024 f) := by
  have hl : ∀ k : Fin 1024, reduces_S512x1024_S512.lift (ValueIdx.ix1 r) k = ValueIdx.ix2 r k := fun k => ValueIdx.eq_ix2 _
  have hmin : multiReduction .minimumf [1] S512 d 0x7F800000#32 reduces_S512x1024_S512 (.inl rfl) rfl (ValueIdx.ix1 r)
      = f (firstMin 1024 f) := by
    refine (multiReduction_minimumf_eq_fold d _ reduces_S512x1024_S512 _ _ _).trans ?_
    refine (reduces_S512x1024_S512.fold_filter_drop_single _ _ d (ValueIdx.ix1 r)).trans ?_
    refine Eq.trans ?_ (fold_min_eq (f := f) (n := 1024) (by omega))
    rw [show (FloatOps.ofBits .f32 0x7F800000#32 : Ideal .f32) = (⊤ : EReal) from infinity_eq]
    refine congrArg (Finset.fold min (⊤ : EReal) · Finset.univ) ?_
    funext k
    exact (congrArg d (hl k)).trans (hf k)
  unfold near3
  refine (multiReductionI_eq_fold .minsi _ _ reduces_S512x1024_S512 _ _).trans ?_
  refine (reduces_S512x1024_S512.fold_filter_drop_single _ _ _ (ValueIdx.ix1 r)).trans ?_
  refine fold_minsi_eq (n := 1024) (by omega) (by omega) _ fun k => ?_
  refine (congrArg (select _ _ _) (hl k)).trans ?_
  show (if BitVec.ofBool (decide (d (ValueIdx.ix2 r k) = broadcastTo S512x1024 _ _ (ValueIdx.ix2 r k))) = 1 then
    iota .tc S512x1024 32 [1] iota_S512x1024_d1_w32 (ValueIdx.ix2 r k) else 1073741824#32) = _
  rw [rowSpread, hmin, hf, iota_single_apply]
  by_cases h : f k.val = f (firstMin 1024 f)
  · rw [if_pos h, decide_eq_true h]; rfl
  · rw [if_neg h, decide_eq_false h]; rfl

/-- The rows of zeros with a one at the named column. -/
def hot3 (w : IVec S512 32) : FVec Ideal S512x1024 .f32 :=
  sitofp .f32 (extui 32 (cmpi .eq (iota .tc S512x1024 32 [1] iota_S512x1024_d1_w32)
    (broadcastTo S512x1024 (shapeCast S512x1 w shapeCasts_S512_S512x1) broadcasts_S512x1_S512x1024)) natLt_1_32)

theorem hot3_at (w : IVec S512 32) (r : Fin 512) (k : Fin 1024) (m : ℕ) (hm : m < 1024) (hw : w (ValueIdx.ix1 r) = BitVec.ofNat 32 m) :
    hot3 w (ValueIdx.ix2 r k) = if k.val = m then 1 else 0 := by
  unfold hot3
  show (((BitVec.setWidth 32 (BitVec.ofBool (iota .tc S512x1024 32 [1] iota_S512x1024_d1_w32 (ValueIdx.ix2 r k)
    == broadcastTo S512x1024 _ _ (ValueIdx.ix2 r k)))).toInt : ℝ) : EReal) = _
  rw [rowSpread, iota_single_apply, hw]
  show (((BitVec.setWidth 32 (BitVec.ofBool (BitVec.ofNat 32 k.val == BitVec.ofNat 32 m))).toInt : ℝ) : EReal) = _
  by_cases h : k.val = m
  · rw [if_pos h, h, beq_self_eq_true]
    simp
  · have hne : BitVec.ofNat 32 k.val ≠ BitVec.ofNat 32 m := fun e => h (by
      have := congrArg BitVec.toNat e
      rw [BitVec.toNat_ofNat, BitVec.toNat_ofNat, Nat.mod_eq_of_lt (by omega), Nat.mod_eq_of_lt (by omega)] at this
      exact this)
    rw [if_neg h, beq_eq_false_iff_ne.mpr hne]
    simp

theorem pay3_eq (z : Vec Ideal S512x256 .f32) (t : Vec Ideal S256x1024 .f32) (cb : Vec Ideal S1024x256 .f32) :
    k3_pay1 z t cb = matmul (φ₂ := .f32) dot_S512x1024_S1024x256_S512x256_1_0_0_1_n_n (some .fp32)
      (hot3 (near3 (dist3 (shapeCast S512x256 z shapeCasts_S512x256_S512x256) (shapeCast S256x1024 t shapeCasts_S256x1024_S256x1024)))) (cb : FVec Ideal S1024x256 .f32)
      (constant S512x256 .f32 0x00000000#32) := rfl

theorem pay3_at (z : Vec Ideal S512x256 .f32) (t : Vec Ideal S256x1024 .f32) (cb : Vec Ideal S1024x256 .f32) (r o : ℕ) (hr : r < 512) (ho : o < 256) :
    at2 (k3_pay1 z t cb) r o
      = at2 (a := 1024) (b := 256) cb (firstMin 1024 (distAt (a := 512) (K := 256) (b := 256) (K' := 256) (N := 1024) z t r)) o := by
  rw [pay3_eq, shapeCast_self z, shapeCast_self t, at2_of _ hr ho]
  refine (Ideal.matmul_plain_apply (some .fp32) _ _ _ ⟨r, hr⟩ ⟨o, ho⟩).trans ?_
  rw [show (constant S512x256 .f32 0x00000000#32 : FVec Ideal S512x256 .f32) (ValueIdx.ix2 ⟨r, hr⟩ ⟨o, ho⟩) = (0 : EReal) from
      Ideal.ofBits_zero_f32, zero_add]
  exact pick_at (N := 1024) cb _ o (firstMin_lt (by omega)) ho _ fun k =>
    hot3_at _ ⟨r, hr⟩ k _ (firstMin_lt (by omega)) (near3_at (dist3 z t) _ ⟨r, hr⟩ fun c => dist3_at z t ⟨r, hr⟩ c)

section Array
variable (V : (c : Dev nD) → (b : Ref sig .tc) → Buf (Elt Ideal) ((c : Thread nD τ).loc b))

theorem blk3_0 (c : Dev nD) (t : Fin cfg3.N) (r k : ℕ) (hr : r < 512) :
    at2 (a := 512) (b := 256) (iblk3 (F := Ideal) V c 0 t) r k
      = at2 (a := 25088) (b := 256) (V c main_v28) (t.val * 512 + r) k := by
  have e : ∀ t : Fin cfg3.N, win3_0.index t = ![t.val, 0] := (by decide +kernel : ∀ t : Fin grid3.N, _)
  have ht : t.val < 49 := t.isLt
  unfold at2
  by_cases h : k < 256
  · rw [dif_pos ⟨hr, h⟩, dif_pos ⟨by omega, h⟩]
    blk_simp [iblk3]
    refine congrArg (V c main_v28) ?_
    blk_ext [e]
  · rw [dif_neg (fun h' => h h'.2), dif_neg (fun h' => h h'.2)]

theorem blk3_1 (c : Dev nD) (t : Fin cfg3.N) : iblk3 (F := Ideal) V c 1 t = V c main_v29 := by
  have e : ∀ t : Fin cfg3.N, win3_1.index t = ![0, 0] := (by decide +kernel : ∀ t : Fin grid3.N, _)
  funext x
  blk_simp [iblk3]
  refine congrArg (V c main_v29) ?_
  blk_ext [e]

theorem blk3_2 (c : Dev nD) (t : Fin cfg3.N) : iblk3 (F := Ideal) V c 2 t = V c main_arg7 := by
  have e : ∀ t : Fin cfg3.N, win3_2.index t = ![0, 0] := (by decide +kernel : ∀ t : Fin grid3.N, _)
  funext x
  blk_simp [iblk3]
  refine congrArg (V c main_arg7) ?_
  blk_ext [e]

/-- The array the fourth pallas_call leaves: each row is the codeword nearest to its row. -/
theorem arr3 (c : Dev nD) : (dat3 (F := Ideal) V c).arrAt 3 cfg3.N
    = fun j => at2 (a := 1024) (b := 256) (V c main_arg7)
        (firstMin 1024 (distAt (a := 25088) (K := 256) (b := 256) (K' := 256) (N := 1024) (V c main_v28) (V c main_v29) (j 0).val)) (j 1).val := by
  refine (dat3 V c).arrAt_eq_of_covers 3 _ (by decide +kernel) fun t hf y => ?_
  have e : ∀ t : Fin cfg3.N, win3_3.index t = ![t.val, 0] := (by decide +kernel : ∀ t : Fin grid3.N, _)
  blk_simp [e]
  rw [after3_3]
  unfold out3_3
  rw [View.canon_unit_zero (S := S512x256) (off := ![0, 0]) (by funext a; fin_cases a <;> rfl), View.ld_unit_zero (by funext a; fin_cases a <;> rfl),
    View.ld_unit_zero (by funext a; fin_cases a <;> rfl), View.ld_unit_zero (by funext a; fin_cases a <;> rfl)]
  refine (at2_ix (a := 512) (b := 256) _ y).trans ?_
  rw [pay3_at _ _ _ _ _ (y 0).isLt (y 1).isLt, blk3_1, blk3_2]
  refine congrArg (fun m => at2 (a := 1024) (b := 256) (V c main_arg7) m (y 1).val) (firstMin_congr fun k _ => ?_)
  unfold distAt
  simp only [blk3_0 V c t _ _ (show (y 0).val < 512 from (y 0).isLt)]
end Array

end Cert.KernelIdeal.Gen
end
-- ==== Proof.Region4.lean ====
/- The fifth pallas_call (the 3x3 convolution that begins the decoder), read as a formula of its operand arrays. -/
module

public import proofs.«01_k».proof.Proof.Coord
public import proofs.«01_k».proof.Proof.Gen.KernelIdeal.Frame.Region4

@[expose] public section

set_option maxRecDepth 16384

noncomputable section

open scoped BigOperators

namespace Cert.KernelIdeal.Gen

open Idealize.ShloMosaic Idealize.ShloMosaic.TcCoe Idealize.ShloMosaic.Tactic
open Cert.Proof

/-- The body's arithmetic on the values it loads: nine taps added in order, plus the bias, cut off at zero. -/
theorem pay4_at (a0 a1 a2 a3 a4 a5 a6 a7 a8 : Vec Ideal S1x28x64x256 .f32) (w0 w1 w2 w3 w4 w5 w6 w7 w8 : Vec Ideal S1x256x256 .f32)
    (b : Vec Ideal S1x256 .f32) (r q o : ℕ) (hr : r < 28) (hq : q < 56) (ho : o < 256) :
    at4 (k4_pay1 (k4_pay7 (k4_pay5 (k4_pay2 a0 w0 a1 w1) (k4_pay3 w2) (k4_pay4 a2) a3 w3 a4 w4) (k4_pay6 a5) w5 a6 w6 a7 w7)
        (k4_pay8 a8) w8 b) 0 r q o
      = max (∑ k ∈ Finset.range 256, at4 a0 0 r q k * at3 w0 0 k o
        + ∑ k ∈ Finset.range 256, at4 a1 0 r q k * at3 w1 0 k o
        + ∑ k ∈ Finset.range 256, at4 a2 0 r q k * at3 w2 0 k o
        + ∑ k ∈ Finset.range 256, at4 a3 0 r q k * at3 w3 0 k o
        + ∑ k ∈ Finset.range 256, at4 a4 0 r q k * at3 w4 0 k o
        + ∑ k ∈ Finset.range 256, at4 a5 0 r q k * at3 w5 0 k o
        + ∑ k ∈ Finset.range 256, at4 a6 0 r q k * at3 w6 0 k o
        + ∑ k ∈ Finset.range 256, at4 a7 0 r q k * at3 w7 0 k o
        + ∑ k ∈ Finset.range 256, at4 a8 0 r q k * at3 w8 0 k o
        + at2 b 0 o) 0 := by
  have hq' : q < 64 := by omega
  have hrow : r * 64 + q < 1792 := by omega
  unfold k4_pay1 k4_pay2 k4_pay3 k4_pay4 k4_pay5 k4_pay6 k4_pay7 k4_pay8
  dsimp only
  rw [outBlock_at (R := 28) (C := 64) _ _ _ _ r q o hr hq ho]
  simp only [relu_at2, addf_at2, biasRow_at _ _ _ _ _ hrow]
  simp only [tap_at (R := 28) (C := 64) dot_S1792x256_S256x256_S1792x256_1_0_0_1_n_n _ _ _ _ _ _ _ rfl rfl r q o hr hq' ho]

/-- The nine taps of the block's entry at row `r`, column `c`, channel `o`, added in the kernel's order, plus the bias, cut off at zero. -/
theorem out4_at (c : Dev nD) (i : grid4.Coords) (arg2 : Memref sig .tc .vmem S1x58x66x256 .f32) (harg2 : arg2.IsWhole) (arg3 : Memref sig .tc .vmem S9x256x256 .f32) (harg3 : arg3.IsWhole) (arg4 : Memref sig .tc .vmem S1x256 .f32) (harg4 : arg4.IsWhole) (arg5 : Memref sig .tc .vmem S1x28x56x256 .f32) (harg5 : arg5.IsWhole)
    (x0 : Vec Ideal S1x58x66x256 .f32) (x1 : Vec Ideal S9x256x256 .f32) (x2 : Vec Ideal S1x256 .f32)
    (r q o : ℕ) (hr : r < 28) (hq : q < 56) (ho : o < 256) :
    at4 (out4_A_3 c i arg2 harg2 arg3 harg3 arg4 harg4 arg5 harg5 x0 x1 x2) 0 r q o
      = max ((∑ d ∈ Finset.range 3, ∑ e ∈ Finset.range 3, ∑ k ∈ Finset.range 256,
          at4 x0 0 (28 * (i 1).val + d + r) (e + q) k * at3 x1 (3 * d + e) k o) + at2 x2 0 o) 0 := by
  have hq' : q < 64 := by omega
  have hi : (i 1).val < 2 := (i 1).isLt
  have hrow : r * 64 + q < 1792 := by omega
  unfold out4_A_3
  rw [View.read_writes_eq_canon _ _ _ (cover4_A_3 c i arg2 harg2 arg3 harg3 arg4 harg4 arg5 harg5 x0 x1 x2)]
  unfold kernelRun4_A
  dsimp only
  rw [View.canon_unit_zero (S := S1x28x56x256) (off := ![0, 0, 0, 0]) (by funext a; fin_cases a <;> rfl)]
  refine (pay4_at _ _ _ _ _ _ _ _ _ _ _ _ _ _ _ _ _ _ _ r q o hr hq ho).trans ?_
  simp only [rd_at4 arg2 harg2 x0 (k4_off1 i 0#32) (k4_off1_eq i 0) _ r q _ hr hq', rd_at4 arg2 harg2 x0 (k4_off1 i 1#32) (k4_off1_eq i 1) _ r q _ hr hq', rd_at4 arg2 harg2 x0 (k4_off1 i 2#32) (k4_off1_eq i 2) _ r q _ hr hq',
    rd_at4 arg2 harg2 x0 (k4_off2 i 0#32) (k4_off2_eq i 0) _ r q _ hr hq', rd_at4 arg2 harg2 x0 (k4_off2 i 1#32) (k4_off2_eq i 1) _ r q _ hr hq', rd_at4 arg2 harg2 x0 (k4_off2 i 2#32) (k4_off2_eq i 2) _ r q _ hr hq',
    rd_at4 arg2 harg2 x0 (k4_off3 i 0#32) (k4_off3_eq i 0) _ r q _ hr hq', rd_at4 arg2 harg2 x0 (k4_off3 i 1#32) (k4_off3_eq i 1) _ r q _ hr hq', rd_at4 arg2 harg2 x0 (k4_off3 i 2#32) (k4_off3_eq i 2) _ r q _ hr hq', rd_at3, rd_at2]
  simp only [Finset.sum_range_succ _ 2, Finset.sum_range_succ _ 1, Finset.sum_range_succ _ 0, Finset.sum_range_zero, zero_add, add_assoc, Nat.mul_zero, Nat.mul_one, Nat.zero_add, Nat.add_zero]
  simp only [Fin.val_zero, Fin.val_one, Fin.val_two, Nat.zero_add, Nat.reduceMul, Nat.reduceAdd]

section Array
variable (V : (c : Dev nD) → (b : Ref sig .tc) → Buf (Elt Ideal) ((c : Thread nD τ).loc b))

theorem blk4_0 (c : Dev nD) (t : Fin cfg4.N) (r q k : ℕ) :
    at4 (a := 1) (b := 58) (c := 66) (d := 256) (iblk4 (F := Ideal) V c 0 t) 0 r q k
      = at4 (a := 8) (b := 58) (c := 66) (d := 256) (V c main_v32) (grid4.coords t 0).val r q k := by
  have e : ∀ t : Fin cfg4.N, win4_0.index t = ![(grid4.coords t 0).val, 0, 0, 0] := (by decide +kernel : ∀ t : Fin grid4.N, _)
  have ht : (grid4.coords t 0).val < 8 := (grid4.coords t 0).isLt
  unfold at4
  by_cases h : r < 58 ∧ q < 66 ∧ k < 256
  · rw [dif_pos ⟨Nat.one_pos, h⟩, dif_pos ⟨ht, h⟩]
    blk_simp [iblk4]
    refine congrArg (V c main_v32) ?_
    blk_ext [e]
  · rw [dif_neg (fun h' => h h'.2), dif_neg (fun h' => h h'.2)]

theorem blk4_1 (c : Dev nD) (t : Fin cfg4.N) : iblk4 (F := Ideal) V c 1 t = V c main_v34 := by
  have e : ∀ t : Fin cfg4.N, win4_1.index t = ![0, 0, 0] := (by decide +kernel : ∀ t : Fin grid4.N, _)
  funext x
  blk_simp [iblk4]
  refine congrArg (V c main_v34) ?_
  blk_ext [e]

theorem blk4_2 (c : Dev nD) (t : Fin cfg4.N) : iblk4 (F := Ideal) V c 2 t = V c main_v35 := by
  have e : ∀ t : Fin cfg4.N, win4_2.index t = ![0, 0] := (by decide +kernel : ∀ t : Fin grid4.N, _)
  funext x
  blk_simp [iblk4]
  refine congrArg (V c main_v35) ?_
  blk_ext [e]

/-- The array the fifth pallas_call leaves. -/
theorem arr4 (c : Dev nD) : (dat4 (F := Ideal) V c).arrAt 3 cfg4.N
    = fun j => max (conv3At (a := 8) (b := 58) (c := 66) (d := 256) (e := 9) (f := 256) (g := 256) (h := 1) (i := 256)
        (V c main_v32) (V c main_v34) (V c main_v35) (j 0).val (j 1).val (j 2).val (j 3).val) 0 := by
  refine (dat4 V c).arrAt_eq_of_covers 3 _ (by decide +kernel) fun t hf y => ?_
  have e : ∀ t : Fin cfg4.N, win4_3.index t = ![(grid4.coords t 0).val, (grid4.coords t 1).val, 0, 0] := (by decide +kernel : ∀ t : Fin grid4.N, _)
  have h0 : (y 0).val = 0 := Nat.lt_one_iff.mp (y 0).isLt
  blk_simp [e]
  rw [after4_3]
  unfold outsAt4
  refine (at4_ix (a := 1) (b := 28) (c := 56) (d := 256) _ y).trans ?_
  rw [h0, out4_at c _ _ _ _ _ _ _ _ _ _ _ _ _ _ _ (y 1).isLt (y 2).isLt (y 3).isLt]
  simp only [blk4_0, blk4_1, blk4_2]
  unfold conv3At
  refine congrArg (fun z => max (z + _) 0) (Finset.sum_congr rfl fun s _ => Finset.sum_congr rfl fun u _ => Finset.sum_congr rfl fun k _ => ?_)
  rw [show 28 * (grid4.coords t 1).val + s + (y 1).val = s + ((grid4.coords t 1).val * 28 + (y 1).val) by omega]
end Array

end Cert.KernelIdeal.Gen
end
-- ==== Proof.Region5.lean ====
/- The sixth pallas_call (the first transposed convolution), read as a formula of its operand arrays. -/
module

public import proofs.«01_k».proof.Proof.Deconv
public import proofs.«01_k».proof.Proof.Gen.KernelIdeal.Frame.Region5

@[expose] public section

set_option maxRecDepth 16384

noncomputable section

open scoped BigOperators

namespace Cert.KernelIdeal.Gen

open Idealize.ShloMosaic Idealize.ShloMosaic.TcCoe Idealize.ShloMosaic.Tactic
open Cert.Proof

/-- The stored block at column parity 0: four taps added in order, plus the bias. -/
theorem pay5_at0 (a0 a1 a2 a3 a4 a5 a6 a7 : Vec Ideal S1x28x64x256 .f32) (w0 w1 w2 w3 w4 w5 w6 w7 : Vec Ideal S1x1x1x256x128 .f32)
    (b b1 : Vec Ideal S1x128 .f32) (r q o : ℕ) (hr : r < 28) (hq : q < 56) (ho : o < 128) :
    at5 (k5_pay1 (k5_pay3 (k5_pay2 a0 w0 a1 w1) a2 w2 a3 w3 b) (k5_pay5 (k5_pay4 a4) w4 a5 w5 a6 w6) a7 w7 b1) 0 r 0 q (0 * 128 + o)
      = max (∑ k ∈ Finset.range 256, at4 a0 0 r q k * at5 w0 0 0 0 k o
        + ∑ k ∈ Finset.range 256, at4 a1 0 r q k * at5 w1 0 0 0 k o
        + ∑ k ∈ Finset.range 256, at4 a2 0 r q k * at5 w2 0 0 0 k o
        + ∑ k ∈ Finset.range 256, at4 a3 0 r q k * at5 w3 0 0 0 k o
        + at2 b 0 o) 0 := by
  have hq' : q < 64 := by omega
  have hrow : r * 64 + q < 1792 := by omega
  unfold k5_pay1 k5_pay2 k5_pay3 k5_pay4 k5_pay5
  dsimp only
  rw [pairBlock_fst (R := 28) _ _ _ _ rfl r q o hr hq ho, cut_at (R := 28) (C := 64) _ _ _ rfl r q o hr hq ho]
  simp only [relu_at2, addf_at2, biasRow_at _ _ _ _ _ hrow]
  simp only [tap5_at (R := 28) (C := 64) dot_S1792x256_S256x128_S1792x128_1_0_0_1_n_n _ _ _ _ _ _ _ rfl rfl r q o hr hq' ho]

/-- The stored block at column parity 1: four taps added in order, plus the bias. -/
theorem pay5_at1 (a0 a1 a2 a3 a4 a5 a6 a7 : Vec Ideal S1x28x64x256 .f32) (w0 w1 w2 w3 w4 w5 w6 w7 : Vec Ideal S1x1x1x256x128 .f32)
    (b b1 : Vec Ideal S1x128 .f32) (r q o : ℕ) (hr : r < 28) (hq : q < 56) (ho : o < 128) :
    at5 (k5_pay1 (k5_pay3 (k5_pay2 a0 w0 a1 w1) a2 w2 a3 w3 b) (k5_pay5 (k5_pay4 a4) w4 a5 w5 a6 w6) a7 w7 b1) 0 r 0 q (1 * 128 + o)
      = max (∑ k ∈ Finset.range 256, at4 a4 0 r q k * at5 w4 0 0 0 k o
        + ∑ k ∈ Finset.range 256, at4 a5 0 r q k * at5 w5 0 0 0 k o
        + ∑ k ∈ Finset.range 256, at4 a6 0 r q k * at5 w6 0 0 0 k o
        + ∑ k ∈ Finset.range 256, at4 a7 0 r q k * at5 w7 0 0 0 k o
        + at2 b1 0 o) 0 := by
  have hq' : q < 64 := by omega
  have hrow : r * 64 + q < 1792 := by omega
  unfold k5_pay1 k5_pay2 k5_pay3 k5_pay4 k5_pay5
  dsimp only
  rw [pairBlock_snd (R := 28) _ _ _ _ rfl r q o hr hq ho, cut_at (R := 28) (C := 64) _ _ _ rfl r q o hr hq ho]
  simp only [relu_at2, addf_at2, biasRow_at _ _ _ _ _ hrow]
  simp only [tap5_at (R := 28) (C := 64) dot_S1792x256_S256x128_S1792x128_1_0_0_1_n_n _ _ _ _ _ _ _ rfl rfl r q o hr hq' ho]

theorem out5_at0 (c : Dev nD) (i : grid5.Coords) (arg3 : Memref sig .tc .vmem S1x58x67x256 .f32) (harg3 : arg3.IsWhole) (arg4 : Memref sig .tc .vmem S1x2x4x256x128 .f32) (harg4 : arg4.IsWhole) (arg5 : Memref sig .tc .vmem S1x128 .f32) (harg5 : arg5.IsWhole) (arg6 : Memref sig .tc .vmem S1x28x1x56x256 .f32) (harg6 : arg6.IsWhole)
    (x0 : Vec Ideal S1x58x67x256 .f32) (x1 : Vec Ideal S1x2x4x256x128 .f32) (x2 : Vec Ideal S1x128 .f32)
    (r q o : ℕ) (hr : r < 28) (hq : q < 56) (ho : o < 128) :
    at5 (out5_A_3 c i arg3 harg3 arg4 harg4 arg5 harg5 arg6 harg6 x0 x1 x2) 0 r 0 q (0 * 128 + o)
      = max ((∑ u ∈ Finset.range 2, ∑ e ∈ Finset.range 2, ∑ k ∈ Finset.range 256,
          at4 x0 0 (28 * (i 2).val + u + (i 1).val + r) (e + 0 + q) k * at5 x1 0 0 (2 * u + e) k o) + at2 x2 0 o) 0 := by
  have hq' : q < 64 := by omega
  unfold out5_A_3
  rw [View.read_writes_eq_canon _ _ _ (cover5_A_3 c i arg3 harg3 arg4 harg4 arg5 harg5 arg6 harg6 x0 x1 x2)]
  unfold kernelRun5_A
  dsimp only
  rw [View.canon_unit_zero (S := S1x28x1x56x256) (off := ![0, 0, 0, 0, 0]) (by funext a; fin_cases a <;> rfl)]
  refine (pay5_at0 _ _ _ _ _ _ _ _ _ _ _ _ _ _ _ _ _ _ r q o hr hq ho).trans ?_
  unfold kernelRun5_A.sl.r_1
  simp only [rd_at4 arg3 harg3 x0 (k5_off1 i 0#32) (k5_off1_eq i 0) _ r q _ hr hq', rd_at4 arg3 harg3 x0 (k5_off2 i 0#32) (k5_off2_eq i 0) _ r q _ hr hq', rd_at4 arg3 harg3 x0 (k5_off1 i 1#32) (k5_off1_eq i 1) _ r q _ hr hq', rd_at4 arg3 harg3 x0 (k5_off2 i 1#32) (k5_off2_eq i 1) _ r q _ hr hq', rd_at5, rd_at2]
  simp only [Finset.sum_range_succ _ 1, Finset.sum_range_succ _ 0, Finset.sum_range_zero, zero_add, add_assoc, Nat.mul_zero, Nat.mul_one, Nat.zero_add, Nat.add_zero]
  simp only [Fin.val_zero, Fin.val_one, Nat.zero_add, Nat.reduceMul, Nat.reduceAdd]

theorem out5_at1 (c : Dev nD) (i : grid5.Coords) (arg3 : Memref sig .tc .vmem S1x58x67x256 .f32) (harg3 : arg3.IsWhole) (arg4 : Memref sig .tc .vmem S1x2x4x256x128 .f32) (harg4 : arg4.IsWhole) (arg5 : Memref sig .tc .vmem S1x128 .f32) (harg5 : arg5.IsWhole) (arg6 : Memref sig .tc .vmem S1x28x1x56x256 .f32) (harg6 : arg6.IsWhole)
    (x0 : Vec Ideal S1x58x67x256 .f32) (x1 : Vec Ideal S1x2x4x256x128 .f32) (x2 : Vec Ideal S1x128 .f32)
    (r q o : ℕ) (hr : r < 28) (hq : q < 56) (ho : o < 128) :
    at5 (out5_A_3 c i arg3 harg3 arg4 harg4 arg5 harg5 arg6 harg6 x0 x1 x2) 0 r 0 q (1 * 128 + o)
      = max ((∑ u ∈ Finset.range 2, ∑ e ∈ Finset.range 2, ∑ k ∈ Finset.range 256,
          at4 x0 0 (28 * (i 2).val + u + (i 1).val + r) (e + 1 + q) k * at5 x1 0 1 (2 * u + e) k o) + at2 x2 0 o) 0 := by
  have hq' : q < 64 := by omega
  unfold out5_A_3
  rw [View.read_writes_eq_canon _ _ _ (cover5_A_3 c i arg3 harg3 arg4 harg4 arg5 harg5 arg6 harg6 x0 x1 x2)]
  unfold kernelRun5_A
  dsimp only
  rw [View.canon_unit_zero (S := S1x28x1x56x256) (off := ![0, 0, 0, 0, 0]) (by funext a; fin_cases a <;> rfl)]
  refine (pay5_at1 _ _ _ _ _ _ _ _ _ _ _ _ _ _ _ _ _ _ r q o hr hq ho).trans ?_
  unfold kernelRun5_A.sl.v104
  simp only [rd_at4 arg3 harg3 x0 (k5_off2 i 0#32) (k5_off2_eq i 0) _ r q _ hr hq', rd_at4 arg3 harg3 x0 (k5_off3 i 0#32) (k5_off3_eq i 0) _ r q _ hr hq', rd_at4 arg3 harg3 x0 (k5_off2 i 1#32) (k5_off2_eq i 1) _ r q _ hr hq', rd_at4 arg3 harg3 x0 (k5_off3 i 1#32) (k5_off3_eq i 1) _ r q _ hr hq', rd_at5, rd_at2]
  simp only [Finset.sum_range_succ _ 1, Finset.sum_range_succ _ 0, Finset.sum_range_zero, zero_add, add_assoc, Nat.mul_zero, Nat.mul_one, Nat.zero_add, Nat.add_zero]
  simp only [Fin.val_zero, Fin.val_one, Nat.zero_add, Nat.reduceMul, Nat.reduceAdd, show 1 + (1 + q) = 2 + q by omega]

/-- The stored block at any of its channels: column parity and channel are quotient and remainder. -/
theorem out5_at (c : Dev nD) (i : grid5.Coords) (arg3 : Memref sig .tc .vmem S1x58x67x256 .f32) (harg3 : arg3.IsWhole) (arg4 : Memref sig .tc .vmem S1x2x4x256x128 .f32) (harg4 : arg4.IsWhole) (arg5 : Memref sig .tc .vmem S1x128 .f32) (harg5 : arg5.IsWhole) (arg6 : Memref sig .tc .vmem S1x28x1x56x256 .f32) (harg6 : arg6.IsWhole)
    (x0 : Vec Ideal S1x58x67x256 .f32) (x1 : Vec Ideal S1x2x4x256x128 .f32) (x2 : Vec Ideal S1x128 .f32)
    (r q z : ℕ) (hr : r < 28) (hq : q < 56) (hz : z < 256) :
    at5 (out5_A_3 c i arg3 harg3 arg4 harg4 arg5 harg5 arg6 harg6 x0 x1 x2) 0 r 0 q z
      = max ((∑ u ∈ Finset.range 2, ∑ e ∈ Finset.range 2, ∑ k ∈ Finset.range 256,
          at4 x0 0 (28 * (i 2).val + u + (i 1).val + r) (e + z / 128 + q) k * at5 x1 0 (z / 128) (2 * u + e) k (z % 128)) + at2 x2 0 (z % 128)) 0 := by
  by_cases h : z < 128
  · obtain ⟨o, ho, rfl⟩ : ∃ o, o < 128 ∧ z = 0 * 128 + o := ⟨z, h, by omega⟩
    rw [out5_at0 c i arg3 harg3 arg4 harg4 arg5 harg5 arg6 harg6 x0 x1 x2 r q o hr hq ho, show (0 * 128 + o) / 128 = 0 by omega, show (0 * 128 + o) % 128 = o by omega]
  · obtain ⟨o, ho, rfl⟩ : ∃ o, o < 128 ∧ z = 1 * 128 + o := ⟨z - 128, by omega, by omega⟩
    rw [out5_at1 c i arg3 harg3 arg4 harg4 arg5 harg5 arg6 harg6 x0 x1 x2 r q o hr hq ho, show (1 * 128 + o) / 128 = 1 by omega, show (1 * 128 + o) % 128 = o by omega]

section Array
variable (V : (c : Dev nD) → (b : Ref sig .tc) → Buf (Elt Ideal) ((c : Thread nD τ).loc b))

theorem blk5_0 (c : Dev nD) (t : Fin cfg5.N) (r q k : ℕ) :
    at4 (a := 1) (b := 58) (c := 67) (d := 256) (iblk5 (F := Ideal) V c 0 t) 0 r q k
      = at4 (a := 8) (b := 58) (c := 67) (d := 256) (V c main_v37) (grid5.coords t 0).val r q k := by
  have e : ∀ t : Fin cfg5.N, win5_0.index t = ![(grid5.coords t 0).val, 0, 0, 0] := (by decide +kernel : ∀ t : Fin grid5.N, _)
  have ht : (grid5.coords t 0).val < 8 := (grid5.coords t 0).isLt
  unfold at4
  by_cases h : r < 58 ∧ q < 67 ∧ k < 256
  · rw [dif_pos ⟨Nat.one_pos, h⟩, dif_pos ⟨ht, h⟩]
    blk_simp [iblk5]
    refine congrArg (V c main_v37) ?_
    blk_ext [e]
  · rw [dif_neg (fun h' => h h'.2), dif_neg (fun h' => h h'.2)]

theorem blk5_1 (c : Dev nD) (t : Fin cfg5.N) (s u k o : ℕ) :
    at5 (a := 1) (b := 2) (c := 4) (d := 256) (e := 128) (iblk5 (F := Ideal) V c 1 t) 0 s u k o
      = at5 (a := 2) (b := 2) (c := 4) (d := 256) (e := 128) (V c main_v40) (grid5.coords t 1).val s u k o := by
  have e : ∀ t : Fin cfg5.N, win5_1.index t = ![(grid5.coords t 1).val, 0, 0, 0, 0] := (by decide +kernel : ∀ t : Fin grid5.N, _)
  have ht : (grid5.coords t 1).val < 2 := (grid5.coords t 1).isLt
  unfold at5
  by_cases h : s < 2 ∧ u < 4 ∧ k < 256 ∧ o < 128
  · rw [dif_pos ⟨Nat.one_pos, h⟩, dif_pos ⟨ht, h⟩]
    blk_simp [iblk5]
    refine congrArg (V c main_v40) ?_
    blk_ext [e]
  · rw [dif_neg (fun h' => h h'.2), dif_neg (fun h' => h h'.2)]

theorem blk5_2 (c : Dev nD) (t : Fin cfg5.N) : iblk5 (F := Ideal) V c 2 t = V c main_v41 := by
  have e : ∀ t : Fin cfg5.N, win5_2.index t = ![0, 0] := (by decide +kernel : ∀ t : Fin grid5.N, _)
  funext x
  blk_simp [iblk5]
  refine congrArg (V c main_v41) ?_
  blk_ext [e]

/-- The array the sixth pallas_call leaves. -/
theorem arr5 (c : Dev nD) : (dat5 (F := Ideal) V c).arrAt 3 cfg5.N
    = fun j => max (deconvAt (a := 8) (b := 58) (c := 67) (d := 256) (e := 2) (f := 2) (g := 4) (h := 256) (i := 128) (l := 1) (m := 128)
        (V c main_v37) (V c main_v40) (V c main_v41) (j 0).val (j 1).val (j 2).val (j 3).val ((j 4).val / 128) ((j 4).val % 128)) 0 := by
  refine (dat5 V c).arrAt_eq_of_covers 3 _ (by decide +kernel) fun t hf y => ?_
  have e : ∀ t : Fin cfg5.N, win5_3.index t = ![(grid5.coords t 0).val, (grid5.coords t 2).val, (grid5.coords t 1).val, 0, 0] := (by decide +kernel : ∀ t : Fin grid5.N, _)
  have h0 : (y 0).val = 0 := Nat.lt_one_iff.mp (y 0).isLt
  have h2 : (y 2).val = 0 := Nat.lt_one_iff.mp (y 2).isLt
  have h4 : (y 4).val < 256 := (y 4).isLt
  blk_simp [e]
  rw [after5_3]
  unfold outsAt5
  refine (at5_ix (a := 1) (b := 28) (c := 1) (d := 56) (e := 256) _ y).trans ?_
  rw [h0, h2]
  rw [out5_at c _ _ _ _ _ _ _ _ _ _ _ _ _ _ _ (y 1).isLt (y 3).isLt h4]
  simp only [blk5_0, blk5_1, blk5_2]
  unfold deconvAt
  refine congrArg (fun z => max (z + _) 0) (Finset.sum_congr rfl fun s _ => Finset.sum_congr rfl fun u _ => Finset.sum_congr rfl fun k _ => ?_)
  rw [show 28 * (grid5.coords t 2).val + s + (grid5.coords t 1).val + (y 1).val = s + (grid5.coords t 1).val + ((grid5.coords t 2).val * 28 + (y 1).val) by omega]
end Array

end Cert.KernelIdeal.Gen
end
-- ==== Proof.Region6.lean ====
/- The seventh pallas_call (the second transposed convolution), read as a formula of its operand arrays. -/
module

public import proofs.«01_k».proof.Proof.Deconv
public import proofs.«01_k».proof.Proof.Gen.KernelIdeal.Frame.Region6

@[expose] public section

set_option maxRecDepth 16384

noncomputable section

open scoped BigOperators

namespace Cert.KernelIdeal.Gen

open Idealize.ShloMosaic Idealize.ShloMosaic.TcCoe Idealize.ShloMosaic.Tactic
open Cert.Proof

/-- The stored block at column parity 0: four taps added in order, plus the bias. -/
theorem pay6_at0 (a0 a1 a2 a3 a4 a5 a6 a7 : Vec Ideal S1x28x120x128 .f32) (w0 w1 w2 w3 w4 w5 w6 w7 : Vec Ideal S1x1x1x128x3 .f32)
    (b b1 : Vec Ideal S1x3 .f32) (r q o : ℕ) (hr : r < 28) (hq : q < 112) (ho : o < 3) :
    at5 (k6_pay1 (k6_pay3 (k6_pay2 a0 w0 a1 w1) a2 w2 a3 w3 b) (k6_pay5 (k6_pay4 a4) w4 a5 w5 a6 w6) a7 w7 b1) 0 r 0 q (0 * 3 + o)
      = ∑ k ∈ Finset.range 128, at4 a0 0 r q k * at5 w0 0 0 0 k o
        + ∑ k ∈ Finset.range 128, at4 a1 0 r q k * at5 w1 0 0 0 k o
        + ∑ k ∈ Finset.range 128, at4 a2 0 r q k * at5 w2 0 0 0 k o
        + ∑ k ∈ Finset.range 128, at4 a3 0 r q k * at5 w3 0 0 0 k o
        + at2 b 0 o := by
  have hq' : q < 120 := by omega
  have hrow : r * 120 + q < 3360 := by omega
  unfold k6_pay1 k6_pay2 k6_pay3 k6_pay4 k6_pay5
  dsimp only
  rw [pairBlock_fst (R := 28) _ _ _ _ rfl r q o hr hq ho, cut_at (R := 28) (C := 120) _ _ _ rfl r q o hr hq ho]
  simp only [addf_at2, biasRow_at _ _ _ _ _ hrow]
  simp only [tap5_at (R := 28) (C := 120) dot_S3360x128_S128x3_S3360x3_1_0_0_1_n_n _ _ _ _ _ _ _ rfl rfl r q o hr hq' ho]

/-- The stored block at column parity 1: four taps added in order, plus the bias. -/
theorem pay6_at1 (a0 a1 a2 a3 a4 a5 a6 a7 : Vec Ideal S1x28x120x128 .f32) (w0 w1 w2 w3 w4 w5 w6 w7 : Vec Ideal S1x1x1x128x3 .f32)
    (b b1 : Vec Ideal S1x3 .f32) (r q o : ℕ) (hr : r < 28) (hq : q < 112) (ho : o < 3) :
    at5 (k6_pay1 (k6_pay3 (k6_pay2 a0 w0 a1 w1) a2 w2 a3 w3 b) (k6_pay5 (k6_pay4 a4) w4 a5 w5 a6 w6) a7 w7 b1) 0 r 0 q (1 * 3 + o)
      = ∑ k ∈ Finset.range 128, at4 a4 0 r q k * at5 w4 0 0 0 k o
        + ∑ k ∈ Finset.range 128, at4 a5 0 r q k * at5 w5 0 0 0 k o
        + ∑ k ∈ Finset.range 128, at4 a6 0 r q k * at5 w6 0 0 0 k o
        + ∑ k ∈ Finset.range 128, at4 a7 0 r q k * at5 w7 0 0 0 k o
        + at2 b1 0 o := by
  have hq' : q < 120 := by omega
  have hrow : r * 120 + q < 3360 := by omega
  unfold k6_pay1 k6_pay2 k6_pay3 k6_pay4 k6_pay5
  dsimp only
  rw [pairBlock_snd (R := 28) _ _ _ _ rfl r q o hr hq ho, cut_at (R := 28) (C := 120) _ _ _ rfl r q o hr hq ho]
  simp only [addf_at2, biasRow_at _ _ _ _ _ hrow]
  simp only [tap5_at (R := 28) (C := 120) dot_S3360x128_S128x3_S3360x3_1_0_0_1_n_n _ _ _ _ _ _ _ rfl rfl r q o hr hq' ho]

theorem out6_at0 (c : Dev nD) (i : grid6.Coords) (arg3 : Memref sig .tc .vmem S1x114x123x128 .f32) (harg3 : arg3.IsWhole) (arg4 : Memref sig .tc .vmem S1x2x4x128x3 .f32) (harg4 : arg4.IsWhole) (arg5 : Memref sig .tc .vmem S1x3 .f32) (harg5 : arg5.IsWhole) (arg6 : Memref sig .tc .vmem S1x28x1x112x6 .f32) (harg6 : arg6.IsWhole)
    (x0 : Vec Ideal S1x114x123x128 .f32) (x1 : Vec Ideal S1x2x4x128x3 .f32) (x2 : Vec Ideal S1x3 .f32)
    (r q o : ℕ) (hr : r < 28) (hq : q < 112) (ho : o < 3) :
    at5 (out6_A_3 c i arg3 harg3 arg4 harg4 arg5 harg5 arg6 harg6 x0 x1 x2) 0 r 0 q (0 * 3 + o)
      = (∑ u ∈ Finset.range 2, ∑ e ∈ Finset.range 2, ∑ k ∈ Finset.range 128,
          at4 x0 0 (28 * (i 2).val + u + (i 1).val + r) (e + 0 + q) k * at5 x1 0 0 (2 * u + e) k o) + at2 x2 0 o := by
  have hq' : q < 120 := by omega
  unfold out6_A_3
  rw [View.read_writes_eq_canon _ _ _ (cover6_A_3 c i arg3 harg3 arg4 harg4 arg5 harg5 arg6 harg6 x0 x1 x2)]
  unfold kernelRun6_A
  dsimp only
  rw [View.canon_unit_zero (S := S1x28x1x112x6) (off := ![0, 0, 0, 0, 0]) (by funext a; fin_cases a <;> rfl)]
  refine (pay6_at0 _ _ _ _ _ _ _ _ _ _ _ _ _ _ _ _ _ _ r q o hr hq ho).trans ?_
  unfold kernelRun6_A.sl.r_1
  simp only [rd_at4 arg3 harg3 x0 (k6_off1 i 0#32) (k6_off1_eq i 0) _ r q _ hr hq', rd_at4 arg3 harg3 x0 (k6_off2 i 0#32) (k6_off2_eq i 0) _ r q _ hr hq', rd_at4 arg3 harg3 x0 (k6_off1 i 1#32) (k6_off1_eq i 1) _ r q _ hr hq', rd_at4 arg3 harg3 x0 (k6_off2 i 1#32) (k6_off2_eq i 1) _ r q _ hr hq', rd_at5, rd_at2]
  simp only [Finset.sum_range_succ _ 1, Finset.sum_range_succ _ 0, Finset.sum_range_zero, zero_add, add_assoc, Nat.mul_zero, Nat.mul_one, Nat.zero_add, Nat.add_zero]
  simp only [Fin.val_zero, Fin.val_one, Nat.zero_add, Nat.reduceMul, Nat.reduceAdd]

theorem out6_at1 (c : Dev nD) (i : grid6.Coords) (arg3 : Memref sig .tc .vmem S1x114x123x128 .f32) (harg3 : arg3.IsWhole) (arg4 : Memref sig .tc .vmem S1x2x4x128x3 .f32) (harg4 : arg4.IsWhole) (arg5 : Memref sig .tc .vmem S1x3 .f32) (harg5 : arg5.IsWhole) (arg6 : Memref sig .tc .vmem S1x28x1x112x6 .f32) (harg6 : arg6.IsWhole)
    (x0 : Vec Ideal S1x114x123x128 .f32) (x1 : Vec Ideal S1x2x4x128x3 .f32) (x2 : Vec Ideal S1x3 .f32)
    (r q o : ℕ) (hr : r < 28) (hq : q < 112) (ho : o < 3) :
    at5 (out6_A_3 c i arg3 harg3 arg4 harg4 arg5 harg5 arg6 harg6 x0 x1 x2) 0 r 0 q (1 * 3 + o)
      = (∑ u ∈ Finset.range 2, ∑ e ∈ Finset.range 2, ∑ k ∈ Finset.range 128,
          at4 x0 0 (28 * (i 2).val + u + (i 1).val + r) (e + 1 + q) k * at5 x1 0 1 (2 * u + e) k o) + at2 x2 0 o := by
  have hq' : q < 120 := by omega
  unfold out6_A_3
  rw [View.read_writes_eq_canon _ _ _ (cover6_A_3 c i arg3 harg3 arg4 harg4 arg5 harg5 arg6 harg6 x0 x1 x2)]
  unfold kernelRun6_A
  dsimp only
  rw [View.canon_unit_zero (S := S1x28x1x112x6) (off := ![0, 0, 0, 0, 0]) (by funext a; fin_cases a <;> rfl)]
  refine (pay6_at1 _ _ _ _ _ _ _ _ _ _ _ _ _ _ _ _ _ _ r q o hr hq ho).trans ?_
  unfold kernelRun6_A.sl.v102
  simp only [rd_at4 arg3 harg3 x0 (k6_off2 i 0#32) (k6_off2_eq i 0) _ r q _ hr hq', rd_at4 arg3 harg3 x0 (k6_off3 i 0#32) (k6_off3_eq i 0) _ r q _ hr hq', rd_at4 arg3 harg3 x0 (k6_off2 i 1#32) (k6_off2_eq i 1) _ r q _ hr hq', rd_at4 arg3 harg3 x0 (k6_off3 i 1#32) (k6_off3_eq i 1) _ r q _ hr hq', rd_at5, rd_at2]
  simp only [Finset.sum_range_succ _ 1, Finset.sum_range_succ _ 0, Finset.sum_range_zero, zero_add, add_assoc, Nat.mul_zero, Nat.mul_one, Nat.zero_add, Nat.add_zero]
  simp only [Fin.val_zero, Fin.val_one, Nat.zero_add, Nat.reduceMul, Nat.reduceAdd, show 1 + (1 + q) = 2 + q by omega]

/-- The stored block at any of its channels: column parity and channel are quotient and remainder. -/
theorem out6_at (c : Dev nD) (i : grid6.Coords) (arg3 : Memref sig .tc .vmem S1x114x123x128 .f32) (harg3 : arg3.IsWhole) (arg4 : Memref sig .tc .vmem S1x2x4x128x3 .f32) (harg4 : arg4.IsWhole) (arg5 : Memref sig .tc .vmem S1x3 .f32) (harg5 : arg5.IsWhole) (arg6 : Memref sig .tc .vmem S1x28x1x112x6 .f32) (harg6 : arg6.IsWhole)
    (x0 : Vec Ideal S1x114x123x128 .f32) (x1 : Vec Ideal S1x2x4x128x3 .f32) (x2 : Vec Ideal S1x3 .f32)
    (r q z : ℕ) (hr : r < 28) (hq : q < 112) (hz : z < 6) :
    at5 (out6_A_3 c i arg3 harg3 arg4 harg4 arg5 harg5 arg6 harg6 x0 x1 x2) 0 r 0 q z
      = (∑ u ∈ Finset.range 2, ∑ e ∈ Finset.range 2, ∑ k ∈ Finset.range 128,
          at4 x0 0 (28 * (i 2).val + u + (i 1).val + r) (e + z / 3 + q) k * at5 x1 0 (z / 3) (2 * u + e) k (z % 3)) + at2 x2 0 (z % 3) := by
  by_cases h : z < 3
  · obtain ⟨o, ho, rfl⟩ : ∃ o, o < 3 ∧ z = 0 * 3 + o := ⟨z, h, by omega⟩
    rw [out6_at0 c i arg3 harg3 arg4 harg4 arg5 harg5 arg6 harg6 x0 x1 x2 r q o hr hq ho, show (0 * 3 + o) / 3 = 0 by omega, show (0 * 3 + o) % 3 = o by omega]
  · obtain ⟨o, ho, rfl⟩ : ∃ o, o < 3 ∧ z = 1 * 3 + o := ⟨z - 3, by omega, by omega⟩
    rw [out6_at1 c i arg3 harg3 arg4 harg4 arg5 harg5 arg6 harg6 x0 x1 x2 r q o hr hq ho, show (1 * 3 + o) / 3 = 1 by omega, show (1 * 3 + o) % 3 = o by omega]

section Array
variable (V : (c : Dev nD) → (b : Ref sig .tc) → Buf (Elt Ideal) ((c : Thread nD τ).loc b))

theorem blk6_0 (c : Dev nD) (t : Fin cfg6.N) (r q k : ℕ) :
    at4 (a := 1) (b := 114) (c := 123) (d := 128) (iblk6 (F := Ideal) V c 0 t) 0 r q k
      = at4 (a := 8) (b := 114) (c := 123) (d := 128) (V c main_v44) (grid6.coords t 0).val r q k := by
  have e : ∀ t : Fin cfg6.N, win6_0.index t = ![(grid6.coords t 0).val, 0, 0, 0] := (by decide +kernel : ∀ t : Fin grid6.N, _)
  have ht : (grid6.coords t 0).val < 8 := (grid6.coords t 0).isLt
  unfold at4
  by_cases h : r < 114 ∧ q < 123 ∧ k < 128
  · rw [dif_pos ⟨Nat.one_pos, h⟩, dif_pos ⟨ht, h⟩]
    blk_simp [iblk6]
    refine congrArg (V c main_v44) ?_
    blk_ext [e]
  · rw [dif_neg (fun h' => h h'.2), dif_neg (fun h' => h h'.2)]

theorem blk6_1 (c : Dev nD) (t : Fin cfg6.N) (s u k o : ℕ) :
    at5 (a := 1) (b := 2) (c := 4) (d := 128) (e := 3) (iblk6 (F := Ideal) V c 1 t) 0 s u k o
      = at5 (a := 2) (b := 2) (c := 4) (d := 128) (e := 3) (V c main_v47) (grid6.coords t 1).val s u k o := by
  have e : ∀ t : Fin cfg6.N, win6_1.index t = ![(grid6.coords t 1).val, 0, 0, 0, 0] := (by decide +kernel : ∀ t : Fin grid6.N, _)
  have ht : (grid6.coords t 1).val < 2 := (grid6.coords t 1).isLt
  unfold at5
  by_cases h : s < 2 ∧ u < 4 ∧ k < 128 ∧ o < 3
  · rw [dif_pos ⟨Nat.one_pos, h⟩, dif_pos ⟨ht, h⟩]
    blk_simp [iblk6]
    refine congrArg (V c main_v47) ?_
    blk_ext [e]
  · rw [dif_neg (fun h' => h h'.2), dif_neg (fun h' => h h'.2)]

theorem blk6_2 (c : Dev nD) (t : Fin cfg6.N) : iblk6 (F := Ideal) V c 2 t = V c main_v48 := by
  have e : ∀ t : Fin cfg6.N, win6_2.index t = ![0, 0] := (by decide +kernel : ∀ t : Fin grid6.N, _)
  funext x
  blk_simp [iblk6]
  refine congrArg (V c main_v48) ?_
  blk_ext [e]

/-- The array the seventh pallas_call leaves. -/
theorem arr6 (c : Dev nD) : (dat6 (F := Ideal) V c).arrAt 3 cfg6.N
    = fun j => (deconvAt (a := 8) (b := 114) (c := 123) (d := 128) (e := 2) (f := 2) (g := 4) (h := 128) (i := 3) (l := 1) (m := 3)
        (V c main_v44) (V c main_v47) (V c main_v48) (j 0).val (j 1).val (j 2).val (j 3).val ((j 4).val / 3) ((j 4).val % 3)) := by
  refine (dat6 V c).arrAt_eq_of_covers 3 _ (by decide +kernel) fun t hf y => ?_
  have e : ∀ t : Fin cfg6.N, win6_3.index t = ![(grid6.coords t 0).val, (grid6.coords t 2).val, (grid6.coords t 1).val, 0, 0] := (by decide +kernel : ∀ t : Fin grid6.N, _)
  have h0 : (y 0).val = 0 := Nat.lt_one_iff.mp (y 0).isLt
  have h2 : (y 2).val = 0 := Nat.lt_one_iff.mp (y 2).isLt
  have h4 : (y 4).val < 6 := (y 4).isLt
  blk_simp [e]
  rw [after6_3]
  unfold outsAt6
  refine (at5_ix (a := 1) (b := 28) (c := 1) (d := 112) (e := 6) _ y).trans ?_
  rw [h0, h2]
  rw [out6_at c _ _ _ _ _ _ _ _ _ _ _ _ _ _ _ (y 1).isLt (y 3).isLt h4]
  simp only [blk6_0, blk6_1, blk6_2]
  unfold deconvAt
  refine congrArg (· + _) (Finset.sum_congr rfl fun s _ => Finset.sum_congr rfl fun u _ => Finset.sum_congr rfl fun k _ => ?_)
  rw [show 28 * (grid6.coords t 2).val + s + (grid6.coords t 1).val + (y 1).val = s + (grid6.coords t 1).val + ((grid6.coords t 2).val * 28 + (y 1).val) by omega]
end Array

end Cert.KernelIdeal.Gen
end
-- ==== Proof.KernelDec.lean ====
/- The kernel's quantiser and decoder, as layers over natural coordinates, and its three results. -/
module

public import proofs.«01_k».proof.Proof.KernelEnc
public import proofs.«01_k».proof.Proof.Region3
public import proofs.«01_k».proof.Proof.Region4
public import proofs.«01_k».proof.Proof.Region5
public import proofs.«01_k».proof.Proof.Region6

@[expose] public section

set_option maxRecDepth 16384

noncomputable section

open scoped BigOperators

namespace Cert.KernelIdeal.Gen

open Idealize.ShloMosaic Idealize.ShloMosaic.TcCoe Idealize.ShloMosaic.Tactic
open Idealize.ShloMosaic.StableHlo
open Cert.Proof

variable (m : (ℓ : Loc nD τ sig) → Buf (Elt Ideal) ℓ) (ρ : Dev nD → PrngReg)

def kCB (c : Dev nD) := at2 (a := 1024) (b := 256) (m (c.tc.loc main_arg7))
def kW4 (c : Dev nD) := at4 (a := 256) (b := 256) (c := 3) (d := 3) (m (c.tc.loc main_arg8))
def kB4 (c : Dev nD) := at1 (a := 256) (m (c.tc.loc main_arg9))
def kW5 (c : Dev nD) := at4 (a := 128) (b := 256) (c := 4) (d := 4) (m (c.tc.loc main_arg10))
def kB5 (c : Dev nD) := at1 (a := 128) (m (c.tc.loc main_arg11))
def kW6 (c : Dev nD) := at4 (a := 3) (b := 128) (c := 4) (d := 4) (m (c.tc.loc main_arg12))
def kB6 (c : Dev nD) := at1 (a := 3) (m (c.tc.loc main_arg13))

/-! ## The quantiser -/

theorem v28_at (c : Dev nD) {n i j k : ℕ} (hn : n < 8) (hi : i < 56) (hj : j < 56) (hk : k < 256) :
    at2 (a := 25088) (b := 256) (W21 m ρ c (Proc.devRef .tc main_v28)) ((n * 56 + i) * 56 + j) k = kE m c n k i j := by
  after_reads_simp
  exact (rows_at _ _ rfl n i j k hn hi hj hk).trans (layer3 m ρ c n i j k)

theorem v29_at (c : Dev nD) (k r : ℕ) : at2 (a := 256) (b := 1024) (W21 m ρ c (Proc.devRef .tc main_v29)) k r = kCB m c r k := by
  after_reads_simp
  rw [W20_args m ρ c main_arg7 (by decide)]
  exact swap_at _ _ k r

theorem v30_at (c : Dev nD) {n i j o : ℕ} (hn : n < 8) (hi : i < 56) (hj : j < 56) (ho : o < 256) :
    at2 (a := 25088) (b := 256) (W22 m ρ c (Proc.devRef .tc main_v30)) ((n * 56 + i) * 56 + j) o = quant (kE m c) (kCB m c) n o i j := by
  rw [at2_of _ (show (n * 56 + i) * 56 + j < 25088 by omega) ho]
  refine (congrFun ((W22_arr m ρ c 3).trans (arr3 (V21 m ρ) c)) _).trans ?_
  show at2 (a := 1024) (b := 256) (W21 m ρ c (Proc.devRef .tc main_arg7)) (firstMin 1024 (distAt _ _ ((n * 56 + i) * 56 + j))) o = _
  unfold quant
  rw [W21_args m ρ c main_arg7 (by decide)]
  refine congrArg (kCB m c · o) (firstMin_congr fun r hr => ?_)
  unfold distAt distF
  have hz := fun k (hk : k ∈ Finset.range 256) => v28_at m ρ c hn hi hj (Finset.mem_range.mp hk)
  have hc := fun k => v29_at m ρ c k r
  exact congrArg₂ (· - ·) (congrArg₂ (· + ·) (Finset.sum_congr rfl fun k hk => congrArg₂ (· * ·) (hz k hk) (hz k hk))
    (Finset.sum_congr rfl fun k _ => congrArg₂ (· * ·) (hc k) (hc k)))
    (congrArg (two * ·) (Finset.sum_congr rfl fun k hk => congrArg₂ (· * ·) (hz k hk) (hc k)))

/-- The quantised pixels. -/
def kQ (c : Dev nD) := LQ (kE m c) (kCB m c)

theorem v31_at (c : Dev nD) (n i j o : ℕ) :
    at4 (a := 8) (b := 56) (c := 56) (d := 256) (W25 m ρ c (Proc.devRef .tc main_v31)) n i j o = kQ m c n o i j := by
  refine at4_clip (fun n i j o hn hi hj ho => ?_) n i j o
  after_reads_simp
  exact (pixels_at _ _ rfl n i j o hn hi hj ho).trans (v30_at m ρ c hn hi hj ho)

/-! ## The decoder's first convolution -/

theorem v32_at (c : Dev nD) {n i j k : ℕ} (hn : n < 8) (hi : i < 58) (hj : j < 66) (hk : k < 256) :
    at4 (a := 8) (b := 58) (c := 66) (d := 256) (W25 m ρ c (Proc.devRef .tc main_v32)) n i j k = padF (kQ m c) n k i j := by
  have h31 := v31_at m ρ c
  revert h31
  after_reads_simp
  simp -implicitDefEqProofs only [TRef.toBuf, TRef.ofBuf, cast_cast, cast_eq]
  exact fun h31 => border_at zeroPad _ _ h31 hn hi hj hk

theorem v34_at (c : Dev nD) {u t k o : ℕ} (hu : u < 3) (ht : t < 3) (hk : k < 256) (ho : o < 256) :
    at3 (a := 9) (b := 256) (c := 256) (W25 m ρ c (Proc.devRef .tc main_v34)) (3 * u + t) k o = kW4 m c o k u t := by
  after_reads_simp
  rw [W22_args m ρ c main_arg8 (by decide)]
  exact tapKernel_at _ _ _ u t k o hu ht hk ho

theorem v35_at (c : Dev nD) (o : ℕ) : at2 (a := 1) (b := 256) (W25 m ρ c (Proc.devRef .tc main_v35)) 0 o = kB4 m c o := by
  after_reads_simp
  rw [W22_args m ρ c main_arg9 (by decide)]
  exact biasCast_at _ _ o

theorem layer4 (c : Dev nD) (n i j o : ℕ) :
    at4 (a := 8) (b := 56) (c := 56) (d := 256) (W26 m ρ c (Proc.devRef .tc main_v36)) n i j o
      = L4 (kQ m c) (kW4 m c) (kB4 m c) n o i j := by
  refine at4_clip (fun n i j o hn hi hj ho => ?_) n i j o
  rw [at4_of _ hn hi hj ho]
  refine (congrFun ((W26_arr m ρ c 3).trans (arr4 (V25 m ρ) c)) _).trans ?_
  show max (conv3At _ _ _ n i j o) 0 = max (conv3 256 _ _ _ n o i j) 0
  congr 1
  exact conv3At_eq (r := i) (q := j) (fun s t k hs ht hk => v32_at m ρ c (i := s + i) (j := t + j) hn (by omega) (by omega) hk)
    (fun s t k hs ht hk => v34_at m ρ c hs ht hk ho) (v35_at m ρ c o)

/-! ## The transposed convolutions -/

theorem v37_at (c : Dev nD) {n i j k : ℕ} (hn : n < 8) (hi : i < 58) (hj : j < 67) (hk : k < 256) :
    at4 (a := 8) (b := 58) (c := 67) (d := 256) (W29 m ρ c (Proc.devRef .tc main_v37)) n i j k
      = padF (L4 (kQ m c) (kW4 m c) (kB4 m c)) n k i j := by
  after_reads_simp
  simp -implicitDefEqProofs only [TRef.toBuf, TRef.ofBuf, cast_cast, cast_eq]
  exact border_at zeroPad _ _ (layer4 m ρ c) hn hi hj hk

theorem v40_at (c : Dev nD) {r s u t k o : ℕ} (hr : r < 2) (hs : s < 2) (hu : u < 2) (ht : t < 2) (hk : k < 256) (ho : o < 128) :
    at5 (a := 2) (b := 2) (c := 4) (d := 256) (e := 128) (W29 m ρ c (Proc.devRef .tc main_v40)) r s (2 * u + t) k o
      = kW5 m c o k (2 * u + r) (2 * t + s) := by
  after_reads_simp
  rw [W26_args m ρ c main_arg10 (by decide)]
  exact phaseKernel_at _ _ _ _ r s u t k o hr hs hu ht hk ho

theorem v41_at (c : Dev nD) (o : ℕ) : at2 (a := 1) (b := 128) (W29 m ρ c (Proc.devRef .tc main_v41)) 0 o = kB5 m c o := by
  after_reads_simp
  rw [W26_args m ρ c main_arg11 (by decide)]
  exact biasCast_at _ _ o

theorem v42_at (c : Dev nD) {n I J r s o : ℕ} (hn : n < 8) (hI : I < 56) (hJ : J < 56) (hr : r < 2) (hs : s < 2) (ho : o < 128) :
    at5 (a := 8) (b := 56) (c := 2) (d := 56) (e := 256) (W30 m ρ c (Proc.devRef .tc main_v42)) n I r J (s * 128 + o)
      = relu (deconv 256 (L4 (kQ m c) (kW4 m c) (kB4 m c)) (kW5 m c) (kB5 m c)) n o (2 * I + r) (2 * J + s) := by
  rw [at5_of _ hn hI hr hJ (show s * 128 + o < 256 by omega)]
  refine (congrFun ((W30_arr m ρ c 3).trans (arr5 (V29 m ρ) c)) _).trans ?_
  show max (deconvAt _ _ _ n I r J ((s * 128 + o) / 128) ((s * 128 + o) % 128)) 0 = max (deconv 256 _ _ _ n o (2 * I + r) (2 * J + s)) 0
  rw [show (s * 128 + o) / 128 = s by omega, show (s * 128 + o) % 128 = o by omega]
  congr 1
  exact deconvAt_eq hr hs (fun u t k hu ht hk => v37_at m ρ c (i := u + r + I) (j := t + s + J) hn (by omega) (by omega) hk)
    (fun u t k hu ht hk => v40_at m ρ c hr hs hu ht hk ho) (v41_at m ρ c o)

theorem layer5 (c : Dev nD) (n i j o : ℕ) :
    at4 (a := 8) (b := 112) (c := 112) (d := 128) (W31 m ρ c (Proc.devRef .tc main_v43)) n i j o
      = L5 (L4 (kQ m c) (kW4 m c) (kB4 m c)) (kW5 m c) (kB5 m c) n o i j := by
  refine at4_clip (fun n i j o hn hi hj ho => ?_) n i j o
  after_reads_simp
  have h := interleave_at (n := 8) (A := 56) (B := 56) (c := 128) (A2 := 112) (B2 := 112) (C2 := 256)
    (W30 m ρ c (Proc.devRef .tc main_v42)) shapeCasts_S8x56x2x56x256_S8x112x112x128 rfl rfl rfl n (i / 2) (j / 2) (i % 2) (j % 2) o
    hn (by omega) (by omega) (by omega) (by omega) ho
  rw [v42_at m ρ c hn (by omega) (by omega) (by omega) (by omega) ho, show 2 * (i / 2) + i % 2 = i by omega,
    show 2 * (j / 2) + j % 2 = j by omega] at h
  exact h

theorem v44_at (c : Dev nD) {n i j k : ℕ} (hn : n < 8) (hi : i < 114) (hj : j < 123) (hk : k < 128) :
    at4 (a := 8) (b := 114) (c := 123) (d := 128) (W33 m ρ c (Proc.devRef .tc main_v44)) n i j k
      = padF (L5 (L4 (kQ m c) (kW4 m c) (kB4 m c)) (kW5 m c) (kB5 m c)) n k i j := by
  have h43 := layer5 m ρ c
  revert h43
  after_reads_simp
  simp -implicitDefEqProofs only [TRef.toBuf, TRef.ofBuf, cast_cast, cast_eq]
  exact fun h43 => border_at zeroPad _ _ h43 hn hi hj hk

theorem v47_at (c : Dev nD) {r s u t k o : ℕ} (hr : r < 2) (hs : s < 2) (hu : u < 2) (ht : t < 2) (hk : k < 128) (ho : o < 3) :
    at5 (a := 2) (b := 2) (c := 4) (d := 128) (e := 3) (W33 m ρ c (Proc.devRef .tc main_v47)) r s (2 * u + t) k o
      = kW6 m c o k (2 * u + r) (2 * t + s) := by
  after_reads_simp
  rw [W30_args m ρ c main_arg12 (by decide)]
  exact phaseKernel_at _ _ _ _ r s u t k o hr hs hu ht hk ho

theorem v48_at (c : Dev nD) (o : ℕ) : at2 (a := 1) (b := 3) (W33 m ρ c (Proc.devRef .tc main_v48)) 0 o = kB6 m c o := by
  after_reads_simp
  rw [W30_args m ρ c main_arg13 (by decide)]
  exact biasCast_at _ _ o

theorem v49_at (c : Dev nD) {n I J r s o : ℕ} (hn : n < 8) (hI : I < 112) (hJ : J < 112) (hr : r < 2) (hs : s < 2) (ho : o < 3) :
    at5 (a := 8) (b := 112) (c := 2) (d := 112) (e := 6) (W34 m ρ c (Proc.devRef .tc main_v49)) n I r J (s * 3 + o)
      = deconv 128 (L5 (L4 (kQ m c) (kW4 m c) (kB4 m c)) (kW5 m c) (kB5 m c)) (kW6 m c) (kB6 m c) n o (2 * I + r) (2 * J + s) := by
  rw [at5_of _ hn hI hr hJ (show s * 3 + o < 6 by omega)]
  refine (congrFun ((W34_arr m ρ c 3).trans (arr6 (V33 m ρ) c)) _).trans ?_
  show deconvAt _ _ _ n I r J ((s * 3 + o) / 3) ((s * 3 + o) % 3) = deconv 128 _ _ _ n o (2 * I + r) (2 * J + s)
  rw [show (s * 3 + o) / 3 = s by omega, show (s * 3 + o) % 3 = o by omega]
  exact deconvAt_eq hr hs (fun u t k hu ht hk => v44_at m ρ c (i := u + r + I) (j := t + s + J) hn (by omega) (by omega) hk)
    (fun u t k hu ht hk => v47_at m ρ c hr hs hu ht hk ho) (v48_at m ρ c o)

/-- The decoded image. -/
def kD (c : Dev nD) := L6 (L5 (L4 (kQ m c) (kW4 m c) (kB4 m c)) (kW5 m c) (kB5 m c)) (kW6 m c) (kB6 m c)

/-! ## The results -/

theorem v51_at (c : Dev nD) (n o i j : ℕ) :
    at4 (a := 8) (b := 3) (c := 224) (d := 224) (W35 m ρ c (Proc.devRef .tc main_v51)) n o i j = kD m c n o i j := by
  refine at4_clip' (fun n o i j hn ho hi hj => ?_) n o i j
  after_reads_simp
  refine (toNchw_at _ _ n o i j).trans ?_
  have h := interleave_at (n := 8) (A := 112) (B := 112) (c := 3) (A2 := 224) (B2 := 224) (C2 := 6)
    (W34 m ρ c (Proc.devRef .tc main_v49)) shapeCasts_S8x112x2x112x6_S8x224x224x3 rfl rfl rfl n (i / 2) (j / 2) (i % 2) (j % 2) o
    hn (by omega) (by omega) (by omega) (by omega) ho
  rw [v49_at m ρ c hn (by omega) (by omega) (by omega) (by omega) ho, show 2 * (i / 2) + i % 2 = i by omega,
    show 2 * (j / 2) + j % 2 = j by omega] at h
  exact h

theorem keep (c : Dev nD) : W34 m ρ c (Proc.devRef .tc main_v27) = W20 m ρ c (Proc.devRef .tc main_v27)
    ∧ W34 m ρ c (Proc.devRef .tc main_v31) = W25 m ρ c (Proc.devRef .tc main_v31) := by
  refine ⟨?_, ?_⟩
  · rw [W34_of_ne m ρ c main_v27 (by decide), W33_of m ρ c main_v27 (by decide), W32_of m ρ c main_v27 (by decide),
      W31_of m ρ c main_v27 (by decide), W30_of_ne m ρ c main_v27 (by decide), W29_of m ρ c main_v27 (by decide),
      W28_of m ρ c main_v27 (by decide), W27_of m ρ c main_v27 (by decide), W26_of_ne m ρ c main_v27 (by decide),
      W25_of m ρ c main_v27 (by decide), W24_of m ρ c main_v27 (by decide), W23_of m ρ c main_v27 (by decide),
      W22_of_ne m ρ c main_v27 (by decide), W21_of m ρ c main_v27 (by decide)]
  · rw [W34_of_ne m ρ c main_v31 (by decide), W33_of m ρ c main_v31 (by decide), W32_of m ρ c main_v31 (by decide),
      W31_of m ρ c main_v31 (by decide), W30_of_ne m ρ c main_v31 (by decide), W29_of m ρ c main_v31 (by decide),
      W28_of m ρ c main_v31 (by decide), W27_of m ρ c main_v31 (by decide), W26_of_ne m ρ c main_v31 (by decide)]

theorem v52_at (c : Dev nD) (n o i j : ℕ) :
    at4 (a := 8) (b := 256) (c := 56) (d := 56) (W35 m ρ c (Proc.devRef .tc main_v52)) n o i j = kE m c n o i j := by
  after_reads_simp
  rw [(keep m ρ c).1]
  exact (toNchw_at _ _ n o i j).trans (layer3 m ρ c n i j o)

theorem v53_at (c : Dev nD) (n o i j : ℕ) :
    at4 (a := 8) (b := 256) (c := 56) (d := 56) (W35 m ρ c (Proc.devRef .tc main_v53)) n o i j = kQ m c n o i j := by
  have h31 := v31_at m ρ c
  generalize hz : W25 m ρ c (Proc.devRef .tc main_v31) = z at h31
  after_reads_simp
  rw [(keep m ρ c).2, hz]
  exact (toNchw_at _ _ n o i j).trans (h31 n i j o)

end Cert.KernelIdeal.Gen
end
-- ==== Proof.RefLayout.lean ====
/- The reference's data movements read at natural coordinates: slices, stacked patches, the product over the patches, biases
   and the three kinds of convolution they make up. -/
module

public import proofs.«01_k».proof.Proof.Spec

@[expose] public section

noncomputable section

open scoped BigOperators

namespace Cert.Proof

open Idealize.ShloMosaic

/-- Every `p`-th row from `s` on, every `q`-th column from `t` on. -/
theorem strides_at {a b c d e f s t p q : ℕ} (x : (⟨4, ![a, b, c, d]⟩ : Shape).Idx → EReal)
    (h : (⟨4, ![a, b, c, d]⟩ : Shape).SlicesBy ![0, 0, s, t] ![1, 1, p, q] ⟨4, ![a, b, e, f]⟩) (n k i j : ℕ)
    (hn : n < a) (hk : k < b) (hi : i < e) (hj : j < f) :
    at4 (Host.slice ⟨4, ![a, b, e, f]⟩ ![0, 0, s, t] ![1, 1, p, q] x h) n k i j = at4 x n k (s + p * i) (t + q * j) := by
  rw [at4_of _ hn hk hi hj]
  unfold Host.slice
  rw [at4_ix x]
  show at4 x (0 + 1 * n) (0 + 1 * k) (s + p * i) (t + q * j) = _
  rw [Nat.zero_add, Nat.one_mul, Nat.zero_add, Nat.one_mul]

/-- The rows from `s` on, the columns from `t` on. -/
theorem window_at {a b c d e f s t : ℕ} (x : (⟨4, ![a, b, c, d]⟩ : Shape).Idx → EReal)
    (h : (⟨4, ![a, b, c, d]⟩ : Shape).Slices ![0, 0, s, t] ⟨4, ![a, b, e, f]⟩) (n k i j : ℕ)
    (hn : n < a) (hk : k < b) (hi : i < e) (hj : j < f) :
    at4 (extractStridedSlice ⟨4, ![a, b, e, f]⟩ ![0, 0, s, t] x h) n k i j = at4 x n k (s + i) (t + j) := by
  rw [at4_of _ hn hk hi hj]
  unfold extractStridedSlice
  rw [at4_ix x]
  show at4 x (0 + n) (0 + k) (s + i) (t + j) = _
  rw [Nat.zero_add, Nat.zero_add]

/-- Four arrays of one shape joined along an axis. -/
def stack4 {α : Type} (s t : Shape) (a : Fin t.rank) (h : Shape.Concatenates [s, s, s, s] t a) (x0 x1 x2 x3 : s.Idx → α) : t.Idx → α :=
  concatenate t a [⟨s, x0⟩, ⟨s, x1⟩, ⟨s, x2⟩, ⟨s, x3⟩] h

/-- Four arrays stacked along the channels. -/
theorem stack4_at {a b c d e : ℕ} (x0 x1 x2 x3 : (⟨4, ![a, b, c, d]⟩ : Shape).Idx → EReal)
    (h : Shape.Concatenates [(⟨4, ![a, b, c, d]⟩ : Shape), ⟨4, ![a, b, c, d]⟩, ⟨4, ![a, b, c, d]⟩, ⟨4, ![a, b, c, d]⟩] ⟨4, ![a, e, c, d]⟩ 1)
    (he : e = 4 * b) (G : ℕ → ℕ → EReal) (n i j : ℕ) (hn : n < a) (hi : i < c) (hj : j < d)
    (h0 : ∀ k < b, at4 x0 n k i j = G 0 k) (h1 : ∀ k < b, at4 x1 n k i j = G 1 k)
    (h2 : ∀ k < b, at4 x2 n k i j = G 2 k) (h3 : ∀ k < b, at4 x3 n k i j = G 3 k) (u k : ℕ) (hu : u < 4) (hk : k < b) :
    at4 (stack4 ⟨4, ![a, b, c, d]⟩ ⟨4, ![a, e, c, d]⟩ 1 h x0 x1 x2 x3) n (u * b + k) i j = G u k := by
  unfold stack4
  subst he
  have hb : u * b + k < 4 * b := mul_add_lt hu hk
  rw [at4_of _ hn hb hi hj]
  have side : ∀ z : Fin 4, z ≠ 1 → ((ValueIdx.ix4 ⟨n, hn⟩ ⟨k, hk⟩ ⟨i, hi⟩ ⟨j, hj⟩ : (⟨4, ![a, b, c, d]⟩ : Shape).Idx) z).val
      = ((ValueIdx.ix4 ⟨n, hn⟩ ⟨u * b + k, hb⟩ ⟨i, hi⟩ ⟨j, hj⟩ : (⟨4, ![a, 4 * b, c, d]⟩ : Shape).Idx) z).val := by
    intro z hz
    match z with
    | ⟨0, _⟩ => rfl
    | ⟨1, _⟩ => exact absurd rfl hz
    | ⟨2, _⟩ => rfl
    | ⟨3, _⟩ => rfl
  let xs : List ((s : Shape) × (s.Idx → EReal)) := [⟨(⟨4, ![a, b, c, d]⟩ : Shape), x0⟩, ⟨_, x1⟩, ⟨_, x2⟩, ⟨_, x3⟩]
  have hpre : ∀ u ≤ 4, (((xs.take u).map (·.1)).map fun s => if h : s.rank = (⟨4, ![a, 4 * b, c, d]⟩ : Shape).rank then s.size ((1 : Fin 4).cast h.symm) else 0).sum
      = u * b := by
    intro u hu
    match u, hu with
    | 0, _ => show 0 = 0 * b; omega
    | 1, _ => show b + 0 = 1 * b; omega
    | 2, _ => show b + (b + 0) = 2 * b; omega
    | 3, _ => show b + (b + (b + 0)) = 3 * b; omega
    | 4, _ => show b + (b + (b + (b + 0))) = 4 * b; omega
  match u, hu with
  | 0, _ =>
    rw [← h0 k hk, at4_of x0 hn hk hi hj]
    exact concatenate_apply_piece (t := ⟨4, ![a, 4 * b, c, d]⟩) 1 xs h _ 0 (by simp [xs]) _ x0 rfl rfl (0 * b) (hpre 0 (by omega)) _ side rfl
  | 1, _ =>
    rw [← h1 k hk, at4_of x1 hn hk hi hj]
    exact concatenate_apply_piece (t := ⟨4, ![a, 4 * b, c, d]⟩) 1 xs h _ 1 (by simp [xs]) _ x1 rfl rfl (1 * b) (hpre 1 (by omega)) _ side rfl
  | 2, _ =>
    rw [← h2 k hk, at4_of x2 hn hk hi hj]
    exact concatenate_apply_piece (t := ⟨4, ![a, 4 * b, c, d]⟩) 1 xs h _ 2 (by simp [xs]) _ x2 rfl rfl (2 * b) (hpre 2 (by omega)) _ side rfl
  | 3, _ =>
    rw [← h3 k hk, at4_of x3 hn hk hi hj]
    exact concatenate_apply_piece (t := ⟨4, ![a, 4 * b, c, d]⟩) 1 xs h _ 3 (by simp [xs]) _ x3 rfl rfl (3 * b) (hpre 3 (by omega)) _ side rfl

/-- Three arrays of one shape joined along an axis. -/
def stack3 {α : Type} (s t : Shape) (a : Fin t.rank) (h : Shape.Concatenates [s, s, s] t a) (x0 x1 x2 : s.Idx → α) : t.Idx → α :=
  concatenate t a [⟨s, x0⟩, ⟨s, x1⟩, ⟨s, x2⟩] h

/-- Three arrays stacked along the channels. -/
theorem stack3_at {a b c d e : ℕ} (x0 x1 x2 : (⟨4, ![a, b, c, d]⟩ : Shape).Idx → EReal)
    (h : Shape.Concatenates [(⟨4, ![a, b, c, d]⟩ : Shape), ⟨4, ![a, b, c, d]⟩, ⟨4, ![a, b, c, d]⟩] ⟨4, ![a, e, c, d]⟩ 1)
    (he : e = 3 * b) (G : ℕ → ℕ → EReal) (n i j : ℕ) (hn : n < a) (hi : i < c) (hj : j < d)
    (h0 : ∀ k < b, at4 x0 n k i j = G 0 k) (h1 : ∀ k < b, at4 x1 n k i j = G 1 k)
    (h2 : ∀ k < b, at4 x2 n k i j = G 2 k) (u k : ℕ) (hu : u < 3) (hk : k < b) :
    at4 (stack3 ⟨4, ![a, b, c, d]⟩ ⟨4, ![a, e, c, d]⟩ 1 h x0 x1 x2) n (u * b + k) i j = G u k := by
  unfold stack3
  subst he
  have hb : u * b + k < 3 * b := mul_add_lt hu hk
  rw [at4_of _ hn hb hi hj]
  have side : ∀ z : Fin 4, z ≠ 1 → ((ValueIdx.ix4 ⟨n, hn⟩ ⟨k, hk⟩ ⟨i, hi⟩ ⟨j, hj⟩ : (⟨4, ![a, b, c, d]⟩ : Shape).Idx) z).val
      = ((ValueIdx.ix4 ⟨n, hn⟩ ⟨u * b + k, hb⟩ ⟨i, hi⟩ ⟨j, hj⟩ : (⟨4, ![a, 3 * b, c, d]⟩ : Shape).Idx) z).val := by
    intro z hz
    match z with
    | ⟨0, _⟩ => rfl
    | ⟨1, _⟩ => exact absurd rfl hz
    | ⟨2, _⟩ => rfl
    | ⟨3, _⟩ => rfl
  let xs : List ((s : Shape) × (s.Idx → EReal)) := [⟨(⟨4, ![a, b, c, d]⟩ : Shape), x0⟩, ⟨_, x1⟩, ⟨_, x2⟩]
  have hpre : ∀ u ≤ 3, (((xs.take u).map (·.1)).map fun s => if h : s.rank = (⟨4, ![a, 3 * b, c, d]⟩ : Shape).rank then s.size ((1 : Fin 4).cast h.symm) else 0).sum
      = u * b := by
    intro u hu
    match u, hu with
    | 0, _ => show 0 = 0 * b; omega
    | 1, _ => show b + 0 = 1 * b; omega
    | 2, _ => show b + (b + 0) = 2 * b; omega
    | 3, _ => show b + (b + (b + 0)) = 3 * b; omega
  match u, hu with
  | 0, _ =>
    rw [← h0 k hk, at4_of x0 hn hk hi hj]
    exact concatenate_apply_piece (t := ⟨4, ![a, 3 * b, c, d]⟩) 1 xs h _ 0 (by simp [xs]) _ x0 rfl rfl (0 * b) (hpre 0 (by omega)) _ side rfl
  | 1, _ =>
    rw [← h1 k hk, at4_of x1 hn hk hi hj]
    exact concatenate_apply_piece (t := ⟨4, ![a, 3 * b, c, d]⟩) 1 xs h _ 1 (by simp [xs]) _ x1 rfl rfl (1 * b) (hpre 1 (by omega)) _ side rfl
  | 2, _ =>
    rw [← h2 k hk, at4_of x2 hn hk hi hj]
    exact concatenate_apply_piece (t := ⟨4, ![a, 3 * b, c, d]⟩) 1 xs h _ 2 (by simp [xs]) _ x2 rfl rfl (2 * b) (hpre 2 (by omega)) _ side rfl

/-- The dimension numbers of weights times patches: the contraction runs over both second axes. -/
def patchDot (O K N H L : ℕ)
    (wf : DotDims.WF ⟨2, ![O, K]⟩ ⟨4, ![N, K, H, L]⟩ ⟨4, ![O, N, H, L]⟩ [1] [1] [0] [0, 2, 3] [] []) :
    DotDims ⟨2, ![O, K]⟩ ⟨4, ![N, K, H, L]⟩ ⟨4, ![O, N, H, L]⟩ :=
  ⟨[1], [1], [0], [0, 2, 3], [], [], wf⟩

/-- Weights times patches, the examples moved to the front. -/
theorem patchDot_at {O K N H L : ℕ}
    {wf : DotDims.WF ⟨2, ![O, K]⟩ ⟨4, ![N, K, H, L]⟩ ⟨4, ![O, N, H, L]⟩ [1] [1] [0] [0, 2, 3] [] []}
    (d : DotDims ⟨2, ![O, K]⟩ ⟨4, ![N, K, H, L]⟩ ⟨4, ![O, N, H, L]⟩) (hd : d = patchDot O K N H L wf) (prec : Option ContractPrecision)
    (l : FVec Ideal ⟨2, ![O, K]⟩ .f32) (r : FVec Ideal ⟨4, ![N, K, H, L]⟩ .f32)
    (h : (⟨4, ![O, N, H, L]⟩ : Shape).Transposes [1, 0, 2, 3] ⟨4, ![N, O, H, L]⟩) (n o i j : ℕ)
    (hn : n < N) (ho : o < O) (hi : i < H) (hj : j < L) :
    at4 (transpose ⟨4, ![N, O, H, L]⟩ [1, 0, 2, 3] (Host.dotGeneral (F := Ideal) (φ₁ := .f32) (φ₂ := .f32) d prec l r) h) n o i j
      = ∑ k ∈ Finset.range K, at2 l o k * at4 r n k i j := by
  subst hd
  rw [at4_of _ hn ho hi hj]
  refine (transpose_apply _ _ h _ (ValueIdx.ix4 ⟨o, ho⟩ ⟨n, hn⟩ ⟨i, hi⟩ ⟨j, hj⟩) fun b => by
    match b with
    | ⟨0, _⟩ => rfl
    | ⟨1, _⟩ => rfl
    | ⟨2, _⟩ => rfl
    | ⟨3, _⟩ => rfl).trans ?_
  refine (Ideal.dotGeneral_apply _ _ _ _ _ _).trans ?_
  have hr : (patchDot O K N H L wf).contr.rank = 1 := rfl
  have hs : (patchDot O K N H L wf).contr.size ⟨0, by rw [hr]; exact Nat.one_pos⟩ = K := rfl
  rw [← Equiv.sum_comp (ValueIdx.contrEquiv1 _ K hr hs).symm, Finset.sum_range]
  refine Finset.sum_congr rfl fun k _ => ?_
  have hk := ValueIdx.contrEquiv1_symm_val _ K hr hs k
  rw [at2_of l ho k.isLt, at4_of r hn k.isLt hi hj]
  refine congrArg₂ (· * ·) (congrArg l ?_) (congrArg r ?_)
  · funext a; apply Fin.ext
    match a with
    | ⟨0, _⟩ => rfl
    | ⟨1, _⟩ => exact hk
  · funext a; apply Fin.ext
    match a with
    | ⟨0, _⟩ => rfl
    | ⟨1, _⟩ => exact hk
    | ⟨2, _⟩ => rfl
    | ⟨3, _⟩ => rfl

/-- The weights laid out as the patches are: column tap, row tap, channel. -/
theorem patchKernel_at {o c s K : ℕ} (w : (⟨4, ![o, c, s, s]⟩ : Shape).Idx → EReal)
    (h1 : (⟨4, ![o, c, s, s]⟩ : Shape).Transposes [0, 3, 2, 1] ⟨4, ![o, s, s, c]⟩)
    (h2 : (⟨4, ![o, s, s, c]⟩ : Shape).ShapeCasts ⟨2, ![o, K]⟩) (hK : K = s * (s * c)) (i t u k : ℕ)
    (hi : i < o) (ht : t < s) (hu : u < s) (hk : k < c) :
    at2 (shapeCast ⟨2, ![o, K]⟩ (transpose ⟨4, ![o, s, s, c]⟩ [0, 3, 2, 1] w h1) h2) i (t * (s * c) + (u * c + k)) = at4 w i k u t := by
  subst hK
  rw [at2_of _ hi (mul_add_lt ht (mul_add_lt hu hk)), at4_of w hi hk hu ht]
  refine (shapeCast_apply _ h2 _ (ValueIdx.ix4 ⟨i, hi⟩ ⟨t, ht⟩ ⟨u, hu⟩ ⟨k, hk⟩) ?_).trans (transpose_apply _ _ h1 _ _ fun b => by
    match b with
    | ⟨0, _⟩ => rfl
    | ⟨1, _⟩ => rfl
    | ⟨2, _⟩ => rfl
    | ⟨3, _⟩ => rfl)
  rw [Shape.rowMajor_val_four, Shape.rowMajor_val_two]
  show ((i * s + t) * s + u) * c + k = i * (s * (s * c)) + (t * (s * c) + (u * c + k))
  ring

/-- A bias per channel spread over the array. -/
theorem biasSpread_at {a o c d : ℕ} (v : (⟨1, ![o]⟩ : Shape).Idx → EReal)
    (h1 : (⟨1, ![o]⟩ : Shape).BroadcastsInDim ⟨4, ![1, o, 1, 1]⟩ ![1])
    (h2 : (⟨4, ![1, o, 1, 1]⟩ : Shape).BroadcastsInDim ⟨4, ![a, o, c, d]⟩ ![0, 1, 2, 3])
    (n k i j : ℕ) (hn : n < a) (hk : k < o) (hi : i < c) (hj : j < d) :
    at4 (broadcastInDim ⟨4, ![a, o, c, d]⟩ ![0, 1, 2, 3] h2 (broadcastInDim ⟨4, ![1, o, 1, 1]⟩ ![1] h1 v)) n k i j = at1 v k := by
  rw [at4_of _ hn hk hi hj, at1_of v hk]
  refine (broadcastInDim_apply _ h2 _ _ (ValueIdx.ix4 0 ⟨k, hk⟩ 0 0) fun z => ?_).trans (broadcastInDim_apply _ h1 _ _ _ fun z => ?_)
  · match z with
    | ⟨0, _⟩ => rfl
    | ⟨1, _⟩ =>
      show k = if o = 1 then 0 else k
      split <;> omega
    | ⟨2, _⟩ => rfl
    | ⟨3, _⟩ => rfl
  · match z with
    | ⟨0, _⟩ =>
      show k = if o = 1 then 0 else k
      split <;> omega

/-- A border of zeros around every channel. -/
theorem frame_at {a b c d c' d' h2 h3 : ℕ} {x : (⟨4, ![a, b, c, d]⟩ : Shape).Idx → EReal} {u : Shape}
    {v : u.Idx → EReal} (hv : ∀ i, v i = 0) {X : ℕ → ℕ → ℕ → ℕ → EReal}
    (h : (⟨4, ![a, b, c, d]⟩ : Shape).Pads ![0, 0, 1, 1] ![0, 0, h2, h3] ![0, 0, 0, 0] ⟨4, ![a, b, c', d']⟩) (hu : 0 < u.numel)
    (hX : ∀ n k i j, at4 x n k i j = X n k i j)
    {n k i j : ℕ} (hn : n < a) (hk : k < b) (hi : i < c') (hj : j < d') :
    at4 (pad ⟨4, ![a, b, c', d']⟩ ![0, 0, 1, 1] ![0, 0, h2, h3] ![0, 0, 0, 0] x v h hu) n k i j = padF X n k i j := by
  rw [pad4_at x v hv h hu n k i j hn hk hi hj]
  unfold padF
  simp only [Nat.zero_le, Nat.mod_one, Nat.zero_add, Nat.div_one, Nat.sub_zero, and_true, true_and]
  by_cases hc : 1 ≤ i ∧ 1 ≤ j
  · rw [if_pos hc, if_pos hc, hX]
  · rw [if_neg hc, if_neg hc]

/-- An array spread out by zeros, with a border of two. -/
def spreadF (X : ℕ → ℕ → ℕ → ℕ → EReal) (n c y z : ℕ) : EReal :=
  if (2 ≤ y ∧ (y - 2) % 2 = 0) ∧ 2 ≤ z ∧ (z - 2) % 2 = 0 then X n c ((y - 2) / 2) ((z - 2) / 2) else 0

theorem spread_at {a b c d c' d' h2 h3 : ℕ} {x : (⟨4, ![a, b, c, d]⟩ : Shape).Idx → EReal} {u : Shape}
    {v : u.Idx → EReal} (hv : ∀ i, v i = 0) {X : ℕ → ℕ → ℕ → ℕ → EReal}
    (h : (⟨4, ![a, b, c, d]⟩ : Shape).Pads ![0, 0, 2, 2] ![0, 0, h2, h3] ![0, 0, 1, 1] ⟨4, ![a, b, c', d']⟩) (hu : 0 < u.numel)
    (hX : ∀ n k i j, at4 x n k i j = X n k i j)
    {n k i j : ℕ} (hn : n < a) (hk : k < b) (hi : i < c') (hj : j < d') :
    at4 (pad ⟨4, ![a, b, c', d']⟩ ![0, 0, 2, 2] ![0, 0, h2, h3] ![0, 0, 1, 1] x v h hu) n k i j = spreadF X n k i j := by
  rw [pad4_at x v hv h hu n k i j hn hk hi hj]
  unfold spreadF
  simp only [Nat.zero_le, Nat.mod_one, Nat.zero_add, Nat.div_one, Nat.sub_zero, and_true, true_and, Nat.reduceAdd]
  split
  · rw [hX]
  · rfl

/-- Only every other tap meets an element. -/
theorem sum_alternate {M : Type*} [AddCommMonoid M] (i : ℕ) (f : ℕ → M) (hf : ∀ u, (i + u) % 2 ≠ 0 → f u = 0) :
    ∑ u ∈ Finset.range 4, f u = ∑ u ∈ Finset.range 2, f (2 * u + i % 2) := by
  simp only [Finset.sum_range_succ, Finset.sum_range_zero, zero_add]
  rcases Nat.mod_two_eq_zero_or_one i with h | h
  · rw [h, hf 1 (by omega), hf 3 (by omega)]; simp
  · rw [h, hf 0 (by omega), hf 2 (by omega)]; simp

theorem spread_sum {C : ℕ} {X W : ℕ → ℕ → ℕ → ℕ → EReal} {n o i j : ℕ} :
    (∑ u ∈ Finset.range 4, ∑ t ∈ Finset.range 4, ∑ k ∈ Finset.range C, spreadF X n k (i + u) (j + t) * W o k u t)
      = ∑ u ∈ Finset.range 2, ∑ t ∈ Finset.range 2, ∑ k ∈ Finset.range C,
        padF X n k (i / 2 + u + i % 2) (j / 2 + t + j % 2) * W o k (2 * u + i % 2) (2 * t + j % 2) := by
  rw [sum_alternate i _ fun u hu => Finset.sum_eq_zero fun t _ => Finset.sum_eq_zero fun k _ => by
    unfold spreadF; rw [if_neg (by omega), zero_mul]]
  refine Finset.sum_congr rfl fun u _ => ?_
  rw [sum_alternate j _ fun t ht => Finset.sum_eq_zero fun k _ => by
    unfold spreadF; rw [if_neg (by omega), zero_mul]]
  refine Finset.sum_congr rfl fun t _ => Finset.sum_congr rfl fun k _ => ?_
  congr 1
  unfold spreadF padF
  by_cases h : 1 ≤ i / 2 + u + i % 2 ∧ 1 ≤ j / 2 + t + j % 2
  · rw [if_pos h, if_pos (by omega), show (i + (2 * u + i % 2) - 2) / 2 = i / 2 + u + i % 2 - 1 by omega,
      show (j + (2 * t + j % 2) - 2) / 2 = j / 2 + t + j % 2 - 1 by omega]
  · rw [if_neg h, if_neg (by omega)]

theorem addf_at4 {a b c d : ℕ} (x y : FVec Ideal ⟨4, ![a, b, c, d]⟩ .f32) (n k i j : ℕ) :
    at4 (addf x y) n k i j = at4 x n k i j + at4 y n k i j := by
  unfold at4; split
  · rfl
  · exact (add_zero 0).symm

theorem relu_at4 {a b c d : ℕ} (x : FVec Ideal ⟨4, ![a, b, c, d]⟩ .f32) (h : (⟨0, ![]⟩ : Shape).BroadcastsInDim ⟨4, ![a, b, c, d]⟩ ![])
    (n k i j : ℕ) :
    at4 (maximumf x (broadcastInDim ⟨4, ![a, b, c, d]⟩ ![] h (constant ⟨0, ![]⟩ .f32 0x00000000#32 : FVec Ideal _ .f32))) n k i j
      = max (at4 x n k i j) 0 := by
  unfold at4; split
  · exact congrArg (max _) Ideal.ofBits_zero_f32
  · exact (max_self 0).symm

/-- The sum over stacked patches is the convolution's sum. -/
theorem patch_sum {s c K : ℕ} (hK : K = s * (s * c)) (l r : ℕ → EReal) (P W : ℕ → ℕ → ℕ → EReal)
    (hl : ∀ t u k, t < s → u < s → k < c → l (t * (s * c) + (u * c + k)) = W k u t)
    (hr : ∀ t u k, t < s → u < s → k < c → r (t * (s * c) + (u * c + k)) = P k u t) :
    ∑ k ∈ Finset.range K, l k * r k
      = ∑ u ∈ Finset.range s, ∑ t ∈ Finset.range s, ∑ k ∈ Finset.range c, P k u t * W k u t := by
  subst hK
  rw [sum_range_mul s (s * c), Finset.sum_comm]
  rw [Finset.sum_comm]
  rw [Finset.sum_congr rfl fun t _ => sum_range_mul s c _, Finset.sum_comm]
  refine Finset.sum_congr rfl fun u hu => Finset.sum_congr rfl fun t ht => Finset.sum_congr rfl fun k hk => ?_
  have h1 := Finset.mem_range.mp hu
  have h2 := Finset.mem_range.mp ht
  have h3 := Finset.mem_range.mp hk
  rw [hl t u k h2 h1 h3, hr t u k h2 h1 h3, mul_comm]

end Cert.Proof
end
-- ==== Proof.RefRun.lean ====
/- The reference's operations in order, cut at the ends of its layers, its run, and its buffers after each cut. -/
module

public import proofs.«01_k».proof.Proof.Gen.ReferenceIdeal
public import Idealize.ShloMosaic.Lib.StableHlo.Run
public import Idealize.ShloMosaic.Lib.StableHlo.ReadAt
public import Idealize.ShloMosaic.Lib.Pipeline.Frame
public import proofs.«01_k».proof.Proof.RefLayout

@[expose] public section

set_option maxRecDepth 16384

noncomputable section

namespace Cert.ReferenceIdeal.Layers

open Cert.ReferenceIdeal Cert.ReferenceIdeal.Gen Idealize.ShloMosaic Idealize.ShloMosaic.TcCoe Idealize.SL.Sem Idealize.ShloMosaic.StableHlo
open Cert.Proof (stack3 stack4)

/-- The contents of a float buffer of a shape. -/
abbrev T (F : FTy → Type) (s : Shape) := (⟨s, .f32⟩ : BufTy).Contents (Elt F)

variable {F : FTy → Type} [FloatOps F]

/-- Reading four arrays and writing one. -/
def join4 (x a b c y : Ref sig .tc) (f : x.ty.Contents (Elt F) → a.ty.Contents (Elt F) → b.ty.Contents (Elt F) → c.ty.Contents (Elt F) → y.ty.Contents (Elt F))
    (hxs : ∀ k, ((![x, a, b, c] : Fin 4 → Ref sig .tc) k).space ≠ .host ∧ (((![x, a, b, c] : Fin 4 → Ref sig .tc) k : Ref sig .tc) : DevRef τ sig).isScoped = false := by decide)
    (hy : y.space ≠ .host ∧ (y : DevRef τ sig).isScoped = false := by exact ⟨by decide, rfl⟩) : HloOp τ sig (Elt F) :=
  nary ![x, a, b, c] y (fun u => f (u 0) (u 1) (u 2) (u 3)) hxs hy
theorem join4_result (x a b c y : Ref sig .tc) (f : x.ty.Contents (Elt F) → a.ty.Contents (Elt F) → b.ty.Contents (Elt F) → c.ty.Contents (Elt F) → y.ty.Contents (Elt F)) (hxs hy)
    (W : Valuation τ sig (Elt F)) :
    (join4 x a b c y f hxs hy).result W (no_index (Proc.devRef .tc y))
      = f (W (Proc.devRef .tc x)) (W (Proc.devRef .tc a)) (W (Proc.devRef .tc b)) (W (Proc.devRef .tc c)) := nary_result' (![x, a, b, c] : Fin 4 → Ref sig .tc) (fun u => f (u 0) (u 1) (u 2) (u 3)) hxs hy W
/-- Reading three arrays and writing one. -/
def join3 (x a b y : Ref sig .tc) (f : x.ty.Contents (Elt F) → a.ty.Contents (Elt F) → b.ty.Contents (Elt F) → y.ty.Contents (Elt F))
    (hxs : ∀ k, ((![x, a, b] : Fin 3 → Ref sig .tc) k).space ≠ .host ∧ (((![x, a, b] : Fin 3 → Ref sig .tc) k : Ref sig .tc) : DevRef τ sig).isScoped = false := by decide)
    (hy : y.space ≠ .host ∧ (y : DevRef τ sig).isScoped = false := by exact ⟨by decide, rfl⟩) : HloOp τ sig (Elt F) :=
  nary ![x, a, b] y (fun u => f (u 0) (u 1) (u 2)) hxs hy
theorem join3_result (x a b y : Ref sig .tc) (f : x.ty.Contents (Elt F) → a.ty.Contents (Elt F) → b.ty.Contents (Elt F) → y.ty.Contents (Elt F)) (hxs hy)
    (W : Valuation τ sig (Elt F)) :
    (join3 x a b y f hxs hy).result W (no_index (Proc.devRef .tc y))
      = f (W (Proc.devRef .tc x)) (W (Proc.devRef .tc a)) (W (Proc.devRef .tc b)) := nary_result' (![x, a, b] : Fin 3 → Ref sig .tc) (fun u => f (u 0) (u 1) (u 2)) hxs hy W

abbrev refOps0 : List (HloOp τ sig (Elt F)) :=
  [ nullary main_cst (constant S_ .f32 0x00000000#32),
    binary main_arg0 main_cst main_v0 ((fun x v => pad S8x3x226x226 ![0, 0, 1, 1] ![0, 0, 1, 1] ![0, 0, 0, 0] x v pads_S8x3x224x224_S8x3x226x226_000_000_110_110 h_S_) : T F S8x3x224x224 → T F S_ → T F S8x3x226x226),
    unary main_arg1 main_v1 ((transpose S128x4x4x3 [0, 3, 2, 1] · transposes_S128x3x4x4_S128x4x4x3_0_3_2_1) : T F S128x3x4x4 → T F S128x4x4x3),
    reshape main_v1 main_v2 rfl shapeCasts_S128x4x4x3_S128x48,
    unary main_v0 main_v3 ((Host.slice S8x3x112x226 ![0, 0, 0, 0] ![1, 1, 2, 1] · slicesBy_S8x3x226x226_S8x3x112x226_0s1_0s1_0s2_0s1) : T F S8x3x226x226 → T F S8x3x112x226),
    unary main_v0 main_v4 ((Host.slice S8x3x112x226 ![0, 0, 1, 0] ![1, 1, 2, 1] · slicesBy_S8x3x226x226_S8x3x112x226_0s1_0s1_1s2_0s1) : T F S8x3x226x226 → T F S8x3x112x226),
    unary main_v0 main_v5 ((Host.slice S8x3x112x226 ![0, 0, 2, 0] ![1, 1, 2, 1] · slicesBy_S8x3x226x226_S8x3x112x226_0s1_0s1_2s2_0s1) : T F S8x3x226x226 → T F S8x3x112x226),
    unary main_v0 main_v6 ((Host.slice S8x3x112x226 ![0, 0, 3, 0] ![1, 1, 2, 1] · slicesBy_S8x3x226x226_S8x3x112x226_0s1_0s1_3s2_0s1) : T F S8x3x226x226 → T F S8x3x112x226),
    join4 main_v3 main_v4 main_v5 main_v6 main_v7 (stack4 S8x3x112x226 S8x12x112x226 1 concatenates_S8x3x112x226_S8x3x112x226_S8x3x112x226_S8x3x112x226_S8x12x112x226_d1 : T F S8x3x112x226 → T F S8x3x112x226 → T F S8x3x112x226 → T F S8x3x112x226 → T F S8x12x112x226),
    unary main_v7 main_v8 ((Host.slice S8x12x112x112 ![0, 0, 0, 0] ![1, 1, 1, 2] · slicesBy_S8x12x112x226_S8x12x112x112_0s1_0s1_0s1_0s2) : T F S8x12x112x226 → T F S8x12x112x112),
    unary main_v7 main_v9 ((Host.slice S8x12x112x112 ![0, 0, 0, 1] ![1, 1, 1, 2] · slicesBy_S8x12x112x226_S8x12x112x112_0s1_0s1_0s1_1s2) : T F S8x12x112x226 → T F S8x12x112x112),
    unary main_v7 main_v10 ((Host.slice S8x12x112x112 ![0, 0, 0, 2] ![1, 1, 1, 2] · slicesBy_S8x12x112x226_S8x12x112x112_0s1_0s1_0s1_2s2) : T F S8x12x112x226 → T F S8x12x112x112),
    unary main_v7 main_v11 ((Host.slice S8x12x112x112 ![0, 0, 0, 3] ![1, 1, 1, 2] · slicesBy_S8x12x112x226_S8x12x112x112_0s1_0s1_0s1_3s2) : T F S8x12x112x226 → T F S8x12x112x112),
    join4 main_v8 main_v9 main_v10 main_v11 main_v12 (stack4 S8x12x112x112 S8x48x112x112 1 concatenates_S8x12x112x112_S8x12x112x112_S8x12x112x112_S8x12x112x112_S8x48x112x112_d1 : T F S8x12x112x112 → T F S8x12x112x112 → T F S8x12x112x112 → T F S8x12x112x112 → T F S8x48x112x112),
    binary main_v2 main_v12 main_v13 ((fun l r => Host.dotGeneral dot_S128x48_S8x48x112x112_S128x8x112x112_1_1_0_023_n_n none l r) : T F S128x48 → T F S8x48x112x112 → T F S128x8x112x112),
    unary main_v13 main_v14 ((transpose S8x128x112x112 [1, 0, 2, 3] · transposes_S128x8x112x112_S8x128x112x112_1_0_2_3) : T F S128x8x112x112 → T F S8x128x112x112),
    unary main_arg2 main_v15 (broadcastInDim S1x128x1x1 ![1] bcast_S128_S1x128x1x1_1 : T F S128 → T F S1x128x1x1),
    unary main_v15 main_v16 (broadcastInDim S8x128x112x112 ![0, 1, 2, 3] bcast_S1x128x1x1_S8x128x112x112_0_1_2_3 : T F S1x128x1x1 → T F S8x128x112x112),
    binary main_v14 main_v16 main_v17 (addf : T F S8x128x112x112 → T F S8x128x112x112 → T F S8x128x112x112),
    nullary main_cst_0 (constant S_ .f32 0x00000000#32),
    unary main_cst_0 main_v18 (broadcastInDim S8x128x112x112 ![] bcast_S_S8x128x112x112 : T F S_ → T F S8x128x112x112),
    binary main_v17 main_v18 main_v19 (maximumf : T F S8x128x112x112 → T F S8x128x112x112 → T F S8x128x112x112) ]

abbrev refOps1 : List (HloOp τ sig (Elt F)) :=
  [ nullary main_cst_1 (constant S_ .f32 0x00000000#32),
    binary main_v19 main_cst_1 main_v20 ((fun x v => pad S8x128x114x114 ![0, 0, 1, 1] ![0, 0, 1, 1] ![0, 0, 0, 0] x v pads_S8x128x112x112_S8x128x114x114_000_000_110_110 h_S_) : T F S8x128x112x112 → T F S_ → T F S8x128x114x114),
    unary main_arg3 main_v21 ((transpose S256x4x4x128 [0, 3, 2, 1] · transposes_S256x128x4x4_S256x4x4x128_0_3_2_1) : T F S256x128x4x4 → T F S256x4x4x128),
    reshape main_v21 main_v22 rfl shapeCasts_S256x4x4x128_S256x2048,
    unary main_v20 main_v23 ((Host.slice S8x128x56x114 ![0, 0, 0, 0] ![1, 1, 2, 1] · slicesBy_S8x128x114x114_S8x128x56x114_0s1_0s1_0s2_0s1) : T F S8x128x114x114 → T F S8x128x56x114),
    unary main_v20 main_v24 ((Host.slice S8x128x56x114 ![0, 0, 1, 0] ![1, 1, 2, 1] · slicesBy_S8x128x114x114_S8x128x56x114_0s1_0s1_1s2_0s1) : T F S8x128x114x114 → T F S8x128x56x114),
    unary main_v20 main_v25 ((Host.slice S8x128x56x114 ![0, 0, 2, 0] ![1, 1, 2, 1] · slicesBy_S8x128x114x114_S8x128x56x114_0s1_0s1_2s2_0s1) : T F S8x128x114x114 → T F S8x128x56x114),
    unary main_v20 main_v26 ((Host.slice S8x128x56x114 ![0, 0, 3, 0] ![1, 1, 2, 1] · slicesBy_S8x128x114x114_S8x128x56x114_0s1_0s1_3s2_0s1) : T F S8x128x114x114 → T F S8x128x56x114),
    join4 main_v23 main_v24 main_v25 main_v26 main_v27 (stack4 S8x128x56x114 S8x512x56x114 1 concatenates_S8x128x56x114_S8x128x56x114_S8x128x56x114_S8x128x56x114_S8x512x56x114_d1 : T F S8x128x56x114 → T F S8x128x56x114 → T F S8x128x56x114 → T F S8x128x56x114 → T F S8x512x56x114),
    unary main_v27 main_v28 ((Host.slice S8x512x56x56 ![0, 0, 0, 0] ![1, 1, 1, 2] · slicesBy_S8x512x56x114_S8x512x56x56_0s1_0s1_0s1_0s2) : T F S8x512x56x114 → T F S8x512x56x56),
    unary main_v27 main_v29 ((Host.slice S8x512x56x56 ![0, 0, 0, 1] ![1, 1, 1, 2] · slicesBy_S8x512x56x114_S8x512x56x56_0s1_0s1_0s1_1s2) : T F S8x512x56x114 → T F S8x512x56x56),
    unary main_v27 main_v30 ((Host.slice S8x512x56x56 ![0, 0, 0, 2] ![1, 1, 1, 2] · slicesBy_S8x512x56x114_S8x512x56x56_0s1_0s1_0s1_2s2) : T F S8x512x56x114 → T F S8x512x56x56),
    unary main_v27 main_v31 ((Host.slice S8x512x56x56 ![0, 0, 0, 3] ![1, 1, 1, 2] · slicesBy_S8x512x56x114_S8x512x56x56_0s1_0s1_0s1_3s2) : T F S8x512x56x114 → T F S8x512x56x56),
    join4 main_v28 main_v29 main_v30 main_v31 main_v32 (stack4 S8x512x56x56 S8x2048x56x56 1 concatenates_S8x512x56x56_S8x512x56x56_S8x512x56x56_S8x512x56x56_S8x2048x56x56_d1 : T F S8x512x56x56 → T F S8x512x56x56 → T F S8x512x56x56 → T F S8x512x56x56 → T F S8x2048x56x56),
    binary main_v22 main_v32 main_v33 ((fun l r => Host.dotGeneral dot_S256x2048_S8x2048x56x56_S256x8x56x56_1_1_0_023_n_n none l r) : T F S256x2048 → T F S8x2048x56x56 → T F S256x8x56x56),
    unary main_v33 main_v34 ((transpose S8x256x56x56 [1, 0, 2, 3] · transposes_S256x8x56x56_S8x256x56x56_1_0_2_3) : T F S256x8x56x56 → T F S8x256x56x56),
    unary main_arg4 main_v35 (broadcastInDim S1x256x1x1 ![1] bcast_S256_S1x256x1x1_1 : T F S256 → T F S1x256x1x1),
    unary main_v35 main_v36 (broadcastInDim S8x256x56x56 ![0, 1, 2, 3] bcast_S1x256x1x1_S8x256x56x56_0_1_2_3 : T F S1x256x1x1 → T F S8x256x56x56),
    binary main_v34 main_v36 main_v37 (addf : T F S8x256x56x56 → T F S8x256x56x56 → T F S8x256x56x56),
    nullary main_cst_2 (constant S_ .f32 0x00000000#32),
    unary main_cst_2 main_v38 (broadcastInDim S8x256x56x56 ![] bcast_S_S8x256x56x56 : T F S_ → T F S8x256x56x56),
    binary main_v37 main_v38 main_v39 (maximumf : T F S8x256x56x56 → T F S8x256x56x56 → T F S8x256x56x56) ]

abbrev refOps2 : List (HloOp τ sig (Elt F)) :=
  [ nullary main_cst_3 (constant S_ .f32 0x00000000#32),
    binary main_v39 main_cst_3 main_v40 ((fun x v => pad S8x256x58x58 ![0, 0, 1, 1] ![0, 0, 1, 1] ![0, 0, 0, 0] x v pads_S8x256x56x56_S8x256x58x58_000_000_110_110 h_S_) : T F S8x256x56x56 → T F S_ → T F S8x256x58x58),
    unary main_arg5 main_v41 ((transpose S256x3x3x256 [0, 3, 2, 1] · transposes_S256x256x3x3_S256x3x3x256_0_3_2_1) : T F S256x256x3x3 → T F S256x3x3x256),
    reshape main_v41 main_v42 rfl shapeCasts_S256x3x3x256_S256x2304,
    unary main_v40 main_v43 ((extractStridedSlice S8x256x56x58 ![0, 0, 0, 0] · slices_S8x256x58x58_S8x256x56x58_0_0_0_0) : T F S8x256x58x58 → T F S8x256x56x58),
    unary main_v40 main_v44 ((extractStridedSlice S8x256x56x58 ![0, 0, 1, 0] · slices_S8x256x58x58_S8x256x56x58_0_0_1_0) : T F S8x256x58x58 → T F S8x256x56x58),
    unary main_v40 main_v45 ((extractStridedSlice S8x256x56x58 ![0, 0, 2, 0] · slices_S8x256x58x58_S8x256x56x58_0_0_2_0) : T F S8x256x58x58 → T F S8x256x56x58),
    join3 main_v43 main_v44 main_v45 main_v46 (stack3 S8x256x56x58 S8x768x56x58 1 concatenates_S8x256x56x58_S8x256x56x58_S8x256x56x58_S8x768x56x58_d1 : T F S8x256x56x58 → T F S8x256x56x58 → T F S8x256x56x58 → T F S8x768x56x58),
    unary main_v46 main_v47 ((extractStridedSlice S8x768x56x56 ![0, 0, 0, 0] · slices_S8x768x56x58_S8x768x56x56_0_0_0_0) : T F S8x768x56x58 → T F S8x768x56x56),
    unary main_v46 main_v48 ((extractStridedSlice S8x768x56x56 ![0, 0, 0, 1] · slices_S8x768x56x58_S8x768x56x56_0_0_0_1) : T F S8x768x56x58 → T F S8x768x56x56),
    unary main_v46 main_v49 ((extractStridedSlice S8x768x56x56 ![0, 0, 0, 2] · slices_S8x768x56x58_S8x768x56x56_0_0_0_2) : T F S8x768x56x58 → T F S8x768x56x56),
    join3 main_v47 main_v48 main_v49 main_v50 (stack3 S8x768x56x56 S8x2304x56x56 1 concatenates_S8x768x56x56_S8x768x56x56_S8x768x56x56_S8x2304x56x56_d1 : T F S8x768x56x56 → T F S8x768x56x56 → T F S8x768x56x56 → T F S8x2304x56x56),
    binary main_v42 main_v50 main_v51 ((fun l r => Host.dotGeneral dot_S256x2304_S8x2304x56x56_S256x8x56x56_1_1_0_023_n_n none l r) : T F S256x2304 → T F S8x2304x56x56 → T F S256x8x56x56),
    unary main_v51 main_v52 ((transpose S8x256x56x56 [1, 0, 2, 3] · transposes_S256x8x56x56_S8x256x56x56_1_0_2_3) : T F S256x8x56x56 → T F S8x256x56x56),
    unary main_arg6 main_v53 (broadcastInDim S1x256x1x1 ![1] bcast_S256_S1x256x1x1_1 : T F S256 → T F S1x256x1x1),
    unary main_v53 main_v54 (broadcastInDim S8x256x56x56 ![0, 1, 2, 3] bcast_S1x256x1x1_S8x256x56x56_0_1_2_3 : T F S1x256x1x1 → T F S8x256x56x56) ]

abbrev refOps3 : List (HloOp τ sig (Elt F)) :=
  [ binary main_v52 main_v54 main_v55 (addf : T F S8x256x56x56 → T F S8x256x56x56 → T F S8x256x56x56) ]

abbrev refOps4 : List (HloOp τ sig (Elt F)) :=
  [ unary main_v55 main_v56 ((transpose S8x56x56x256 [0, 2, 3, 1] · transposes_S8x256x56x56_S8x56x56x256_0_2_3_1) : T F S8x256x56x56 → T F S8x56x56x256),
    reshape main_v56 main_v57 rfl shapeCasts_S8x56x56x256_S25088x256,
    binary main_v57 main_v57 main_v58 (mulf : T F S25088x256 → T F S25088x256 → T F S25088x256),
    nullary main_cst_4 (constant S_ .f32 0x00000000#32),
    binary main_v58 main_cst_4 main_v59 ((fun x v => Host.reduceAdd x v reducesTo_S25088x256_S25088_d1 h_S_) : T F S25088x256 → T F S_ → T F S25088),
    unary main_v59 main_v60 (broadcastInDim S25088x1 ![0] bcast_S25088_S25088x1_0 : T F S25088 → T F S25088x1),
    binary main_arg7 main_arg7 main_v61 (mulf : T F S1024x256 → T F S1024x256 → T F S1024x256),
    nullary main_cst_5 (constant S_ .f32 0x00000000#32),
    binary main_v61 main_cst_5 main_v62 ((fun x v => Host.reduceAdd x v reducesTo_S1024x256_S1024_d1 h_S_) : T F S1024x256 → T F S_ → T F S1024),
    unary main_v62 main_v63 (broadcastInDim S1x1024 ![1] bcast_S1024_S1x1024_1 : T F S1024 → T F S1x1024),
    unary main_v60 main_v64 (broadcastInDim S25088x1024 ![0, 1] bcast_S25088x1_S25088x1024_0_1 : T F S25088x1 → T F S25088x1024),
    unary main_v63 main_v65 (broadcastInDim S25088x1024 ![0, 1] bcast_S1x1024_S25088x1024_0_1 : T F S1x1024 → T F S25088x1024),
    binary main_v64 main_v65 main_v66 (addf : T F S25088x1024 → T F S25088x1024 → T F S25088x1024),
    unary main_arg7 main_v67 ((transpose S256x1024 [1, 0] · transposes_S1024x256_S256x1024_1_0) : T F S1024x256 → T F S256x1024),
    binary main_v57 main_v67 main_v68 ((fun l r => Host.dotGeneral dot_S25088x256_S256x1024_S25088x1024_1_0_0_1_n_n none l r) : T F S25088x256 → T F S256x1024 → T F S25088x1024),
    nullary main_cst_6 (constant S_ .f32 0x40000000#32),
    unary main_cst_6 main_v69 (broadcastInDim S25088x1024 ![] bcast_S_S25088x1024 : T F S_ → T F S25088x1024),
    binary main_v69 main_v68 main_v70 (mulf : T F S25088x1024 → T F S25088x1024 → T F S25088x1024),
    binary main_v66 main_v70 main_v71 (subf : T F S25088x1024 → T F S25088x1024 → T F S25088x1024) ]

abbrev refOps5 : List (HloOp τ sig (Elt F)) :=
  [ TRef.nullary (.of main_call0_v0 : TRef sig ⟨S25088x1024, .i32⟩) (iotaInDim S25088x1024 32 1),
    TRef.nullary (.of main_call0_cst : TRef sig ⟨S_, .f32⟩) (constant S_ .f32 0x7F800000#32),
    TRef.nullary (.of main_call0_c : TRef sig ⟨S_, .i32⟩) (constantI S_ 32 0#32),
    TRef.quaternary (.of main_v71 : TRef sig ⟨S25088x1024, .f32⟩) (.of main_call0_v0 : TRef sig ⟨S25088x1024, .i32⟩) (.of main_call0_cst : TRef sig ⟨S_, .f32⟩) (.of main_call0_c : TRef sig ⟨S_, .i32⟩) (.of main_call0_v1_0 : TRef sig ⟨S25088, .f32⟩) (fun x y u v j => (Host.argReduce reducer_argmin_f32_i32 x y u v reducesTo_S25088x1024_S25088_d1 h_S_ j).1),
    TRef.quaternary (.of main_v71 : TRef sig ⟨S25088x1024, .f32⟩) (.of main_call0_v0 : TRef sig ⟨S25088x1024, .i32⟩) (.of main_call0_cst : TRef sig ⟨S_, .f32⟩) (.of main_call0_c : TRef sig ⟨S_, .i32⟩) (.of main_v72 : TRef sig ⟨S25088, .i32⟩) (fun x y u v j => (Host.argReduce reducer_argmin_f32_i32 x y u v reducesTo_S25088x1024_S25088_d1 h_S_ j).2) ]

abbrev refOps6 : List (HloOp τ sig (Elt F)) :=
  [ TRef.nullary (.of main_call1_c : TRef sig ⟨S_, .i32⟩) (constantI S_ 32 0#32),
    TRef.unary (.of main_call1_c : TRef sig ⟨S_, .i32⟩) (.of main_call1_v0 : TRef sig ⟨S25088, .i32⟩) (broadcastInDim S25088 ![] bcast_S_S25088),
    TRef.binary (.of main_v72 : TRef sig ⟨S25088, .i32⟩) (.of main_call1_v0 : TRef sig ⟨S25088, .i32⟩) (.of main_call1_v1 : TRef sig ⟨S25088, .i1⟩) (cmpi .slt),
    TRef.nullary (.of main_call1_c_0 : TRef sig ⟨S_, .i32⟩) (constantI S_ 32 1024#32),
    TRef.unary (.of main_call1_c_0 : TRef sig ⟨S_, .i32⟩) (.of main_call1_v2 : TRef sig ⟨S25088, .i32⟩) (broadcastInDim S25088 ![] bcast_S_S25088),
    TRef.binary (.of main_v72 : TRef sig ⟨S25088, .i32⟩) (.of main_call1_v2 : TRef sig ⟨S25088, .i32⟩) (.of main_call1_v3 : TRef sig ⟨S25088, .i32⟩) addi,
    TRef.ternary (.of main_call1_v1 : TRef sig ⟨S25088, .i1⟩) (.of main_call1_v3 : TRef sig ⟨S25088, .i32⟩) (.of main_v72 : TRef sig ⟨S25088, .i32⟩) (.of main_call1_v4 : TRef sig ⟨S25088, .i32⟩) select,
    TRef.unary (.of main_call1_v4 : TRef sig ⟨S25088, .i32⟩) (.of main_call1_v5 : TRef sig ⟨S25088x1, .i32⟩) (broadcastInDim S25088x1 ![0] bcast_S25088_S25088x1_0),
    TRef.nullary (.of main_call1_c_1 : TRef sig ⟨S1, .i32⟩) (constantI S1 32 1023#32),
    TRef.nullary (.of main_call1_c_2 : TRef sig ⟨S_, .i32⟩) (constantI S_ 32 0#32),
    TRef.unary (.of main_call1_c_2 : TRef sig ⟨S_, .i32⟩) (.of main_call1_v6 : TRef sig ⟨S25088x1, .i32⟩) (broadcastInDim S25088x1 ![] bcast_S_S25088x1),
    TRef.binary (.of main_call1_v5 : TRef sig ⟨S25088x1, .i32⟩) (.of main_call1_v6 : TRef sig ⟨S25088x1, .i32⟩) (.of main_call1_v7 : TRef sig ⟨S25088x1, .i1⟩) (cmpi .sge),
    TRef.unary (.of main_call1_c_1 : TRef sig ⟨S1, .i32⟩) (.of main_call1_v8 : TRef sig ⟨S1x1, .i32⟩) (broadcastInDim S1x1 ![1] bcast_S1_S1x1_1),
    TRef.unary (.of main_call1_v8 : TRef sig ⟨S1x1, .i32⟩) (.of main_call1_v9 : TRef sig ⟨S25088x1, .i32⟩) (broadcastInDim S25088x1 ![0, 1] bcast_S1x1_S25088x1_0_1),
    TRef.binary (.of main_call1_v5 : TRef sig ⟨S25088x1, .i32⟩) (.of main_call1_v9 : TRef sig ⟨S25088x1, .i32⟩) (.of main_call1_v10 : TRef sig ⟨S25088x1, .i1⟩) (cmpi .sle),
    TRef.binary (.of main_call1_v7 : TRef sig ⟨S25088x1, .i1⟩) (.of main_call1_v10 : TRef sig ⟨S25088x1, .i1⟩) (.of main_call1_v11 : TRef sig ⟨S25088x1, .i1⟩) andi,
    TRef.nullary (.of main_call1_c_3 : TRef sig ⟨S_, .i1⟩) (constantI S_ 1 1#1),
    TRef.binary (.of main_call1_v11 : TRef sig ⟨S25088x1, .i1⟩) (.of main_call1_c_3 : TRef sig ⟨S_, .i1⟩) (.of main_call1_v12 : TRef sig ⟨S25088, .i1⟩) (fun x v => Host.reduce IntOp.andi x v reducesTo_S25088x1_S25088_d1 h_S_),
    TRef.binary (.of main_arg7 : TRef sig ⟨S1024x256, .f32⟩) (.of main_call1_v5 : TRef sig ⟨S25088x1, .i32⟩) (.of main_call1_v13 : TRef sig ⟨S25088x256, .f32⟩) (fun x i => Host.gather gather_S1024x256_S25088x1_S25088x256_1_0_n_n_0_1_1256 x i),
    TRef.unary (.of main_call1_v12 : TRef sig ⟨S25088, .i1⟩) (.of main_call1_v14 : TRef sig ⟨S25088x256, .i1⟩) (broadcastInDim S25088x256 ![0] bcast_S25088_S25088x256_0),
    TRef.nullary (.of main_call1_cst : TRef sig ⟨S_, .f32⟩) (constant S_ .f32 0x7FC00000#32),
    TRef.unary (.of main_call1_cst : TRef sig ⟨S_, .f32⟩) (.of main_call1_v15 : TRef sig ⟨S25088x256, .f32⟩) (broadcastInDim S25088x256 ![] bcast_S_S25088x256),
    TRef.ternary (.of main_call1_v14 : TRef sig ⟨S25088x256, .i1⟩) (.of main_call1_v13 : TRef sig ⟨S25088x256, .f32⟩) (.of main_call1_v15 : TRef sig ⟨S25088x256, .f32⟩) (.of main_v73 : TRef sig ⟨S25088x256, .f32⟩) select,
    reshape main_v73 main_v74 rfl shapeCasts_S25088x256_S8x56x56x256,
    unary main_v74 main_v75 ((transpose S8x256x56x56 [0, 3, 1, 2] · transposes_S8x56x56x256_S8x256x56x56_0_3_1_2) : T F S8x56x56x256 → T F S8x256x56x56),
    binary main_v75 main_v55 main_v76 (subf : T F S8x256x56x56 → T F S8x256x56x56 → T F S8x256x56x56),
    binary main_v55 main_v76 main_v77 (addf : T F S8x256x56x56 → T F S8x256x56x56 → T F S8x256x56x56) ]

abbrev refOps7 : List (HloOp τ sig (Elt F)) :=
  [ nullary main_cst_7 (constant S_ .f32 0x00000000#32),
    binary main_v77 main_cst_7 main_v78 ((fun x v => pad S8x256x58x58 ![0, 0, 1, 1] ![0, 0, 1, 1] ![0, 0, 0, 0] x v pads_S8x256x56x56_S8x256x58x58_000_000_110_110 h_S_) : T F S8x256x56x56 → T F S_ → T F S8x256x58x58),
    unary main_arg8 main_v79 ((transpose S256x3x3x256 [0, 3, 2, 1] · transposes_S256x256x3x3_S256x3x3x256_0_3_2_1) : T F S256x256x3x3 → T F S256x3x3x256),
    reshape main_v79 main_v80 rfl shapeCasts_S256x3x3x256_S256x2304,
    unary main_v78 main_v81 ((extractStridedSlice S8x256x56x58 ![0, 0, 0, 0] · slices_S8x256x58x58_S8x256x56x58_0_0_0_0) : T F S8x256x58x58 → T F S8x256x56x58),
    unary main_v78 main_v82 ((extractStridedSlice S8x256x56x58 ![0, 0, 1, 0] · slices_S8x256x58x58_S8x256x56x58_0_0_1_0) : T F S8x256x58x58 → T F S8x256x56x58),
    unary main_v78 main_v83 ((extractStridedSlice S8x256x56x58 ![0, 0, 2, 0] · slices_S8x256x58x58_S8x256x56x58_0_0_2_0) : T F S8x256x58x58 → T F S8x256x56x58),
    join3 main_v81 main_v82 main_v83 main_v84 (stack3 S8x256x56x58 S8x768x56x58 1 concatenates_S8x256x56x58_S8x256x56x58_S8x256x56x58_S8x768x56x58_d1 : T F S8x256x56x58 → T F S8x256x56x58 → T F S8x256x56x58 → T F S8x768x56x58),
    unary main_v84 main_v85 ((extractStridedSlice S8x768x56x56 ![0, 0, 0, 0] · slices_S8x768x56x58_S8x768x56x56_0_0_0_0) : T F S8x768x56x58 → T F S8x768x56x56),
    unary main_v84 main_v86 ((extractStridedSlice S8x768x56x56 ![0, 0, 0, 1] · slices_S8x768x56x58_S8x768x56x56_0_0_0_1) : T F S8x768x56x58 → T F S8x768x56x56),
    unary main_v84 main_v87 ((extractStridedSlice S8x768x56x56 ![0, 0, 0, 2] · slices_S8x768x56x58_S8x768x56x56_0_0_0_2) : T F S8x768x56x58 → T F S8x768x56x56),
    join3 main_v85 main_v86 main_v87 main_v88 (stack3 S8x768x56x56 S8x2304x56x56 1 concatenates_S8x768x56x56_S8x768x56x56_S8x768x56x56_S8x2304x56x56_d1 : T F S8x768x56x56 → T F S8x768x56x56 → T F S8x768x56x56 → T F S8x2304x56x56),
    binary main_v80 main_v88 main_v89 ((fun l r => Host.dotGeneral dot_S256x2304_S8x2304x56x56_S256x8x56x56_1_1_0_023_n_n none l r) : T F S256x2304 → T F S8x2304x56x56 → T F S256x8x56x56),
    unary main_v89 main_v90 ((transpose S8x256x56x56 [1, 0, 2, 3] · transposes_S256x8x56x56_S8x256x56x56_1_0_2_3) : T F S256x8x56x56 → T F S8x256x56x56),
    unary main_arg9 main_v91 (broadcastInDim S1x256x1x1 ![1] bcast_S256_S1x256x1x1_1 : T F S256 → T F S1x256x1x1),
    unary main_v91 main_v92 (broadcastInDim S8x256x56x56 ![0, 1, 2, 3] bcast_S1x256x1x1_S8x256x56x56_0_1_2_3 : T F S1x256x1x1 → T F S8x256x56x56),
    binary main_v90 main_v92 main_v93 (addf : T F S8x256x56x56 → T F S8x256x56x56 → T F S8x256x56x56),
    nullary main_cst_8 (constant S_ .f32 0x00000000#32),
    unary main_cst_8 main_v94 (broadcastInDim S8x256x56x56 ![] bcast_S_S8x256x56x56 : T F S_ → T F S8x256x56x56),
    binary main_v93 main_v94 main_v95 (maximumf : T F S8x256x56x56 → T F S8x256x56x56 → T F S8x256x56x56) ]

abbrev refOps8 : List (HloOp τ sig (Elt F)) :=
  [ nullary main_cst_9 (constant S_ .f32 0x00000000#32),
    binary main_v95 main_cst_9 main_v96 ((fun x v => pad S8x256x115x115 ![0, 0, 2, 2] ![0, 0, 2, 2] ![0, 0, 1, 1] x v pads_S8x256x56x56_S8x256x115x115_000_000_221_221 h_S_) : T F S8x256x56x56 → T F S_ → T F S8x256x115x115),
    unary main_arg10 main_v97 ((transpose S128x4x4x256 [0, 3, 2, 1] · transposes_S128x256x4x4_S128x4x4x256_0_3_2_1) : T F S128x256x4x4 → T F S128x4x4x256),
    reshape main_v97 main_v98 rfl shapeCasts_S128x4x4x256_S128x4096,
    unary main_v96 main_v99 ((extractStridedSlice S8x256x112x115 ![0, 0, 0, 0] · slices_S8x256x115x115_S8x256x112x115_0_0_0_0) : T F S8x256x115x115 → T F S8x256x112x115),
    unary main_v96 main_v100 ((extractStridedSlice S8x256x112x115 ![0, 0, 1, 0] · slices_S8x256x115x115_S8x256x112x115_0_0_1_0) : T F S8x256x115x115 → T F S8x256x112x115),
    unary main_v96 main_v101 ((extractStridedSlice S8x256x112x115 ![0, 0, 2, 0] · slices_S8x256x115x115_S8x256x112x115_0_0_2_0) : T F S8x256x115x115 → T F S8x256x112x115),
    unary main_v96 main_v102 ((extractStridedSlice S8x256x112x115 ![0, 0, 3, 0] · slices_S8x256x115x115_S8x256x112x115_0_0_3_0) : T F S8x256x115x115 → T F S8x256x112x115),
    join4 main_v99 main_v100 main_v101 main_v102 main_v103 (stack4 S8x256x112x115 S8x1024x112x115 1 concatenates_S8x256x112x115_S8x256x112x115_S8x256x112x115_S8x256x112x115_S8x1024x112x115_d1 : T F S8x256x112x115 → T F S8x256x112x115 → T F S8x256x112x115 → T F S8x256x112x115 → T F S8x1024x112x115),
    unary main_v103 main_v104 ((extractStridedSlice S8x1024x112x112 ![0, 0, 0, 0] · slices_S8x1024x112x115_S8x1024x112x112_0_0_0_0) : T F S8x1024x112x115 → T F S8x1024x112x112),
    unary main_v103 main_v105 ((extractStridedSlice S8x1024x112x112 ![0, 0, 0, 1] · slices_S8x1024x112x115_S8x1024x112x112_0_0_0_1) : T F S8x1024x112x115 → T F S8x1024x112x112),
    unary main_v103 main_v106 ((extractStridedSlice S8x1024x112x112 ![0, 0, 0, 2] · slices_S8x1024x112x115_S8x1024x112x112_0_0_0_2) : T F S8x1024x112x115 → T F S8x1024x112x112),
    unary main_v103 main_v107 ((extractStridedSlice S8x1024x112x112 ![0, 0, 0, 3] · slices_S8x1024x112x115_S8x1024x112x112_0_0_0_3) : T F S8x1024x112x115 → T F S8x1024x112x112),
    join4 main_v104 main_v105 main_v106 main_v107 main_v108 (stack4 S8x1024x112x112 S8x4096x112x112 1 concatenates_S8x1024x112x112_S8x1024x112x112_S8x1024x112x112_S8x1024x112x112_S8x4096x112x112_d1 : T F S8x1024x112x112 → T F S8x1024x112x112 → T F S8x1024x112x112 → T F S8x1024x112x112 → T F S8x4096x112x112) ]

abbrev refOps9 : List (HloOp τ sig (Elt F)) :=
  [ binary main_v98 main_v108 main_v109 ((fun l r => Host.dotGeneral dot_S128x4096_S8x4096x112x112_S128x8x112x112_1_1_0_023_n_n none l r) : T F S128x4096 → T F S8x4096x112x112 → T F S128x8x112x112),
    unary main_v109 main_v110 ((transpose S8x128x112x112 [1, 0, 2, 3] · transposes_S128x8x112x112_S8x128x112x112_1_0_2_3) : T F S128x8x112x112 → T F S8x128x112x112),
    unary main_arg11 main_v111 (broadcastInDim S1x128x1x1 ![1] bcast_S128_S1x128x1x1_1 : T F S128 → T F S1x128x1x1),
    unary main_v111 main_v112 (broadcastInDim S8x128x112x112 ![0, 1, 2, 3] bcast_S1x128x1x1_S8x128x112x112_0_1_2_3 : T F S1x128x1x1 → T F S8x128x112x112),
    binary main_v110 main_v112 main_v113 (addf : T F S8x128x112x112 → T F S8x128x112x112 → T F S8x128x112x112),
    nullary main_cst_10 (constant S_ .f32 0x00000000#32),
    unary main_cst_10 main_v114 (broadcastInDim S8x128x112x112 ![] bcast_S_S8x128x112x112 : T F S_ → T F S8x128x112x112),
    binary main_v113 main_v114 main_v115 (maximumf : T F S8x128x112x112 → T F S8x128x112x112 → T F S8x128x112x112) ]

abbrev refOps10 : List (HloOp τ sig (Elt F)) :=
  [ nullary main_cst_11 (constant S_ .f32 0x00000000#32),
    binary main_v115 main_cst_11 main_v116 ((fun x v => pad S8x128x227x227 ![0, 0, 2, 2] ![0, 0, 2, 2] ![0, 0, 1, 1] x v pads_S8x128x112x112_S8x128x227x227_000_000_221_221 h_S_) : T F S8x128x112x112 → T F S_ → T F S8x128x227x227),
    unary main_arg12 main_v117 ((transpose S3x4x4x128 [0, 3, 2, 1] · transposes_S3x128x4x4_S3x4x4x128_0_3_2_1) : T F S3x128x4x4 → T F S3x4x4x128),
    reshape main_v117 main_v118 rfl shapeCasts_S3x4x4x128_S3x2048,
    unary main_v116 main_v119 ((extractStridedSlice S8x128x224x227 ![0, 0, 0, 0] · slices_S8x128x227x227_S8x128x224x227_0_0_0_0) : T F S8x128x227x227 → T F S8x128x224x227),
    unary main_v116 main_v120 ((extractStridedSlice S8x128x224x227 ![0, 0, 1, 0] · slices_S8x128x227x227_S8x128x224x227_0_0_1_0) : T F S8x128x227x227 → T F S8x128x224x227),
    unary main_v116 main_v121 ((extractStridedSlice S8x128x224x227 ![0, 0, 2, 0] · slices_S8x128x227x227_S8x128x224x227_0_0_2_0) : T F S8x128x227x227 → T F S8x128x224x227),
    unary main_v116 main_v122 ((extractStridedSlice S8x128x224x227 ![0, 0, 3, 0] · slices_S8x128x227x227_S8x128x224x227_0_0_3_0) : T F S8x128x227x227 → T F S8x128x224x227),
    join4 main_v119 main_v120 main_v121 main_v122 main_v123 (stack4 S8x128x224x227 S8x512x224x227 1 concatenates_S8x128x224x227_S8x128x224x227_S8x128x224x227_S8x128x224x227_S8x512x224x227_d1 : T F S8x128x224x227 → T F S8x128x224x227 → T F S8x128x224x227 → T F S8x128x224x227 → T F S8x512x224x227),
    unary main_v123 main_v124 ((extractStridedSlice S8x512x224x224 ![0, 0, 0, 0] · slices_S8x512x224x227_S8x512x224x224_0_0_0_0) : T F S8x512x224x227 → T F S8x512x224x224),
    unary main_v123 main_v125 ((extractStridedSlice S8x512x224x224 ![0, 0, 0, 1] · slices_S8x512x224x227_S8x512x224x224_0_0_0_1) : T F S8x512x224x227 → T F S8x512x224x224),
    unary main_v123 main_v126 ((extractStridedSlice S8x512x224x224 ![0, 0, 0, 2] · slices_S8x512x224x227_S8x512x224x224_0_0_0_2) : T F S8x512x224x227 → T F S8x512x224x224),
    unary main_v123 main_v127 ((extractStridedSlice S8x512x224x224 ![0, 0, 0, 3] · slices_S8x512x224x227_S8x512x224x224_0_0_0_3) : T F S8x512x224x227 → T F S8x512x224x224),
    join4 main_v124 main_v125 main_v126 main_v127 main_v128 (stack4 S8x512x224x224 S8x2048x224x224 1 concatenates_S8x512x224x224_S8x512x224x224_S8x512x224x224_S8x512x224x224_S8x2048x224x224_d1 : T F S8x512x224x224 → T F S8x512x224x224 → T F S8x512x224x224 → T F S8x512x224x224 → T F S8x2048x224x224),
    binary main_v118 main_v128 main_v129 ((fun l r => Host.dotGeneral dot_S3x2048_S8x2048x224x224_S3x8x224x224_1_1_0_023_n_n none l r) : T F S3x2048 → T F S8x2048x224x224 → T F S3x8x224x224),
    unary main_v129 main_v130 ((transpose S8x3x224x224 [1, 0, 2, 3] · transposes_S3x8x224x224_S8x3x224x224_1_0_2_3) : T F S3x8x224x224 → T F S8x3x224x224),
    unary main_arg13 main_v131 (broadcastInDim S1x3x1x1 ![1] bcast_S3_S1x3x1x1_1 : T F S3 → T F S1x3x1x1),
    unary main_v131 main_v132 (broadcastInDim S8x3x224x224 ![0, 1, 2, 3] bcast_S1x3x1x1_S8x3x224x224_0_1_2_3 : T F S1x3x1x1 → T F S8x3x224x224),
    binary main_v130 main_v132 main_v133 (addf : T F S8x3x224x224 → T F S8x3x224x224 → T F S8x3x224x224) ]

theorem refOps0_sub : (refOps0 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub ..⟩
theorem refOps0_fresh : (refOps0 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl⟩
theorem refOps1_sub : (refOps1 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub ..⟩
theorem refOps1_fresh : (refOps1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl⟩
theorem refOps2_sub : (refOps2 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., nary_bufs_sub .., unary_bufs_sub .., unary_bufs_sub .., unary_bufs_sub .., nary_bufs_sub .., binary_bufs_sub .., unary_bufs_sub .., unary_bufs_sub .., unary_bufs_sub ..⟩
theorem refOps2_fresh : (refOps2 : List (HloOp τ sig (Elt F))).Forall fun op => op.fresh = ∅ := ⟨rfl, rfl, rfl, rfl, rfl, rfl, rfl, rfl, rfl, rfl, rfl, rfl, rfl, rfl, rfl, rfl⟩
theorem refOps3_sub : (refOps3 : List (HloOp τ sig (Elt F))).Forall fun op => op.bufs ⊆ tcRefs τ sig :=
  binary_bufs_sub ..
theorem refOps3_fresh : (refOps3 : List (HloOp τ sig (Elt F))).Forall fun op => op.fresh = ∅ := rfl
theorem refOps4_sub : (refOps4 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem refOps4_fresh : (refOps4 : List (HloOp τ sig (Elt F))).Forall fun op => op.fresh = ∅ := ⟨rfl, rfl, rfl, rfl, rfl, rfl, rfl, rfl, rfl, rfl, rfl, rfl, rfl, rfl, rfl, rfl, rfl, rfl, rfl⟩
theorem refOps5_sub : (refOps5 : List (HloOp τ sig (Elt F))).Forall fun op => op.bufs ⊆ tcRefs τ sig :=
  ⟨nullary_bufs_sub .., nullary_bufs_sub .., nullary_bufs_sub .., quaternary_bufs_sub .., quaternary_bufs_sub ..⟩
theorem refOps5_fresh : (refOps5 : List (HloOp τ sig (Elt F))).Forall fun op => op.fresh = ∅ := ⟨rfl, rfl, rfl, rfl, rfl⟩
theorem refOps6_sub : (refOps6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., binary_bufs_sub .., binary_bufs_sub ..⟩
theorem refOps6_fresh : (refOps6 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl⟩
theorem refOps7_sub : (refOps7 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., nary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub ..⟩
theorem refOps7_fresh : (refOps7 : List (HloOp τ sig (Elt F))).Forall fun op => op.fresh = ∅ := ⟨rfl, rfl, rfl, rfl, rfl, rfl, rfl, rfl, rfl, rfl, rfl, rfl, rfl, rfl, rfl, rfl, rfl, rfl, rfl, rfl⟩
theorem refOps8_sub : (refOps8 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., unary_bufs_sub .., nary_bufs_sub .., unary_bufs_sub .., unary_bufs_sub .., unary_bufs_sub .., unary_bufs_sub .., nary_bufs_sub ..⟩
theorem refOps8_fresh : (refOps8 : List (HloOp τ sig (Elt F))).Forall fun op => op.fresh = ∅ := ⟨rfl, rfl, rfl, rfl, rfl, rfl, rfl, rfl, rfl, rfl, rfl, rfl, rfl, rfl⟩
theorem refOps9_sub : (refOps9 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub ..⟩
theorem refOps9_fresh : (refOps9 : List (HloOp τ sig (Elt F))).Forall fun op => op.fresh = ∅ := ⟨rfl, rfl, rfl, rfl, rfl, rfl, rfl, rfl⟩
theorem refOps10_sub : (refOps10 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub .., unary_bufs_sub .., unary_bufs_sub .., unary_bufs_sub .., binary_bufs_sub ..⟩
theorem refOps10_fresh : (refOps10 : List (HloOp τ sig (Elt F))).Forall fun op => op.fresh = ∅ := ⟨rfl, rfl, rfl, rfl, rfl, rfl, rfl, rfl, rfl, rfl, rfl, rfl, rfl, rfl, rfl, rfl, rfl, rfl, rfl⟩

set_option maxHeartbeats 4000000 in
theorem part0_eq (c : Dev nD) : main_part0 (F := F) c = seq (refOps0 ++ (refOps1 ++ (refOps2))) := rfl
set_option maxHeartbeats 4000000 in
theorem part1_eq (c : Dev nD) : main_part1 (F := F) c = seq (refOps3 ++ (refOps4 ++ (refOps5 ++ (refOps6 ++ (refOps7 ++ (refOps8)))))) := rfl
set_option maxHeartbeats 4000000 in
theorem part2_eq (c : Dev nD) : main_part2 (F := F) c = seq (refOps9 ++ (refOps10)) := rfl

/-- All of the operations. -/
abbrev refOps : List (HloOp τ sig (Elt F)) :=
  refOps0 ++ (refOps1 ++ (refOps2 ++ (refOps3 ++ (refOps4 ++ (refOps5 ++ (refOps6 ++ (refOps7 ++ (refOps8 ++ (refOps9 ++ (refOps10))))))))))

theorem main_eq (c : Dev nD) : main (F := F) c = seq refOps := by
  have h : refOps (F := F) = ((refOps0 ++ (refOps1 ++ (refOps2))) ++ ((refOps3 ++ (refOps4 ++ (refOps5 ++ (refOps6 ++ (refOps7 ++ (refOps8)))))) ++ ((refOps9 ++ (refOps10))))) := by simp only [refOps, List.append_assoc]
  rw [h]
  simp only [seq_append, ← part0_eq c, ← part1_eq c, ← part2_eq c]
  rfl

theorem noScopedRefs : (Finset.univ.filter fun b : Ref sig .tc => b.isScoped) = ∅ := by decide
theorem noScopedSems : (Finset.univ.filter fun sm : SemLoc sig => sm.isScoped .tc) = ∅ := by decide

theorem refOps_sub : (refOps : List (HloOp τ sig (Elt F))).Forall fun op => op.bufs ⊆ tcRefs τ sig :=
  List.forall_iff_forall_mem.mpr fun op h => by
    simp only [refOps, List.mem_append] at h
    rcases h with h | h | h | h | h | h | h | h | h | h | h
    exacts [List.forall_iff_forall_mem.mp refOps0_sub op h,
      List.forall_iff_forall_mem.mp refOps1_sub op h,
      List.forall_iff_forall_mem.mp refOps2_sub op h,
      List.forall_iff_forall_mem.mp refOps3_sub op h,
      List.forall_iff_forall_mem.mp refOps4_sub op h,
      List.forall_iff_forall_mem.mp refOps5_sub op h,
      List.forall_iff_forall_mem.mp refOps6_sub op h,
      List.forall_iff_forall_mem.mp refOps7_sub op h,
      List.forall_iff_forall_mem.mp refOps8_sub op h,
      List.forall_iff_forall_mem.mp refOps9_sub op h,
      List.forall_iff_forall_mem.mp refOps10_sub op h]

theorem refOps_fresh : ∀ op ∈ (refOps : List (HloOp τ sig (Elt F))), op.fresh = ∅ := fun op h => by
    simp only [refOps, List.mem_append] at h
    rcases h with h | h | h | h | h | h | h | h | h | h | h
    exacts [List.forall_iff_forall_mem.mp refOps0_fresh op h,
      List.forall_iff_forall_mem.mp refOps1_fresh op h,
      List.forall_iff_forall_mem.mp refOps2_fresh op h,
      List.forall_iff_forall_mem.mp refOps3_fresh op h,
      List.forall_iff_forall_mem.mp refOps4_fresh op h,
      List.forall_iff_forall_mem.mp refOps5_fresh op h,
      List.forall_iff_forall_mem.mp refOps6_fresh op h,
      List.forall_iff_forall_mem.mp refOps7_fresh op h,
      List.forall_iff_forall_mem.mp refOps8_fresh op h,
      List.forall_iff_forall_mem.mp refOps9_fresh op h,
      List.forall_iff_forall_mem.mp refOps10_fresh op h]

/-! ## The buffers after each cut -/

variable (V : Valuation τ sig (Elt Ideal))

/-- The references that the operations up to cut 1 write, from cut 0. -/
abbrev wr0 : List (Ref sig .tc) := [main_cst, main_v0, main_v1, main_v2, main_v3, main_v4, main_v5, main_v6, main_v7, main_v8, main_v9, main_v10, main_v11, main_v12, main_v13, main_v14, main_v15, main_v16, main_v17, main_cst_0, main_v18, main_v19]
def X1 : Valuation τ sig (Elt Ideal) := after refOps0 V
theorem X1_keep (r : Ref sig .tc) (h : r ∉ wr0) : X1 V (Proc.devRef .tc r) = V (Proc.devRef .tc r) :=
  after_unwritten wr0 rfl h _

/-- The references that the operations up to cut 2 write, from cut 1. -/
abbrev wr1 : List (Ref sig .tc) := [main_cst_1, main_v20, main_v21, main_v22, main_v23, main_v24, main_v25, main_v26, main_v27, main_v28, main_v29, main_v30, main_v31, main_v32, main_v33, main_v34, main_v35, main_v36, main_v37, main_cst_2, main_v38, main_v39]
def X2 : Valuation τ sig (Elt Ideal) := after refOps1 (X1 V)
theorem X2_keep (r : Ref sig .tc) (h : r ∉ wr1) : X2 V (Proc.devRef .tc r) = X1 V (Proc.devRef .tc r) :=
  after_unwritten wr1 rfl h _

/-- The references that the operations up to cut 3 write, from cut 2. -/
abbrev wr2 : List (Ref sig .tc) := [main_cst_3, main_v40, main_v41, main_v42, main_v43, main_v44, main_v45, main_v46, main_v47, main_v48, main_v49, main_v50, main_v51, main_v52, main_v53, main_v54]
def X3 : Valuation τ sig (Elt Ideal) := after refOps2 (X2 V)
theorem X3_keep (r : Ref sig .tc) (h : r ∉ wr2) : X3 V (Proc.devRef .tc r) = X2 V (Proc.devRef .tc r) :=
  after_unwritten wr2 rfl h _

/-- The references that the operations up to cut 4 write, from cut 3. -/
abbrev wr3 : List (Ref sig .tc) := [main_v55]
def X4 : Valuation τ sig (Elt Ideal) := after refOps3 (X3 V)
theorem X4_keep (r : Ref sig .tc) (h : r ∉ wr3) : X4 V (Proc.devRef .tc r) = X3 V (Proc.devRef .tc r) :=
  after_unwritten wr3 rfl h _

/-- The references that the operations up to cut 5 write, from cut 4. -/
abbrev wr4 : List (Ref sig .tc) := [main_v56, main_v57, main_v58, main_cst_4, main_v59, main_v60, main_v61, main_cst_5, main_v62, main_v63, main_v64, main_v65, main_v66, main_v67, main_v68, main_cst_6, main_v69, main_v70, main_v71]
def X5 : Valuation τ sig (Elt Ideal) := after refOps4 (X4 V)
theorem X5_keep (r : Ref sig .tc) (h : r ∉ wr4) : X5 V (Proc.devRef .tc r) = X4 V (Proc.devRef .tc r) :=
  after_unwritten wr4 rfl h _

/-- The references that the operations up to cut 6 write, from cut 5. -/
abbrev wr5 : List (Ref sig .tc) := [main_call0_v0, main_call0_cst, main_call0_c, main_call0_v1_0, main_v72]
def X6 : Valuation τ sig (Elt Ideal) := after refOps5 (X5 V)
theorem X6_keep (r : Ref sig .tc) (h : r ∉ wr5) : X6 V (Proc.devRef .tc r) = X5 V (Proc.devRef .tc r) :=
  after_unwritten wr5 rfl h _

/-- The references that the operations up to cut 7 write, from cut 6. -/
abbrev wr6 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v73, main_v74, main_v75, main_v76, main_v77]
def X7 : Valuation τ sig (Elt Ideal) := after refOps6 (X6 V)
theorem X7_keep (r : Ref sig .tc) (h : r ∉ wr6) : X7 V (Proc.devRef .tc r) = X6 V (Proc.devRef .tc r) :=
  after_unwritten wr6 rfl h _

/-- The references that the operations up to cut 8 write, from cut 7. -/
abbrev wr7 : List (Ref sig .tc) := [main_cst_7, main_v78, main_v79, main_v80, main_v81, main_v82, main_v83, main_v84, main_v85, main_v86, main_v87, main_v88, main_v89, main_v90, main_v91, main_v92, main_v93, main_cst_8, main_v94, main_v95]
def X8 : Valuation τ sig (Elt Ideal) := after refOps7 (X7 V)
theorem X8_keep (r : Ref sig .tc) (h : r ∉ wr7) : X8 V (Proc.devRef .tc r) = X7 V (Proc.devRef .tc r) :=
  after_unwritten wr7 rfl h _

/-- The references that the operations up to cut 9 write, from cut 8. -/
abbrev wr8 : List (Ref sig .tc) := [main_cst_9, main_v96, main_v97, main_v98, main_v99, main_v100, main_v101, main_v102, main_v103, main_v104, main_v105, main_v106, main_v107, main_v108]
def X9 : Valuation τ sig (Elt Ideal) := after refOps8 (X8 V)
theorem X9_keep (r : Ref sig .tc) (h : r ∉ wr8) : X9 V (Proc.devRef .tc r) = X8 V (Proc.devRef .tc r) :=
  after_unwritten wr8 rfl h _

/-- The references that the operations up to cut 10 write, from cut 9. -/
abbrev wr9 : List (Ref sig .tc) := [main_v109, main_v110, main_v111, main_v112, main_v113, main_cst_10, main_v114, main_v115]
def X10 : Valuation τ sig (Elt Ideal) := after refOps9 (X9 V)
theorem X10_keep (r : Ref sig .tc) (h : r ∉ wr9) : X10 V (Proc.devRef .tc r) = X9 V (Proc.devRef .tc r) :=
  after_unwritten wr9 rfl h _

/-- The references that the operations up to cut 11 write, from cut 10. -/
abbrev wr10 : List (Ref sig .tc) := [main_cst_11, main_v116, main_v117, main_v118, main_v119, main_v120, main_v121, main_v122, main_v123, main_v124, main_v125, main_v126, main_v127, main_v128, main_v129, main_v130, main_v131, main_v132, main_v133]
def X11 : Valuation τ sig (Elt Ideal) := after refOps10 (X10 V)
theorem X11_keep (r : Ref sig .tc) (h : r ∉ wr10) : X11 V (Proc.devRef .tc r) = X10 V (Proc.devRef .tc r) :=
  after_unwritten wr10 rfl h _

theorem after_refOps : after refOps V = X11 V := by
  simp only [refOps, after_append]
  rfl

/-- A reference that no operation writes keeps its contents to the end. -/
theorem keep (r : Ref sig .tc) (h : r ∉ wr0 ++ (wr1 ++ (wr2 ++ (wr3 ++ (wr4 ++ (wr5 ++ (wr6 ++ (wr7 ++ (wr8 ++ (wr9 ++ (wr10))))))))))) : X11 V (Proc.devRef .tc r) = V (Proc.devRef .tc r) := by
  simp only [List.mem_append, not_or] at h
  obtain ⟨h0, h1, h2, h3, h4, h5, h6, h7, h8, h9, h10⟩ := h
  rw [X11_keep _ _ h10, X10_keep _ _ h9, X9_keep _ _ h8, X8_keep _ _ h7, X7_keep _ _ h6, X6_keep _ _ h5, X5_keep _ _ h4, X4_keep _ _ h3, X3_keep _ _ h2, X2_keep _ _ h1, X1_keep _ _ h0]

/-- Every weakly fair execution of the reference from zero counters ends with each buffer at what the last cut leaves in it. -/
theorem run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = X11 (launchContents m c) (Proc.devRef .tc b) :=
  (θ_run defs _ _).mono (fun _ h c b => (h c b).trans (congrFun (after_refOps (launchContents m c)) (Proc.devRef .tc b)))
    (run_seq noScopedRefs noScopedSems defs main (fun _ => refOps) main_eq (fun _ => refOps_sub) m ρ fun _ => refOps_fresh)

end Cert.ReferenceIdeal.Layers
end
-- ==== Proof.RefConv.lean ====
/- The reference's three kinds of convolution, each as a layer over natural coordinates. -/
module

public import proofs.«01_k».proof.Proof.RefLayout

@[expose] public section

noncomputable section

open scoped BigOperators

namespace Cert.Proof

open Idealize.ShloMosaic

/-- Stacked patches of a 4x4 convolution with stride 2. -/
theorem patches2_at {a c p q e f CS K : ℕ} {P : (⟨4, ![a, c, p, q]⟩ : Shape).Idx → EReal}
    {g0 : (⟨4, ![a, c, p, q]⟩ : Shape).SlicesBy ![0, 0, 0, 0] ![1, 1, 2, 1] ⟨4, ![a, c, e, q]⟩}
    {g1 : (⟨4, ![a, c, p, q]⟩ : Shape).SlicesBy ![0, 0, 1, 0] ![1, 1, 2, 1] ⟨4, ![a, c, e, q]⟩}
    {g2 : (⟨4, ![a, c, p, q]⟩ : Shape).SlicesBy ![0, 0, 2, 0] ![1, 1, 2, 1] ⟨4, ![a, c, e, q]⟩}
    {g3 : (⟨4, ![a, c, p, q]⟩ : Shape).SlicesBy ![0, 0, 3, 0] ![1, 1, 2, 1] ⟨4, ![a, c, e, q]⟩}
    {gc : Shape.Concatenates [⟨4, ![a, c, e, q]⟩, ⟨4, ![a, c, e, q]⟩, ⟨4, ![a, c, e, q]⟩, ⟨4, ![a, c, e, q]⟩] ⟨4, ![a, CS, e, q]⟩ 1}
    {f0 : (⟨4, ![a, CS, e, q]⟩ : Shape).SlicesBy ![0, 0, 0, 0] ![1, 1, 1, 2] ⟨4, ![a, CS, e, f]⟩}
    {f1 : (⟨4, ![a, CS, e, q]⟩ : Shape).SlicesBy ![0, 0, 0, 1] ![1, 1, 1, 2] ⟨4, ![a, CS, e, f]⟩}
    {f2 : (⟨4, ![a, CS, e, q]⟩ : Shape).SlicesBy ![0, 0, 0, 2] ![1, 1, 1, 2] ⟨4, ![a, CS, e, f]⟩}
    {f3 : (⟨4, ![a, CS, e, q]⟩ : Shape).SlicesBy ![0, 0, 0, 3] ![1, 1, 1, 2] ⟨4, ![a, CS, e, f]⟩}
    {fc : Shape.Concatenates [⟨4, ![a, CS, e, f]⟩, ⟨4, ![a, CS, e, f]⟩, ⟨4, ![a, CS, e, f]⟩, ⟨4, ![a, CS, e, f]⟩] ⟨4, ![a, K, e, f]⟩ 1}
    (hC : CS = 4 * c) (hK : K = 4 * CS) (hq : 2 * f + 2 ≤ q) {n i j : ℕ} (hn : n < a) (hi : i < e) (hj : j < f)
    (t u k : ℕ) (ht : t < 4) (hu : u < 4) (hk : k < c) :
    at4 (stack4 ⟨4, ![a, CS, e, f]⟩ ⟨4, ![a, K, e, f]⟩ 1 fc
        (Host.slice ⟨4, ![a, CS, e, f]⟩ ![0, 0, 0, 0] ![1, 1, 1, 2] (stack4 ⟨4, ![a, c, e, q]⟩ ⟨4, ![a, CS, e, q]⟩ 1 gc
          (Host.slice ⟨4, ![a, c, e, q]⟩ ![0, 0, 0, 0] ![1, 1, 2, 1] P g0) (Host.slice ⟨4, ![a, c, e, q]⟩ ![0, 0, 1, 0] ![1, 1, 2, 1] P g1) (Host.slice ⟨4, ![a, c, e, q]⟩ ![0, 0, 2, 0] ![1, 1, 2, 1] P g2) (Host.slice ⟨4, ![a, c, e, q]⟩ ![0, 0, 3, 0] ![1, 1, 2, 1] P g3)) f0)
        (Host.slice ⟨4, ![a, CS, e, f]⟩ ![0, 0, 0, 1] ![1, 1, 1, 2] (stack4 ⟨4, ![a, c, e, q]⟩ ⟨4, ![a, CS, e, q]⟩ 1 gc
          (Host.slice ⟨4, ![a, c, e, q]⟩ ![0, 0, 0, 0] ![1, 1, 2, 1] P g0) (Host.slice ⟨4, ![a, c, e, q]⟩ ![0, 0, 1, 0] ![1, 1, 2, 1] P g1) (Host.slice ⟨4, ![a, c, e, q]⟩ ![0, 0, 2, 0] ![1, 1, 2, 1] P g2) (Host.slice ⟨4, ![a, c, e, q]⟩ ![0, 0, 3, 0] ![1, 1, 2, 1] P g3)) f1)
        (Host.slice ⟨4, ![a, CS, e, f]⟩ ![0, 0, 0, 2] ![1, 1, 1, 2] (stack4 ⟨4, ![a, c, e, q]⟩ ⟨4, ![a, CS, e, q]⟩ 1 gc
          (Host.slice ⟨4, ![a, c, e, q]⟩ ![0, 0, 0, 0] ![1, 1, 2, 1] P g0) (Host.slice ⟨4, ![a, c, e, q]⟩ ![0, 0, 1, 0] ![1, 1, 2, 1] P g1) (Host.slice ⟨4, ![a, c, e, q]⟩ ![0, 0, 2, 0] ![1, 1, 2, 1] P g2) (Host.slice ⟨4, ![a, c, e, q]⟩ ![0, 0, 3, 0] ![1, 1, 2, 1] P g3)) f2)
        (Host.slice ⟨4, ![a, CS, e, f]⟩ ![0, 0, 0, 3] ![1, 1, 1, 2] (stack4 ⟨4, ![a, c, e, q]⟩ ⟨4, ![a, CS, e, q]⟩ 1 gc
          (Host.slice ⟨4, ![a, c, e, q]⟩ ![0, 0, 0, 0] ![1, 1, 2, 1] P g0) (Host.slice ⟨4, ![a, c, e, q]⟩ ![0, 0, 1, 0] ![1, 1, 2, 1] P g1) (Host.slice ⟨4, ![a, c, e, q]⟩ ![0, 0, 2, 0] ![1, 1, 2, 1] P g2) (Host.slice ⟨4, ![a, c, e, q]⟩ ![0, 0, 3, 0] ![1, 1, 2, 1] P g3)) f3))
      n (t * (4 * c) + (u * c + k)) i j = at4 P n k (2 * i + u) (2 * j + t) := by
  have hR : ∀ u k z, u < 4 → k < c → z < q → at4 (stack4 ⟨4, ![a, c, e, q]⟩ ⟨4, ![a, CS, e, q]⟩ 1 gc
          (Host.slice ⟨4, ![a, c, e, q]⟩ ![0, 0, 0, 0] ![1, 1, 2, 1] P g0) (Host.slice ⟨4, ![a, c, e, q]⟩ ![0, 0, 1, 0] ![1, 1, 2, 1] P g1) (Host.slice ⟨4, ![a, c, e, q]⟩ ![0, 0, 2, 0] ![1, 1, 2, 1] P g2) (Host.slice ⟨4, ![a, c, e, q]⟩ ![0, 0, 3, 0] ![1, 1, 2, 1] P g3))
      n (u * c + k) i z = at4 P n k (2 * i + u) z := by
    intro u k z hu hk hz
    exact stack4_at _ _ _ _ gc hC (fun u k => at4 P n k (2 * i + u) z) n i z hn hi hz
      (fun k hk => (strides_at P g0 n k i z hn hk hi hz).trans (by rw [Nat.add_comm 0 (2 * i), Nat.zero_add, Nat.one_mul]))
      (fun k hk => (strides_at P g1 n k i z hn hk hi hz).trans (by rw [Nat.add_comm 1 (2 * i), Nat.zero_add, Nat.one_mul]))
      (fun k hk => (strides_at P g2 n k i z hn hk hi hz).trans (by rw [Nat.add_comm 2 (2 * i), Nat.zero_add, Nat.one_mul]))
      (fun k hk => (strides_at P g3 n k i z hn hk hi hz).trans (by rw [Nat.add_comm 3 (2 * i), Nat.zero_add, Nat.one_mul])) u k hu hk
  rw [← hR u k (2 * j + t) hu hk (by omega), ← hC]
  have huk : u * c + k < CS := hC ▸ mul_add_lt hu hk
  exact stack4_at _ _ _ _ fc hK (fun t k => at4 (stack4 ⟨4, ![a, c, e, q]⟩ ⟨4, ![a, CS, e, q]⟩ 1 gc
          (Host.slice ⟨4, ![a, c, e, q]⟩ ![0, 0, 0, 0] ![1, 1, 2, 1] P g0) (Host.slice ⟨4, ![a, c, e, q]⟩ ![0, 0, 1, 0] ![1, 1, 2, 1] P g1) (Host.slice ⟨4, ![a, c, e, q]⟩ ![0, 0, 2, 0] ![1, 1, 2, 1] P g2) (Host.slice ⟨4, ![a, c, e, q]⟩ ![0, 0, 3, 0] ![1, 1, 2, 1] P g3)) n k i (2 * j + t)) n i j hn hi hj
    (fun k hk => (strides_at _ f0 n k i j hn hk hi hj).trans (by rw [Nat.add_comm 0 (2 * j), Nat.zero_add, Nat.one_mul]))
    (fun k hk => (strides_at _ f1 n k i j hn hk hi hj).trans (by rw [Nat.add_comm 1 (2 * j), Nat.zero_add, Nat.one_mul]))
    (fun k hk => (strides_at _ f2 n k i j hn hk hi hj).trans (by rw [Nat.add_comm 2 (2 * j), Nat.zero_add, Nat.one_mul]))
    (fun k hk => (strides_at _ f3 n k i j hn hk hi hj).trans (by rw [Nat.add_comm 3 (2 * j), Nat.zero_add, Nat.one_mul])) t (u * c + k) ht huk

/-- Stacked patches of a 3x3 convolution. -/
theorem patches3_at {a c p q e f CS K : ℕ} {P : (⟨4, ![a, c, p, q]⟩ : Shape).Idx → EReal}
    {g0 : (⟨4, ![a, c, p, q]⟩ : Shape).Slices ![0, 0, 0, 0] ⟨4, ![a, c, e, q]⟩}
    {g1 : (⟨4, ![a, c, p, q]⟩ : Shape).Slices ![0, 0, 1, 0] ⟨4, ![a, c, e, q]⟩}
    {g2 : (⟨4, ![a, c, p, q]⟩ : Shape).Slices ![0, 0, 2, 0] ⟨4, ![a, c, e, q]⟩}
    {gc : Shape.Concatenates [⟨4, ![a, c, e, q]⟩, ⟨4, ![a, c, e, q]⟩, ⟨4, ![a, c, e, q]⟩] ⟨4, ![a, CS, e, q]⟩ 1}
    {f0 : (⟨4, ![a, CS, e, q]⟩ : Shape).Slices ![0, 0, 0, 0] ⟨4, ![a, CS, e, f]⟩}
    {f1 : (⟨4, ![a, CS, e, q]⟩ : Shape).Slices ![0, 0, 0, 1] ⟨4, ![a, CS, e, f]⟩}
    {f2 : (⟨4, ![a, CS, e, q]⟩ : Shape).Slices ![0, 0, 0, 2] ⟨4, ![a, CS, e, f]⟩}
    {fc : Shape.Concatenates [⟨4, ![a, CS, e, f]⟩, ⟨4, ![a, CS, e, f]⟩, ⟨4, ![a, CS, e, f]⟩] ⟨4, ![a, K, e, f]⟩ 1}
    (hC : CS = 3 * c) (hK : K = 3 * CS) (hq : f + 2 ≤ q) {n i j : ℕ} (hn : n < a) (hi : i < e) (hj : j < f)
    (t u k : ℕ) (ht : t < 3) (hu : u < 3) (hk : k < c) :
    at4 (stack3 ⟨4, ![a, CS, e, f]⟩ ⟨4, ![a, K, e, f]⟩ 1 fc
        (extractStridedSlice ⟨4, ![a, CS, e, f]⟩ ![0, 0, 0, 0] (stack3 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2)) f0)
        (extractStridedSlice ⟨4, ![a, CS, e, f]⟩ ![0, 0, 0, 1] (stack3 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2)) f1)
        (extractStridedSlice ⟨4, ![a, CS, e, f]⟩ ![0, 0, 0, 2] (stack3 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2)) f2))
      n (t * (3 * c) + (u * c + k)) i j = at4 P n k (i + u) (j + t) := by
  have hR : ∀ u k z, u < 3 → k < c → z < q → at4 (stack3 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2))
      n (u * c + k) i z = at4 P n k (i + u) z := by
    intro u k z hu hk hz
    exact stack3_at _ _ _ gc hC (fun u k => at4 P n k (i + u) z) n i z hn hi hz
      (fun k hk => (window_at P g0 n k i z hn hk hi hz).trans (by rw [Nat.add_comm 0 i, Nat.zero_add]))
      (fun k hk => (window_at P g1 n k i z hn hk hi hz).trans (by rw [Nat.add_comm 1 i, Nat.zero_add]))
      (fun k hk => (window_at P g2 n k i z hn hk hi hz).trans (by rw [Nat.add_comm 2 i, Nat.zero_add])) u k hu hk
  rw [← hR u k (j + t) hu hk (by omega), ← hC]
  have huk : u * c + k < CS := hC ▸ mul_add_lt hu hk
  exact stack3_at _ _ _ fc hK (fun t k => at4 (stack3 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2)) n k i (j + t)) n i j hn hi hj
    (fun k hk => (window_at _ f0 n k i j hn hk hi hj).trans (by rw [Nat.add_comm 0 j, Nat.zero_add]))
    (fun k hk => (window_at _ f1 n k i j hn hk hi hj).trans (by rw [Nat.add_comm 1 j, Nat.zero_add]))
    (fun k hk => (window_at _ f2 n k i j hn hk hi hj).trans (by rw [Nat.add_comm 2 j, Nat.zero_add])) t (u * c + k) ht huk

/-- Stacked patches of a 4x4 convolution. -/
theorem patches4_at {a c p q e f CS K : ℕ} {P : (⟨4, ![a, c, p, q]⟩ : Shape).Idx → EReal}
    {g0 : (⟨4, ![a, c, p, q]⟩ : Shape).Slices ![0, 0, 0, 0] ⟨4, ![a, c, e, q]⟩}
    {g1 : (⟨4, ![a, c, p, q]⟩ : Shape).Slices ![0, 0, 1, 0] ⟨4, ![a, c, e, q]⟩}
    {g2 : (⟨4, ![a, c, p, q]⟩ : Shape).Slices ![0, 0, 2, 0] ⟨4, ![a, c, e, q]⟩}
    {g3 : (⟨4, ![a, c, p, q]⟩ : Shape).Slices ![0, 0, 3, 0] ⟨4, ![a, c, e, q]⟩}
    {gc : Shape.Concatenates [⟨4, ![a, c, e, q]⟩, ⟨4, ![a, c, e, q]⟩, ⟨4, ![a, c, e, q]⟩, ⟨4, ![a, c, e, q]⟩] ⟨4, ![a, CS, e, q]⟩ 1}
    {f0 : (⟨4, ![a, CS, e, q]⟩ : Shape).Slices ![0, 0, 0, 0] ⟨4, ![a, CS, e, f]⟩}
    {f1 : (⟨4, ![a, CS, e, q]⟩ : Shape).Slices ![0, 0, 0, 1] ⟨4, ![a, CS, e, f]⟩}
    {f2 : (⟨4, ![a, CS, e, q]⟩ : Shape).Slices ![0, 0, 0, 2] ⟨4, ![a, CS, e, f]⟩}
    {f3 : (⟨4, ![a, CS, e, q]⟩ : Shape).Slices ![0, 0, 0, 3] ⟨4, ![a, CS, e, f]⟩}
    {fc : Shape.Concatenates [⟨4, ![a, CS, e, f]⟩, ⟨4, ![a, CS, e, f]⟩, ⟨4, ![a, CS, e, f]⟩, ⟨4, ![a, CS, e, f]⟩] ⟨4, ![a, K, e, f]⟩ 1}
    (hC : CS = 4 * c) (hK : K = 4 * CS) (hq : f + 3 ≤ q) {n i j : ℕ} (hn : n < a) (hi : i < e) (hj : j < f)
    (t u k : ℕ) (ht : t < 4) (hu : u < 4) (hk : k < c) :
    at4 (stack4 ⟨4, ![a, CS, e, f]⟩ ⟨4, ![a, K, e, f]⟩ 1 fc
        (extractStridedSlice ⟨4, ![a, CS, e, f]⟩ ![0, 0, 0, 0] (stack4 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2) (extractStridedSlice ⟨4, ![a, c, e, q]⟩ ![0, 0, 3, 0] P g3)) f0)
        (extractStridedSlice ⟨4, ![a, CS, e, f]⟩ ![0, 0, 0, 1] (stack4 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2) (extractStridedSlice ⟨4, ![a, c, e, q]⟩ ![0, 0, 3, 0] P g3)) f1)
        (extractStridedSlice ⟨4, ![a, CS, e, f]⟩ ![0, 0, 0, 2] (stack4 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2) (extractStridedSlice ⟨4, ![a, c, e, q]⟩ ![0, 0, 3, 0] P g3)) f2)
        (extractStridedSlice ⟨4, ![a, CS, e, f]⟩ ![0, 0, 0, 3] (stack4 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2) (extractStridedSlice ⟨4, ![a, c, e, q]⟩ ![0, 0, 3, 0] P g3)) f3))
      n (t * (4 * c) + (u * c + k)) i j = at4 P n k (i + u) (j + t) := by
  have hR : ∀ u k z, u < 4 → k < c → z < q → at4 (stack4 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2) (extractStridedSlice ⟨4, ![a, c, e, q]⟩ ![0, 0, 3, 0] P g3))
      n (u * c + k) i z = at4 P n k (i + u) z := by
    intro u k z hu hk hz
    exact stack4_at _ _ _ _ gc hC (fun u k => at4 P n k (i + u) z) n i z hn hi hz
      (fun k hk => (window_at P g0 n k i z hn hk hi hz).trans (by rw [Nat.add_comm 0 i, Nat.zero_add]))
      (fun k hk => (window_at P g1 n k i z hn hk hi hz).trans (by rw [Nat.add_comm 1 i, Nat.zero_add]))
      (fun k hk => (window_at P g2 n k i z hn hk hi hz).trans (by rw [Nat.add_comm 2 i, Nat.zero_add]))
      (fun k hk => (window_at P g3 n k i z hn hk hi hz).trans (by rw [Nat.add_comm 3 i, Nat.zero_add])) u k hu hk
  rw [← hR u k (j + t) hu hk (by omega), ← hC]
  have huk : u * c + k < CS := hC ▸ mul_add_lt hu hk
  exact stack4_at _ _ _ _ fc hK (fun t k => at4 (stack4 ⟨4, ![a, c, e, q]⟩ ⟨4, ![a, CS, e, q]⟩ 1 gc
          (extractStridedSlice ⟨4, ![a, c, e, q]⟩ ![0, 0, 0, 0] P g0) (extractStridedSlice ⟨4, ![a, c, e, q]⟩ ![0, 0, 1, 0] P g1) (extractStridedSlice ⟨4, ![a, c, e, q]⟩ ![0, 0, 2, 0] P g2) (extractStridedSlice ⟨4, ![a, c, e, q]⟩ ![0, 0, 3, 0] P g3)) n k i (j + t)) n i j hn hi hj
    (fun k hk => (window_at _ f0 n k i j hn hk hi hj).trans (by rw [Nat.add_comm 0 j, Nat.zero_add]))
    (fun k hk => (window_at _ f1 n k i j hn hk hi hj).trans (by rw [Nat.add_comm 1 j, Nat.zero_add]))
    (fun k hk => (window_at _ f2 n k i j hn hk hi hj).trans (by rw [Nat.add_comm 2 j, Nat.zero_add]))
    (fun k hk => (window_at _ f3 n k i j hn hk hi hj).trans (by rw [Nat.add_comm 3 j, Nat.zero_add])) t (u * c + k) ht huk

section Product
variable {O K N H L c s : ℕ}
  {wf : DotDims.WF ⟨2, ![O, K]⟩ ⟨4, ![N, K, H, L]⟩ ⟨4, ![O, N, H, L]⟩ [1] [1] [0] [0, 2, 3] [] []}
  {d : DotDims ⟨2, ![O, K]⟩ ⟨4, ![N, K, H, L]⟩ ⟨4, ![O, N, H, L]⟩} {prec : Option ContractPrecision}
  {w : (⟨4, ![O, c, s, s]⟩ : Shape).Idx → EReal} {v : (⟨1, ![O]⟩ : Shape).Idx → EReal} {r : (⟨4, ![N, K, H, L]⟩ : Shape).Idx → EReal}
  {h1 : (⟨4, ![O, c, s, s]⟩ : Shape).Transposes [0, 3, 2, 1] ⟨4, ![O, s, s, c]⟩}
  {h2 : (⟨4, ![O, s, s, c]⟩ : Shape).ShapeCasts ⟨2, ![O, K]⟩}
  {h3 : (⟨4, ![O, N, H, L]⟩ : Shape).Transposes [1, 0, 2, 3] ⟨4, ![N, O, H, L]⟩}
  {b1 : (⟨1, ![O]⟩ : Shape).BroadcastsInDim ⟨4, ![1, O, 1, 1]⟩ ![1]}
  {b2 : (⟨4, ![1, O, 1, 1]⟩ : Shape).BroadcastsInDim ⟨4, ![N, O, H, L]⟩ ![0, 1, 2, 3]}
  {n o i j : ℕ}

/-- Weights times stacked patches, plus the bias: the sum over the taps. -/
theorem product_at (hd : d = patchDot O K N H L wf) (hK : K = s * (s * c)) (P : ℕ → ℕ → ℕ → EReal)
    (hr : ∀ t u k, t < s → u < s → k < c → at4 r n (t * (s * c) + (u * c + k)) i j = P k u t)
    (hn : n < N) (ho : o < O) (hi : i < H) (hj : j < L) :
    at4 (addf (F := Ideal) (φ := .f32) (transpose ⟨4, ![N, O, H, L]⟩ [1, 0, 2, 3] (Host.dotGeneral (F := Ideal) (φ₁ := .f32) (φ₂ := .f32) d prec
        (shapeCast ⟨2, ![O, K]⟩ (transpose ⟨4, ![O, s, s, c]⟩ [0, 3, 2, 1] w h1) h2) r) h3)
        (broadcastInDim ⟨4, ![N, O, H, L]⟩ ![0, 1, 2, 3] b2 (broadcastInDim ⟨4, ![1, O, 1, 1]⟩ ![1] b1 v))) n o i j
      = (∑ u ∈ Finset.range s, ∑ t ∈ Finset.range s, ∑ k ∈ Finset.range c, P k u t * at4 w o k u t) + at1 v o := by
  rw [addf_at4, biasSpread_at v b1 b2 n o i j hn ho hi hj, patchDot_at d hd prec _ r h3 n o i j hn ho hi hj]
  exact congrArg (· + at1 v o) (patch_sum hK (fun k => at2 _ o k) (fun k => at4 r n k i j) P (fun k u t => at4 w o k u t)
    (fun t u k ht hu hk => patchKernel_at w h1 h2 hK o t u k ho ht hu hk) hr)

end Product

end Cert.Proof
end
-- ==== Proof.RefEnc.lean ====
/- The reference's encoder: what its first three layers leave, as layers over natural coordinates. -/
module

public import proofs.«01_k».proof.Proof.RefRun
public import proofs.«01_k».proof.Proof.RefConv

@[expose] public section

set_option maxRecDepth 16384

noncomputable section

namespace Cert.ReferenceIdeal.Layers

open Cert.ReferenceIdeal Cert.ReferenceIdeal.Gen Idealize.ShloMosaic Idealize.ShloMosaic.TcCoe Idealize.ShloMosaic.Tactic
open Idealize.ShloMosaic.StableHlo
open Cert.Proof

variable (V : Valuation τ sig (Elt Ideal))

/-! ## The arguments -/

def rA := at4 (a := 8) (b := 3) (c := 224) (d := 224) (V (Proc.devRef .tc main_arg0))
def rW1 := at4 (a := 128) (b := 3) (c := 4) (d := 4) (V (Proc.devRef .tc main_arg1))
def rB1 := at1 (a := 128) (V (Proc.devRef .tc main_arg2))
def rW2 := at4 (a := 256) (b := 128) (c := 4) (d := 4) (V (Proc.devRef .tc main_arg3))
def rB2 := at1 (a := 256) (V (Proc.devRef .tc main_arg4))
def rW3 := at4 (a := 256) (b := 256) (c := 3) (d := 3) (V (Proc.devRef .tc main_arg5))
def rB3 := at1 (a := 256) (V (Proc.devRef .tc main_arg6))

theorem zeroConst : ∀ i, (constant S_ .f32 0x00000000#32 : FVec Ideal S_ .f32) i = (0 : EReal) := fun _ => Ideal.ofBits_zero_f32

/-! ## The layers -/

theorem layer1 (n o i j : ℕ) :
    at4 (a := 8) (b := 128) (c := 112) (d := 112) (X1 V (Proc.devRef .tc main_v19)) n o i j = L1 (rA V) (rW1 V) (rB1 V) n o i j := by
  refine at4_clip' (fun n o i j hn ho hi hj => ?_) n o i j
  unfold X1
  after_reads_simp [join4_result]
  clean_types
  refine (relu_at4 _ _ n o i j).trans ?_
  show max _ 0 = max (convS2 3 _ _ _ n o i j) 0
  congr 1
  exact product_at (show dot_S128x48_S8x48x112x112_S128x8x112x112_1_1_0_023_n_n = patchDot 128 48 8 112 112 (by decide) from rfl) rfl (fun k u t => padF (rA V) n k (2 * i + u) (2 * j + t))
    (fun t u k ht hu hk => (patches2_at rfl rfl (by decide) hn hi hj t u k ht hu hk).trans
      (frame_at zeroConst _ _ (fun _ _ _ _ => rfl) hn hk (by omega) (by omega))) hn ho hi hj

theorem layer2 (n o i j : ℕ) :
    at4 (a := 8) (b := 256) (c := 56) (d := 56) (X2 V (Proc.devRef .tc main_v39)) n o i j
      = L2 (L1 (rA V) (rW1 V) (rB1 V)) (rW2 V) (rB2 V) n o i j := by
  refine at4_clip' (fun n o i j hn ho hi hj => ?_) n o i j
  unfold X2
  after_reads_simp [join4_result]
  rw [X1_keep V main_arg3 (by decide), X1_keep V main_arg4 (by decide)]
  clean_types
  refine (relu_at4 _ _ n o i j).trans ?_
  show max _ 0 = max (convS2 128 _ _ _ n o i j) 0
  congr 1
  exact product_at (show dot_S256x2048_S8x2048x56x56_S256x8x56x56_1_1_0_023_n_n = patchDot 256 2048 8 56 56 (by decide) from rfl) rfl (fun k u t => padF (L1 (rA V) (rW1 V) (rB1 V)) n k (2 * i + u) (2 * j + t))
    (fun t u k ht hu hk => (patches2_at rfl rfl (by decide) hn hi hj t u k ht hu hk).trans
      (frame_at zeroConst _ _ (layer1 V) hn hk (by omega) (by omega))) hn ho hi hj

/-- The encoder's result. -/
def rE := L3 (L2 (L1 (rA V) (rW1 V) (rB1 V)) (rW2 V) (rB2 V)) (rW3 V) (rB3 V)

theorem layer3 (n o i j : ℕ) :
    at4 (a := 8) (b := 256) (c := 56) (d := 56) (X4 V (Proc.devRef .tc main_v55)) n o i j = rE V n o i j := by
  refine at4_clip' (fun n o i j hn ho hi hj => ?_) n o i j
  unfold X4 X3
  after_reads_simp [join3_result]
  rw [X2_keep V main_arg5 (by decide), X1_keep V main_arg5 (by decide), X2_keep V main_arg6 (by decide), X1_keep V main_arg6 (by decide)]
  clean_types
  exact product_at (show dot_S256x2304_S8x2304x56x56_S256x8x56x56_1_1_0_023_n_n = patchDot 256 2304 8 56 56 (by decide) from rfl) rfl (fun k u t => padF (L2 (L1 (rA V) (rW1 V) (rB1 V)) (rW2 V) (rB2 V)) n k (i + u) (j + t))
    (fun t u k ht hu hk => (patches3_at rfl rfl (by decide) hn hi hj t u k ht hu hk).trans
      (frame_at zeroConst _ _ (layer2 V) hn hk (by omega) (by omega))) hn ho hi hj

end Cert.ReferenceIdeal.Layers
end
-- ==== Proof.RefDec.lean ====
/- The reference's decoder: what its last three layers leave, as layers over natural coordinates of the decoder's input. -/
module

public import proofs.«01_k».proof.Proof.RefEnc

@[expose] public section

set_option maxRecDepth 16384

noncomputable section

namespace Cert.ReferenceIdeal.Layers

open Cert.ReferenceIdeal Cert.ReferenceIdeal.Gen Idealize.ShloMosaic Idealize.ShloMosaic.TcCoe Idealize.ShloMosaic.Tactic
open Idealize.ShloMosaic.StableHlo
open Cert.Proof

variable (V : Valuation τ sig (Elt Ideal))

def rW4 := at4 (a := 256) (b := 256) (c := 3) (d := 3) (V (Proc.devRef .tc main_arg8))
def rB4 := at1 (a := 256) (V (Proc.devRef .tc main_arg9))
def rW5 := at4 (a := 128) (b := 256) (c := 4) (d := 4) (V (Proc.devRef .tc main_arg10))
def rB5 := at1 (a := 128) (V (Proc.devRef .tc main_arg11))
def rW6 := at4 (a := 3) (b := 128) (c := 4) (d := 4) (V (Proc.devRef .tc main_arg12))
def rB6 := at1 (a := 3) (V (Proc.devRef .tc main_arg13))

/-- An argument reaches the decoder unchanged. -/
theorem X7_arg (r : Ref sig .tc) (h : r ∉ wr0 ++ (wr1 ++ (wr2 ++ (wr3 ++ (wr4 ++ (wr5 ++ wr6)))))) :
    X7 V (Proc.devRef .tc r) = V (Proc.devRef .tc r) := by
  simp only [List.mem_append, not_or] at h
  obtain ⟨h0, h1, h2, h3, h4, h5, h6⟩ := h
  rw [X7_keep _ _ h6, X6_keep _ _ h5, X5_keep _ _ h4, X4_keep _ _ h3, X3_keep _ _ h2, X2_keep _ _ h1, X1_keep _ _ h0]

variable {Q : ℕ → ℕ → ℕ → ℕ → EReal}

theorem layer4 (hQ : ∀ n o i j, at4 (a := 8) (b := 256) (c := 56) (d := 56) (X7 V (Proc.devRef .tc main_v77)) n o i j = Q n o i j)
    (n o i j : ℕ) :
    at4 (a := 8) (b := 256) (c := 56) (d := 56) (X8 V (Proc.devRef .tc main_v95)) n o i j = L4 Q (rW4 V) (rB4 V) n o i j := by
  refine at4_clip' (fun n o i j hn ho hi hj => ?_) n o i j
  unfold X8
  after_reads_simp [join3_result]
  rw [X7_arg V main_arg8 (by decide), X7_arg V main_arg9 (by decide)]
  clean_types
  refine (relu_at4 _ _ n o i j).trans ?_
  show max _ 0 = max (conv3 256 _ _ _ n o i j) 0
  congr 1
  exact product_at (show dot_S256x2304_S8x2304x56x56_S256x8x56x56_1_1_0_023_n_n = patchDot 256 2304 8 56 56 (by decide) from rfl) rfl
    (fun k u t => padF Q n k (i + u) (j + t))
    (fun t u k ht hu hk => (patches3_at rfl rfl (by decide) hn hi hj t u k ht hu hk).trans
      (frame_at zeroConst _ _ hQ hn hk (by omega) (by omega))) hn ho hi hj

theorem layer5 (hQ : ∀ n o i j, at4 (a := 8) (b := 256) (c := 56) (d := 56) (X7 V (Proc.devRef .tc main_v77)) n o i j = Q n o i j)
    (n o i j : ℕ) :
    at4 (a := 8) (b := 128) (c := 112) (d := 112) (X10 V (Proc.devRef .tc main_v115)) n o i j
      = L5 (L4 Q (rW4 V) (rB4 V)) (rW5 V) (rB5 V) n o i j := by
  refine at4_clip' (fun n o i j hn ho hi hj => ?_) n o i j
  unfold X10 X9
  after_reads_simp [join4_result]
  rw [X8_keep V main_arg10 (by decide), X8_keep V main_arg11 (by decide), X7_arg V main_arg10 (by decide), X7_arg V main_arg11 (by decide)]
  clean_types
  refine (relu_at4 _ _ n o i j).trans ?_
  show max _ 0 = max (deconv 256 _ _ _ n o i j) 0
  congr 1
  unfold deconv
  rw [← spread_sum]
  exact product_at (show dot_S128x4096_S8x4096x112x112_S128x8x112x112_1_1_0_023_n_n = patchDot 128 4096 8 112 112 (by decide) from rfl) rfl
    (fun k u t => spreadF (L4 Q (rW4 V) (rB4 V)) n k (i + u) (j + t))
    (fun t u k ht hu hk => (patches4_at rfl rfl (by decide) hn hi hj t u k ht hu hk).trans
      (spread_at zeroConst _ _ (layer4 V hQ) hn hk (by omega) (by omega))) hn ho hi hj

theorem layer6 (hQ : ∀ n o i j, at4 (a := 8) (b := 256) (c := 56) (d := 56) (X7 V (Proc.devRef .tc main_v77)) n o i j = Q n o i j)
    (n o i j : ℕ) :
    at4 (a := 8) (b := 3) (c := 224) (d := 224) (X11 V (Proc.devRef .tc main_v133)) n o i j
      = L6 (L5 (L4 Q (rW4 V) (rB4 V)) (rW5 V) (rB5 V)) (rW6 V) (rB6 V) n o i j := by
  refine at4_clip' (fun n o i j hn ho hi hj => ?_) n o i j
  unfold X11
  after_reads_simp [join4_result]
  rw [X10_keep V main_arg12 (by decide), X10_keep V main_arg13 (by decide), X9_keep V main_arg12 (by decide), X9_keep V main_arg13 (by decide),
    X8_keep V main_arg12 (by decide), X8_keep V main_arg13 (by decide), X7_arg V main_arg12 (by decide), X7_arg V main_arg13 (by decide)]
  clean_types
  unfold deconv
  rw [← spread_sum]
  exact product_at (show dot_S3x2048_S8x2048x224x224_S3x8x224x224_1_1_0_023_n_n = patchDot 3 2048 8 224 224 (by decide) from rfl) rfl
    (fun k u t => spreadF (L5 (L4 Q (rW4 V) (rB4 V)) (rW5 V) (rB5 V)) n k (i + u) (j + t))
    (fun t u k ht hu hk => (patches4_at rfl rfl (by decide) hn hi hj t u k ht hu hk).trans
      (spread_at zeroConst _ _ (layer5 V hQ) hn hk (by omega) (by omega))) hn ho hi hj

end Cert.ReferenceIdeal.Layers
end
-- ==== Proof.RefNear.lean ====
/- The reference's search for the nearest codeword and its lookup, read at coordinates. -/
module

public import proofs.«01_k».proof.ReferenceIdeal
public import proofs.«01_k».proof.Proof.Layout
public import proofs.«01_k».proof.Proof.Nearest
public import Idealize.ShloMosaic.Lib.ReduceAll
public import Idealize.ShloMosaic.Lib.Routing.Ops
public import Idealize.ShloMosaic.Lib.KernelVsHost
public import Idealize.ShloMosaic.Lib.Pointwise
public import Idealize.ShloMosaic.Lib.WordCmp

@[expose] public section

set_option maxRecDepth 16384

noncomputable section

open scoped BigOperators

namespace Cert.Proof

open Idealize.ShloMosaic

/-! ## Sums, spreads and a product of matrices -/

section Matrix
variable {R N K : ℕ}

/-- The total of each row of a matrix. -/
theorem rowTotal_at {u : Shape} (x : FVec Ideal ⟨2, ![R, N]⟩ .f32) (v : FVec Ideal u .f32) (hv : ∀ i, v i = (0 : EReal))
    (h : (⟨2, ![R, N]⟩ : Shape).ReducesTo [1] ⟨1, ![R]⟩) (hu : 0 < u.numel) (i : ℕ) (hi : i < R) :
    at1 (Host.reduceAdd x v h hu) i = ∑ k ∈ Finset.range N, at2 x i k := by
  rw [at1_of _ hi, Finset.sum_range]
  refine (Ideal.hostReduceAdd_r2_a1 h x _ _).trans ?_
  rw [hv, zero_add]
  exact Finset.sum_congr rfl fun k _ => (at2_of x hi k.isLt).symm

/-- A column spread over the columns of a matrix. -/
theorem columnSpread_at (v : (⟨1, ![R]⟩ : Shape).Idx → EReal)
    (h1 : (⟨1, ![R]⟩ : Shape).BroadcastsInDim ⟨2, ![R, 1]⟩ ![0])
    (h2 : (⟨2, ![R, 1]⟩ : Shape).BroadcastsInDim ⟨2, ![R, N]⟩ ![0, 1]) (i j : ℕ) (hi : i < R) (hj : j < N) :
    at2 (broadcastInDim ⟨2, ![R, N]⟩ ![0, 1] h2 (broadcastInDim ⟨2, ![R, 1]⟩ ![0] h1 v)) i j = at1 v i := by
  rw [at2_of _ hi hj, at1_of v hi]
  refine (broadcastInDim_apply _ h2 _ _ (ValueIdx.ix2 ⟨i, hi⟩ 0) fun z => ?_).trans (broadcastInDim_apply _ h1 _ _ _ fun z => ?_)
  · match z with
    | ⟨0, _⟩ =>
      show i = if R = 1 then 0 else i
      split <;> omega
    | ⟨1, _⟩ => rfl
  · match z with
    | ⟨0, _⟩ =>
      show i = if R = 1 then 0 else i
      split <;> omega

/-- A row spread over the rows of a matrix. -/
theorem rowSpread_at (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![R, N]⟩ ![0, 1]) (i j : ℕ) (hi : i < R) (hj : j < N) :
    at2 (broadcastInDim ⟨2, ![R, N]⟩ ![0, 1] h2 (broadcastInDim ⟨2, ![1, N]⟩ ![1] h1 v)) i j = at1 v j := by
  rw [at2_of _ hi hj, at1_of v hj]
  refine (broadcastInDim_apply _ h2 _ _ (ValueIdx.ix2 0 ⟨j, hj⟩) fun z => ?_).trans (broadcastInDim_apply _ h1 _ _ _ fun z => ?_)
  · match z with
    | ⟨0, _⟩ => rfl
    | ⟨1, _⟩ =>
      show j = if N = 1 then 0 else j
      split <;> omega
  · match z with
    | ⟨0, _⟩ =>
      show j = if N = 1 then 0 else j
      split <;> omega

/-- The reference's product of two matrices. -/
theorem matrixProduct_at (d : DotDims ⟨2, ![R, K]⟩ ⟨2, ![K, N]⟩ ⟨2, ![R, N]⟩) (hd : d = DotDims.plain R K N) (prec : Option ContractPrecision)
    (l : FVec Ideal ⟨2, ![R, K]⟩ .f32) (r : FVec Ideal ⟨2, ![K, N]⟩ .f32) (i j : ℕ) (hi : i < R) (hj : j < N) :
    at2 (Host.dotGeneral (F := Ideal) (φ₁ := .f32) (φ₂ := .f32) d prec l r) i j = ∑ k ∈ Finset.range K, at2 l i k * at2 r k j := by
  subst hd
  rw [at2_of _ hi hj, ← matmul_zero_eq_dotGeneral]
  refine (Ideal.matmul_plain_apply prec _ _ _ _ _).trans ?_
  rw [show (constant ⟨2, ![R, N]⟩ .f32 0x00000000#32 : FVec Ideal _ .f32) (ValueIdx.ix2 ⟨i, hi⟩ ⟨j, hj⟩) = (0 : EReal) from
    Ideal.ofBits_zero_f32, zero_add, Finset.sum_range]
  refine Finset.sum_congr rfl fun k _ => ?_
  rw [at2_of l hi k.isLt, at2_of r k.isLt hj]

end Matrix

/-! ## The position of the least value -/

/-- One value and its position come before another: the value is smaller, or is the same at a position not after it. -/
def Before (a b : EReal × BitVec 32) : Prop := a.1 < b.1 ∨ a.1 = b.1 ∧ a.2.toInt ≤ b.2.toInt

theorem Before.refl (a : EReal × BitVec 32) : Before a a := Or.inr ⟨rfl, le_refl _⟩

theorem Before.trans {a b c : EReal × BitVec 32} (h : Before a b) (h' : Before b c) : Before a c := by
  rcases h with h | ⟨h, e⟩ <;> rcases h' with h' | ⟨h', e'⟩
  · exact Or.inl (h.trans h')
  · exact Or.inl (h' ▸ h)
  · exact Or.inl (h ▸ h')
  · exact Or.inr ⟨h.trans h', e.trans e'⟩

/-- A step of the search keeps the one of the two that comes before the other. -/
theorem step_before (a b : EReal × BitVec 32) :
    (Cert.ReferenceIdeal.reducer_argmin_f32_i32 (F := Ideal) a b = a ∨ Cert.ReferenceIdeal.reducer_argmin_f32_i32 (F := Ideal) a b = b)
      ∧ Before (Cert.ReferenceIdeal.reducer_argmin_f32_i32 (F := Ideal) a b) a ∧ Before (Cert.ReferenceIdeal.reducer_argmin_f32_i32 (F := Ideal) a b) b := by
  have e : Cert.ReferenceIdeal.reducer_argmin_f32_i32 (F := Ideal) a b
      = if a.1 < b.1 ∨ a.1 = b.1 ∧ a.2.toInt < b.2.toInt then a else b := by
    have hs : IntOp.cmpi .slt a.2 b.2 = if a.2.toInt < b.2.toInt then 1#1 else 0#1 := by
      show BitVec.ofBool (decide (a.2.toInt < b.2.toInt)) = _
      by_cases h : a.2.toInt < b.2.toInt
      · rw [if_pos h, decide_eq_true h]; rfl
      · rw [if_neg h, decide_eq_false h]; rfl
    have h1 : FloatOps.cmpf (F := Ideal) (φ := .f32) .olt a.1 b.1 = if a.1 < b.1 then 1#1 else 0#1 := by
      show BitVec.ofBool (decide (a.1 < b.1)) = _
      by_cases h : a.1 < b.1 <;> simp [h]
    have h2 : FloatOps.cmpf (F := Ideal) (φ := .f32) .une a.1 a.1 = 0#1 := by
      show BitVec.ofBool (decide (a.1 ≠ a.1)) = _
      simp
    have h3 : FloatOps.cmpf (F := Ideal) (φ := .f32) .oeq a.1 b.1 = if a.1 = b.1 then 1#1 else 0#1 := by
      show BitVec.ofBool (decide (a.1 = b.1)) = _
      by_cases h : a.1 = b.1 <;> simp [h]
    unfold Cert.ReferenceIdeal.reducer_argmin_f32_i32
    simp only [h1, h2, h3, hs]
    by_cases c1 : a.1 < b.1
    · rw [if_pos c1, if_pos (Or.inl c1)]
      rw [if_neg (ne_of_lt c1)]
      by_cases c3 : a.2.toInt < b.2.toInt
      · rw [if_pos c3]; rfl
      · rw [if_neg c3]; rfl
    · rw [if_neg c1]
      by_cases c2 : a.1 = b.1
      · rw [if_pos c2]
        by_cases c3 : a.2.toInt < b.2.toInt
        · rw [if_pos c3, if_pos (Or.inr ⟨c2, c3⟩)]
          exact congrArg₂ Prod.mk c2.symm rfl
        · rw [if_neg c3, if_neg (not_or.mpr ⟨c1, fun h => c3 h.2⟩)]
          rfl
      · rw [if_neg c2, if_neg (not_or.mpr ⟨c1, fun h => c2 h.1⟩)]
        by_cases c3 : a.2.toInt < b.2.toInt
        · rw [if_pos c3]; rfl
        · rw [if_neg c3]; rfl
  rw [e]
  split
  · rename_i h
    refine ⟨Or.inl rfl, Before.refl a, ?_⟩
    rcases h with h | ⟨h, h'⟩
    · exact Or.inl h
    · exact Or.inr ⟨h, h'.le⟩
  · rename_i h
    refine ⟨Or.inr rfl, ?_, Before.refl b⟩
    push Not at h
    rcases lt_or_eq_of_le h.1 with h' | h'
    · exact Or.inl h'
    · exact Or.inr ⟨h', h.2 h'.symm⟩

/-- The search through a list ends at one of its pairs that comes before all of them. -/
theorem search_before (l : List (EReal × BitVec 32)) : ∀ p : EReal × BitVec 32,
    l.foldl (Cert.ReferenceIdeal.reducer_argmin_f32_i32 (F := Ideal)) p ∈ p :: l
      ∧ ∀ q ∈ p :: l, Before (l.foldl (Cert.ReferenceIdeal.reducer_argmin_f32_i32 (F := Ideal)) p) q := by
  induction l with
  | nil => exact fun p => ⟨List.mem_singleton.mpr rfl, fun q hq => by rw [List.mem_singleton.mp hq]; exact Before.refl _⟩
  | cons a l ih =>
    intro p
    obtain ⟨hs, hp, ha⟩ := step_before p a
    obtain ⟨hm, hb⟩ := ih (Cert.ReferenceIdeal.reducer_argmin_f32_i32 (F := Ideal) p a)
    rw [List.foldl_cons]
    have h0 := hb _ List.mem_cons_self
    refine ⟨?_, fun q hq => ?_⟩
    · rcases List.mem_cons.mp hm with h | h
      · rw [h]
        rcases hs with h' | h'
        · rw [h']; exact List.mem_cons_self
        · rw [h']; exact List.mem_cons_of_mem _ List.mem_cons_self
      · exact List.mem_cons_of_mem _ (List.mem_cons_of_mem _ h)
    · rcases List.mem_cons.mp hq with h | h
      · rw [h]; exact h0.trans hp
      · rcases List.mem_cons.mp h with h | h
        · rw [h]; exact h0.trans ha
        · exact hb q (List.mem_cons_of_mem _ h)

/-- The reference's search along the rows of a matrix names the first column of the least element. -/
theorem nearest_at {R N : ℕ} {u : Shape} (x : FVec Ideal ⟨2, ![R, N]⟩ .f32) (y : IVec ⟨2, ![R, N]⟩ 32)
    (hy : ∀ i k, y (ValueIdx.ix2 i k) = BitVec.ofNat 32 k.val) (hN : 0 < N) (hN' : N ≤ 2 ^ 30) (ix : FVec Ideal u .f32) (iy : IVec u 32)
    (hix : ∀ i, ix i = (⊤ : EReal)) (hiy : ∀ i, iy i = 0#32) (h : (⟨2, ![R, N]⟩ : Shape).ReducesTo [1] ⟨1, ![R]⟩) (hu : 0 < u.numel)
    (f : ℕ → EReal) (i : Fin R) (hf : ∀ k : Fin N, x (ValueIdx.ix2 i k) = f k.val) :
    (Host.argReduce (F := Ideal) Cert.ReferenceIdeal.reducer_argmin_f32_i32 x y ix iy h hu (ValueIdx.ix1 i)).2
      = BitVec.ofNat 32 (firstMin N f) := by
  have hd : ∀ z : (⟨2, ![R, N]⟩ : Shape).Idx, h.drop z = ValueIdx.ix1 (z 0) := fun z => by
    funext b
    match b with
    | ⟨0, _⟩ => rfl
  have hrow : ∀ z : (⟨2, ![R, N]⟩ : Shape).Idx, h.drop z = ValueIdx.ix1 i → z = ValueIdx.ix2 i (z 1) := fun z hz => by
    rw [hd] at hz
    have h0 : z 0 = i := congrFun hz 0
    rw [← h0]
    exact ValueIdx.eq_ix2 z
  rw [Ideal.argReduce_eq_reduce2, Host.reduce2_eq_foldl_fiber, hix, hiy]
  obtain ⟨hm, hb⟩ := search_before (Host.argReduceFiber x y h (ValueIdx.ix1 i)) (⊤, 0#32)
  generalize List.foldl _ _ _ = r at hm hb
  have hin : ∀ c : Fin N, (f c.val, BitVec.ofNat 32 c.val) ∈ Host.argReduceFiber x y h (ValueIdx.ix1 i) := fun c => by
    refine List.mem_map.mpr ⟨(Shape.rowMajor ⟨2, ![R, N]⟩) (ValueIdx.ix2 i c), List.mem_filter.mpr ⟨List.mem_finRange _, decide_eq_true ?_⟩, ?_⟩
    · rw [Equiv.symm_apply_apply, hd]
      rfl
    · rw [Equiv.symm_apply_apply, hf, hy]
  have hle : ∀ c < N, Before r (f c, BitVec.ofNat 32 c) := fun c hc => hb _ (List.mem_cons_of_mem _ (hin ⟨c, hc⟩))
  rcases List.mem_cons.mp hm with e | e
  · have htop : ∀ c < N, f c = ⊤ := fun c hc => by
      have := hle c hc
      rw [e] at this
      rcases this with h' | h'
      · exact absurd h' not_top_lt
      · exact h'.1.symm
    rw [firstMin_eq (i := 0) hN (fun c hc => by rw [htop c hc]; exact le_top) (fun c hc => absurd hc (Nat.not_lt_zero c)), e]
  · obtain ⟨n, hn, hr⟩ := List.mem_map.mp e
    have hz := hrow _ (of_decide_eq_true (List.mem_filter.mp hn).2)
    generalize (Shape.rowMajor ⟨2, ![R, N]⟩).symm n = z at hz hr
    have hr' : r = (f (z 1).val, BitVec.ofNat 32 (z 1).val) := by
      rw [← hr, hz]
      exact congrArg₂ Prod.mk (hf _) (hy _ _)
    have hzN : (z 1).val < N := (z 1).isLt
    rw [firstMin_eq hzN (fun c hc => ?_) (fun c hc => ?_), hr']
    · have := hle c hc
      rw [hr'] at this
      rcases this with h' | h'
      · exact h'.le
      · exact h'.1.le
    · have := hle c (hc.trans hzN)
      rw [hr'] at this
      rcases this with h' | h'
      · exact h'
      · have h2 := h'.2
        rw [toInt_small (by omega), toInt_small (by omega)] at h2
        omega

/-! ## The lookup -/

/-- Reading the rows of a table at words that name rows of it: no word is negative, none is past the end, so that what
    is read is the row named. -/
theorem lookup_at {R K : ℕ} {u : Shape} (d : GatherDims ⟨2, ![1024, K]⟩ ⟨2, ![R, 1]⟩ ⟨2, ![R, K]⟩) (hoff : d.offsetDims = [1])
    (hcoll : d.collapsedSliceDims = [0]) (hob : d.operandBatchingDims = []) (hsim : d.startIndexMap = [0]) (hivd : d.indexVectorDim = 1)
    (cb : (⟨2, ![1024, K]⟩ : Shape).Idx → EReal) (junk : (⟨2, ![R, K]⟩ : Shape).Idx → EReal)
    (w z w' : IVec ⟨1, ![R]⟩ 32) (lo hi : IVec ⟨2, ![R, 1]⟩ 32) (one : IVec u 1)
    (hz : ∀ i, z i = 0#32) (hlo : ∀ i, lo i = 0#32) (hhi : ∀ i, hi i = 1023#32) (hone : ∀ i, one i = 1#1)
    (g : ℕ → ℕ) (hg : ∀ i, g i < 1024) (hw : ∀ i : Fin R, w (ValueIdx.ix1 i) = BitVec.ofNat 32 (g i.val))
    (hb : (⟨1, ![R]⟩ : Shape).BroadcastsInDim ⟨2, ![R, 1]⟩ ![0]) (hb' : (⟨1, ![R]⟩ : Shape).BroadcastsInDim ⟨2, ![R, K]⟩ ![0])
    (h : (⟨2, ![R, 1]⟩ : Shape).ReducesTo [1] ⟨1, ![R]⟩) (hu : 0 < u.numel) (i k : ℕ) (hi' : i < R) (hk : k < K) :
    at2 (select (broadcastInDim ⟨2, ![R, K]⟩ ![0] hb' (Host.reduce IntOp.andi
          (andi (cmpi .sge (broadcastInDim ⟨2, ![R, 1]⟩ ![0] hb (select (cmpi .slt w z) w' w)) lo)
            (cmpi .sle (broadcastInDim ⟨2, ![R, 1]⟩ ![0] hb (select (cmpi .slt w z) w' w)) hi)) one h hu))
        (Host.gather d cb (broadcastInDim ⟨2, ![R, 1]⟩ ![0] hb (select (cmpi .slt w z) w' w))) junk) i k
      = at2 cb (g i) k := by
  have hs : select (cmpi .slt w z) w' w = w := by
    funext j
    obtain ⟨r, rfl⟩ : ∃ r : Fin R, j = ValueIdx.ix1 r := ⟨j 0, ValueIdx.eq_ix1 j⟩
    have hr := hg r.val
    show (if IntOp.cmpi .slt (w (ValueIdx.ix1 r)) (z (ValueIdx.ix1 r)) = 1 then _ else w (ValueIdx.ix1 r)) = w (ValueIdx.ix1 r)
    rw [hw, hz, if_neg]
    show ¬ BitVec.ofBool (decide ((BitVec.ofNat 32 (g r.val)).toInt < 0)) = 1
    rw [toInt_small (by omega), decide_eq_false (by omega)]
    decide
  have hv : ∀ r : Fin R, ∀ c : Fin 1, broadcastInDim ⟨2, ![R, 1]⟩ ![0] hb w (ValueIdx.ix2 r c) = BitVec.ofNat 32 (g r.val) := fun r c => by
    rw [← hw]
    refine broadcastInDim_apply _ hb _ _ _ fun y => ?_
    match y with
    | ⟨0, _⟩ =>
      show r.val = if R = 1 then 0 else r.val
      have := r.isLt
      split <;> omega
  rw [hs, at2_of _ hi' hk, at2_of cb (hg i) hk]
  have hone' : ∀ j, Host.reduce IntOp.andi
      (andi (cmpi .sge (broadcastInDim ⟨2, ![R, 1]⟩ ![0] hb w) lo) (cmpi .sle (broadcastInDim ⟨2, ![R, 1]⟩ ![0] hb w) hi)) one h hu j = 1#1 := fun j => by
    refine Host.reduce_andi_one _ _ h hu j (hone _) fun y => ?_
    obtain ⟨r, c, rfl⟩ : ∃ (r : Fin R) (c : Fin 1), y = ValueIdx.ix2 r c := ⟨y 0, y 1, ValueIdx.eq_ix2 y⟩
    have hr := hg r.val
    show IntOp.andi (IntOp.cmpi .sge (broadcastInDim ⟨2, ![R, 1]⟩ ![0] hb w (ValueIdx.ix2 r c)) (lo (ValueIdx.ix2 r c)))
      (IntOp.cmpi .sle (broadcastInDim ⟨2, ![R, 1]⟩ ![0] hb w (ValueIdx.ix2 r c)) (hi (ValueIdx.ix2 r c))) = 1#1
    rw [hv, hlo, hhi]
    show IntOp.andi (BitVec.ofBool (decide (0 ≤ (BitVec.ofNat 32 (g r.val)).toInt)))
      (BitVec.ofBool (decide ((BitVec.ofNat 32 (g r.val)).toInt ≤ 1023))) = 1#1
    rw [toInt_small (by omega), decide_eq_true (by omega), decide_eq_true (by omega)]
    rfl
  have hgat := Routing.gather_row d hoff hcoll hob hsim hivd cb (broadcastInDim ⟨2, ![R, 1]⟩ ![0] hb w) ⟨i, hi'⟩ ⟨k, hk⟩ ⟨g i, hg i⟩
    (hv _ _) (by norm_num)
  refine Eq.trans ?_ hgat
  show (if (_ : BitVec 1) = 1 then _ else _) = _
  exact if_pos (hone' _)

end Cert.Proof
end
-- ==== Proof.RefVq.lean ====
/- The reference's vector quantization: the distances, the nearest codeword of each pixel, and the codewords looked up. -/
module

public import proofs.«01_k».proof.Proof.RefEnc
public import proofs.«01_k».proof.Proof.RefNear

@[expose] public section

set_option maxRecDepth 16384

noncomputable section

open scoped BigOperators

namespace Cert.ReferenceIdeal.Layers

open Cert.ReferenceIdeal Cert.ReferenceIdeal.Gen Idealize.ShloMosaic Idealize.ShloMosaic.TcCoe Idealize.ShloMosaic.Tactic
open Idealize.ShloMosaic.StableHlo
open Cert.Proof

variable (V : Valuation τ sig (Elt Ideal))

def rCB := at2 (a := 1024) (b := 256) (V (Proc.devRef .tc main_arg7))

/-- The squared distances of the pixels to the codewords, a row to a pixel. -/
theorem distances (n i j c : ℕ) (hn : n < 8) (hi : i < 56) (hj : j < 56) (hc : c < 1024) :
    at2 (a := 25088) (b := 1024) (X5 V (Proc.devRef .tc main_v71)) ((n * 56 + i) * 56 + j) c = distF (rE V) (rCB V) n i j c := by
  have hr : (n * 56 + i) * 56 + j < 25088 := by omega
  unfold X5
  after_reads_simp
  rw [X4_keep V main_arg7 (by decide), X3_keep V main_arg7 (by decide), X2_keep V main_arg7 (by decide), X1_keep V main_arg7 (by decide)]
  clean_types
  generalize hz : shapeCast (α := EReal) ⟨2, ![25088, 256]⟩ (transpose S8x56x56x256 [0, 2, 3, 1] (X4 V (Proc.devRef .tc main_v55)) transposes_S8x256x56x56_S8x56x56x256_0_2_3_1) shapeCasts_S8x56x56x256_S25088x256 = z
  have hpix : ∀ k < 256, at2 z ((n * 56 + i) * 56 + j) k = rE V n k i j := fun k hk => by
    rw [← hz, rows_at _ _ rfl n i j k hn hi hj hk, toNhwc_at]
    exact layer3 V n k i j
  have hsub : ∀ x y : FVec Ideal S25088x1024 .f32, at2 (subf x y) ((n * 56 + i) * 56 + j) c
      = at2 x ((n * 56 + i) * 56 + j) c - at2 y ((n * 56 + i) * 56 + j) c := fun x y => by
    rw [at2_of _ hr hc, at2_of x hr hc, at2_of y hr hc]; rfl
  have hmul : ∀ {a b : ℕ} (x y : FVec Ideal ⟨2, ![a, b]⟩ .f32) (p q : ℕ), p < a → q < b → at2 (mulf x y) p q = at2 x p q * at2 y p q :=
    fun x y p q hp hq => by rw [at2_of _ hp hq, at2_of x hp hq, at2_of y hp hq]; rfl
  have hzero : ∀ y, (constant S_ .f32 0#32 : FVec Ideal S_ .f32) y = (0 : EReal) := fun _ => Ideal.ofBits_zero_f32
  unfold distF
  refine (hsub _ _).trans (congrArg₂ (· - ·) ((addf_at2 _ _ _ _).trans (congrArg₂ (· + ·) ?_ ?_)) ((hmul _ _ _ _ hr hc).trans (congrArg₂ (· * ·) ?_ ?_)))
  · refine (columnSpread_at _ _ _ _ _ hr hc).trans ((rowTotal_at _ _ hzero _ _ _ hr).trans (Finset.sum_congr rfl fun k hk => ?_))
    have hk := Finset.mem_range.mp hk
    refine (hmul _ _ _ _ hr hk).trans ?_
    rw [← hpix k hk]
  · refine (rowSpread_at _ _ _ _ _ hr hc).trans ((rowTotal_at _ _ hzero _ _ _ hc).trans (Finset.sum_congr rfl fun k hk => ?_))
    exact hmul _ _ _ _ hc (Finset.mem_range.mp hk)
  · rw [at2_of _ hr hc]; rfl
  · refine (matrixProduct_at _ (show dot_S25088x256_S256x1024_S25088x1024_1_0_0_1_n_n = DotDims.plain 25088 256 1024 from rfl) none _ _ _ _ hr hc).trans
      (Finset.sum_congr rfl fun k hk => congrArg₂ (· * ·) (hpix k (Finset.mem_range.mp hk)) (swap_at _ _ _ _))

/-- The codeword nearest to the pixel of a row. -/
def rowMin (r : ℕ) : ℕ := firstMin 1024 (distF (rE V) (rCB V) (r / 3136) (r / 56 % 56) (r % 56))

theorem rowMin_lt (r : ℕ) : rowMin V r < 1024 := firstMin_lt (by omega)

theorem nearest (r : Fin 25088) :
    (X6 V (Proc.devRef .tc main_v72) : IVec S25088 32) (ValueIdx.ix1 r) = BitVec.ofNat 32 (rowMin V r.val) := by
  have hr := r.isLt
  unfold X6
  after_reads_simp
  simp -implicitDefEqProofs only [TRef.toBuf, TRef.ofBuf, cast_cast, cast_eq]
  clean_types
  refine nearest_at _ _ (fun i k => rfl) (by omega) (by omega) _ _ (fun _ => infinity_eq) (fun _ => rfl) _ _ _ r fun k => ?_
  have h := distances V (r.val / 3136) (r.val / 56 % 56) (r.val % 56) k.val (by omega) (by omega) (by omega) k.isLt
  rw [show (r.val / 3136 * 56 + r.val / 56 % 56) * 56 + r.val % 56 = r.val by omega, at2_of _ r.isLt k.isLt] at h
  exact h

/-- The codeword of each pixel. -/
theorem quantized (n o i j : ℕ) :
    at4 (a := 8) (b := 256) (c := 56) (d := 56) (X7 V (Proc.devRef .tc main_v75)) n o i j = LQ (rE V) (rCB V) n o i j := by
  refine at4_clip' (fun n o i j hn ho hi hj => ?_) n o i j
  unfold X7
  after_reads_simp
  simp -implicitDefEqProofs only [TRef.toBuf, TRef.ofBuf, cast_cast, cast_eq]
  rw [X6_keep V main_arg7 (by decide), X5_keep V main_arg7 (by decide), X4_keep V main_arg7 (by decide), X3_keep V main_arg7 (by decide),
    X2_keep V main_arg7 (by decide), X1_keep V main_arg7 (by decide)]
  clean_types
  refine (toNchw_at _ _ _ _ _ _).trans ((pixels_at _ _ rfl n i j o hn hi hj ho).trans ?_)
  refine (lookup_at gather_S1024x256_S25088x1_S25088x256_1_0_n_n_0_1_1256 rfl rfl rfl rfl rfl _ _ _ _ _ _ _ _ (fun _ => rfl) (fun _ => rfl) (fun _ => rfl) (fun _ => rfl)
    (rowMin V) (rowMin_lt V) (nearest V) _ _ _ _ _ _ (by omega) ho).trans ?_
  unfold rowMin
  rw [show ((n * 56 + i) * 56 + j) / 3136 = n by omega, show ((n * 56 + i) * 56 + j) / 56 % 56 = i by omega,
    show ((n * 56 + i) * 56 + j) % 56 = j by omega]
  rfl

/-- What is added to a finite number and taken away again leaves the number added. -/
theorem add_sub_self {e q : EReal} (h : e ≠ ⊤) (h' : e ≠ ⊥) : e + (q - e) = q := by
  lift e to ℝ using ⟨h, h'⟩
  induction q using EReal.rec with
  | bot => simp
  | coe q => norm_cast; ring
  | top => simp

/-- The decoder reads the codewords themselves where the encoder's result is finite. -/
theorem straight (hf : ∀ n o i j, rE V n o i j ≠ ⊤ ∧ rE V n o i j ≠ ⊥) (n o i j : ℕ) :
    at4 (a := 8) (b := 256) (c := 56) (d := 56) (X7 V (Proc.devRef .tc main_v77)) n o i j = LQ (rE V) (rCB V) n o i j := by
  rw [← quantized]
  by_cases hh : n < 8 ∧ o < 256 ∧ i < 56 ∧ j < 56
  · have he := layer3 V n o i j
    have h77 : ∀ e q : FVec Ideal S8x256x56x56 .f32, e = X4 V (Proc.devRef .tc main_v55) → q = X7 V (Proc.devRef .tc main_v75) →
        @Eq (FVec Ideal S8x256x56x56 .f32) (X7 V (Proc.devRef .tc main_v77)) (addf e (subf q e)) := fun e q h1 h2 => by
      rw [h1, h2, ← X5_keep V main_v55 (by decide), ← X6_keep V main_v55 (by decide)]
      unfold X7
      after_reads_simp
    rw [at4_of _ hh.1 hh.2.1 hh.2.2.1 hh.2.2.2] at he ⊢
    rw [at4_of _ hh.1 hh.2.1 hh.2.2.1 hh.2.2.2, h77 _ _ rfl rfl]
    obtain ⟨h1, h2⟩ := hf n o i j
    rw [← he] at h1 h2
    exact add_sub_self h1 h2
  · rw [show ∀ x : FVec Ideal S8x256x56x56 .f32, at4 x n o i j = 0 from fun x => dif_neg hh,
      show ∀ x : FVec Ideal S8x256x56x56 .f32, at4 x n o i j = 0 from fun x => dif_neg hh]

end Cert.ReferenceIdeal.Layers
end
-- ==== Proof.RefFrame.lean ====
/- The reference leaves its arguments as they were, and its three results as layers over natural coordinates. -/
module

public import proofs.«01_k».proof.Proof.RefDec
public import proofs.«01_k».proof.Proof.RefVq
public import Idealize.ShloMosaic.Lib.Quiescent

@[expose] public section

set_option maxRecDepth 16384

noncomputable section

namespace Cert.ReferenceIdeal.Layers

open Cert.ReferenceIdeal Cert.ReferenceIdeal.Gen Idealize.ShloMosaic Idealize.ShloMosaic.TcCoe Idealize.SL.Sem
open Idealize.ShloMosaic.StableHlo
open Cert.Proof

/-- The reference has no semaphore, and writes none of its arguments. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0 :=
  (θ_run defs _ _).mono (fun r h => ⟨fun c => ⟨(h c main_arg0).trans ((keep _ main_arg0 (by decide)).trans (launchContents_devRef m c main_arg0)), (h c main_arg1).trans ((keep _ main_arg1 (by decide)).trans (launchContents_devRef m c main_arg1)), (h c main_arg2).trans ((keep _ main_arg2 (by decide)).trans (launchContents_devRef m c main_arg2)), (h c main_arg3).trans ((keep _ main_arg3 (by decide)).trans (launchContents_devRef m c main_arg3)), (h c main_arg4).trans ((keep _ main_arg4 (by decide)).trans (launchContents_devRef m c main_arg4)), (h c main_arg5).trans ((keep _ main_arg5 (by decide)).trans (launchContents_devRef m c main_arg5)), (h c main_arg6).trans ((keep _ main_arg6 (by decide)).trans (launchContents_devRef m c main_arg6)), (h c main_arg7).trans ((keep _ main_arg7 (by decide)).trans (launchContents_devRef m c main_arg7)), (h c main_arg8).trans ((keep _ main_arg8 (by decide)).trans (launchContents_devRef m c main_arg8)), (h c main_arg9).trans ((keep _ main_arg9 (by decide)).trans (launchContents_devRef m c main_arg9)), (h c main_arg10).trans ((keep _ main_arg10 (by decide)).trans (launchContents_devRef m c main_arg10)), (h c main_arg11).trans ((keep _ main_arg11 (by decide)).trans (launchContents_devRef m c main_arg11)), (h c main_arg12).trans ((keep _ main_arg12 (by decide)).trans (launchContents_devRef m c main_arg12)), (h c main_arg13).trans ((keep _ main_arg13 (by decide)).trans (launchContents_devRef m c main_arg13))⟩, sem_eq_zero_of_no_sems rfl _⟩) (run m ρ)

variable (V : Valuation τ sig (Elt Ideal))

theorem v133_at (hf : ∀ n o i j, rE V n o i j ≠ ⊤ ∧ rE V n o i j ≠ ⊥) (n o i j : ℕ) :
    at4 (a := 8) (b := 3) (c := 224) (d := 224) (X11 V (Proc.devRef .tc main_v133)) n o i j
      = L6 (L5 (L4 (LQ (rE V) (rCB V)) (rW4 V) (rB4 V)) (rW5 V) (rB5 V)) (rW6 V) (rB6 V) n o i j :=
  layer6 V (straight V hf) n o i j

theorem v55_at (n o i j : ℕ) :
    at4 (a := 8) (b := 256) (c := 56) (d := 56) (X11 V (Proc.devRef .tc main_v55)) n o i j = rE V n o i j := by
  rw [X11_keep _ _ (by decide), X10_keep _ _ (by decide), X9_keep _ _ (by decide), X8_keep _ _ (by decide), X7_keep _ _ (by decide),
    X6_keep _ _ (by decide), X5_keep _ _ (by decide)]
  exact layer3 V n o i j

theorem v75_at (n o i j : ℕ) :
    at4 (a := 8) (b := 256) (c := 56) (d := 56) (X11 V (Proc.devRef .tc main_v75)) n o i j = LQ (rE V) (rCB V) n o i j := by
  rw [X11_keep _ _ (by decide), X10_keep _ _ (by decide), X9_keep _ _ (by decide), X8_keep _ _ (by decide)]
  exact quantized V n o i j

end Cert.ReferenceIdeal.Layers
end
-- ==== Proof.Finite.lean ====
/- The encoder of finite arrays is finite, and the precondition says that the encoder's arrays are. -/
module

public import proofs.«01_k».proof.Proof.Spec
public import proofs.«01_k».proof.Proof.Gen.Pre_finite_encoder
public import Idealize.ShloMosaic.Lib.ReduceAll
public import Idealize.ShloMosaic.Lib.Affine

@[expose] public section

noncomputable section

open scoped BigOperators

namespace Cert.Proof

open Idealize.ShloMosaic

/-- An extended real that is a real number. -/
def IsReal (x : EReal) : Prop := ∃ r : ℝ, x = r

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {n : ℕ} {f : ℕ → EReal} (h : ∀ k, IsReal (f k)) : IsReal (∑ k ∈ Finset.range n, f k) := by
  induction n with
  | zero => exact IsReal.zero
  | succ n ih => rw [Finset.sum_range_succ]; exact ih.add (h n)

theorem IsReal.ne {x : EReal} (h : IsReal x) : x ≠ ⊤ ∧ x ≠ ⊥ := by
  obtain ⟨a, rfl⟩ := h
  exact ⟨EReal.coe_ne_top a, EReal.coe_ne_bot a⟩

/-- Every element of a layer is a real number. -/
def AllReal (X : ℕ → ℕ → ℕ → ℕ → EReal) : Prop := ∀ n o i j, IsReal (X n o i j)

section Layers
variable {X W : ℕ → ℕ → ℕ → ℕ → EReal} {B : ℕ → EReal}

theorem AllReal.padF (h : AllReal X) : AllReal (padF X) := fun n c i j => by
  unfold Proof.padF
  split
  · exact h _ _ _ _
  · exact IsReal.zero

theorem AllReal.convS2 (C : ℕ) (hX : AllReal X) (hW : AllReal W) (hB : ∀ o, IsReal (B o)) : AllReal (convS2 C X W B) := fun _ _ _ _ =>
  (IsReal.sum fun _ => IsReal.sum fun _ => IsReal.sum fun _ => (hX.padF _ _ _ _).mul (hW _ _ _ _)).add (hB _)

theorem AllReal.conv3 (C : ℕ) (hX : AllReal X) (hW : AllReal W) (hB : ∀ o, IsReal (B o)) : AllReal (conv3 C X W B) := fun _ _ _ _ =>
  (IsReal.sum fun _ => IsReal.sum fun _ => IsReal.sum fun _ => (hX.padF _ _ _ _).mul (hW _ _ _ _)).add (hB _)

theorem AllReal.relu (h : AllReal X) : AllReal (relu X) := fun _ _ _ _ => (h _ _ _ _).max IsReal.zero

theorem AllReal.clip (a b c d : ℕ) (h : AllReal X) : AllReal (clip a b c d X) := fun n o i j => by
  unfold Proof.clip
  split
  · exact h _ _ _ _
  · exact IsReal.zero

end Layers

theorem encoder_real {A W1 W2 W3 : ℕ → ℕ → ℕ → ℕ → EReal} {B1 B2 B3 : ℕ → EReal} (hA : AllReal A) (h1 : AllReal W1) (h2 : AllReal W2)
    (h3 : AllReal W3) (b1 : ∀ o, IsReal (B1 o)) (b2 : ∀ o, IsReal (B2 o)) (b3 : ∀ o, IsReal (B3 o)) :
    AllReal (L3 (L2 (L1 A W1 B1) W2 B2) W3 B3) :=
  ((((((hA.convS2 3 h1 b1).relu).clip 8 128 112 112).convS2 128 h2 b2).relu.clip 8 256 56 56).conv3 256 h3 b3).clip 8 256 56 56

/-! ## The precondition -/

theorem real_at4 {a b c d : ℕ} {x : (⟨4, ![a, b, c, d]⟩ : Shape).Idx → EReal} (h : ∀ i, IsReal (x i)) : AllReal (at4 x) := fun n o i j => by
  unfold at4
  split
  · exact h _
  · exact IsReal.zero

theorem real_at1 {a : ℕ} {x : (⟨1, ![a]⟩ : Shape).Idx → EReal} (h : ∀ i, IsReal (x i)) (o : ℕ) : IsReal (at1 x o) := by
  unfold at1
  split
  · exact h _
  · exact IsReal.zero

/-- A number whose absolute value is below infinity is real. -/
theorem real_of_abs {x : EReal} (h : max x (-x) < ⊤) : IsReal x := by
  induction x using EReal.rec with
  | bot => exact absurd h (by simp)
  | coe r => exact ⟨r, rfl⟩
  | top => exact absurd h (by simp)

/-- Where every absolute value of an array is below infinity, every element is real. -/
theorem real_of_all {s u : Shape} {axes : List (Fin s.rank)} {z : Shape} [Subsingleton z.Idx] (x y : FVec Ideal s .f32) (hy : ∀ i, y i = (⊤ : EReal)) (init : IVec u 1)
    (h : s.ReducesTo axes z) (hu : 0 < u.numel) (j : z.Idx)
    (e : Host.reduce IntOp.andi (cmpf .olt (Host.absf x) y) init h hu j = 1#1) (i : s.Idx) : IsReal (x i) := by
  have h1 := Host.reduce_andi_all _ init h hu j e i
  have h2 : BitVec.ofBool (decide (max (x i) (-(x i)) < y i)) = 1#1 := h1
  rw [hy] at h2
  refine real_of_abs ?_
  by_contra hc
  rw [decide_eq_false hc] at h2
  exact absurd h2 (by decide)

instance : Subsingleton Cert.Pre_finite_encoder.S_.Idx := ⟨fun a b => funext fun i => i.elim0⟩

open Cert.Pre_finite_encoder Cert.Pre_finite_encoder.Gen in
theorem pre_real (a0 : FVec Ideal S8x3x224x224 .f32) (a1 : FVec Ideal S128x3x4x4 .f32) (a2 : FVec Ideal S128 .f32) (a3 : FVec Ideal S256x128x4x4 .f32)
    (a4 : FVec Ideal S256 .f32) (a5 : FVec Ideal S256x256x3x3 .f32) (a6 : FVec Ideal S256 .f32) (a7 : FVec Ideal S1024x256 .f32)
    (a8 : FVec Ideal S256x256x3x3 .f32) (a9 : FVec Ideal S256 .f32) (a10 : FVec Ideal S128x256x4x4 .f32) (a11 : FVec Ideal S128 .f32)
    (a12 : FVec Ideal S3x128x4x4 .f32) (a13 : FVec Ideal S3 .f32)
    (h : Cert.Pre_finite_encoder.fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) := by
  have h := congrFun h (fun i => i.elim0)
  obtain ⟨h, e6⟩ := IntOp.andi_eq_one.mp h
  obtain ⟨h, e5⟩ := IntOp.andi_eq_one.mp h
  obtain ⟨h, e4⟩ := IntOp.andi_eq_one.mp h
  obtain ⟨h, e3⟩ := IntOp.andi_eq_one.mp h
  obtain ⟨h, e2⟩ := IntOp.andi_eq_one.mp h
  obtain ⟨e0, e1⟩ := IntOp.andi_eq_one.mp h
  exact ⟨real_of_all _ _ (fun _ => infinity_eq) _ _ _ _ e0, real_of_all _ _ (fun _ => infinity_eq) _ _ _ _ e1,
    real_of_all _ _ (fun _ => infinity_eq) _ _ _ _ e2, real_of_all _ _ (fun _ => infinity_eq) _ _ _ _ e3,
    real_of_all _ _ (fun _ => infinity_eq) _ _ _ _ e4, real_of_all _ _ (fun _ => infinity_eq) _ _ _ _ e5,
    real_of_all _ _ (fun _ => infinity_eq) _ _ _ _ e6⟩

end Cert.Proof
end
-- ==== Proof.lean ====
/- The kernel and the reference compute the same three arrays: each program's results, read as layers over natural
   coordinates, are the same layers of the same arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_encoder
public import proofs.«01_k».proof.Proof.KernelRun
public import proofs.«01_k».proof.Proof.KernelDec
public import proofs.«01_k».proof.Proof.RefFrame
public import proofs.«01_k».proof.Proof.Finite
public import Idealize.ShloMosaic.Adequacy
public import Idealize.ShloMosaic.Init

@[expose] public section

noncomputable section

namespace Cert.Proof

open Idealize.ShloMosaic Idealize.SL.Sem
open Cert.KernelIdeal.Gen Cert.ReferenceIdeal.Layers

section Results
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From the same arguments, finite where the encoder reads them, the two programs leave the same three results. -/
theorem results
    (hpre : haveI := Cert.Pre_finite_encoder.Gen.facts; Cert.Pre_KernelIdeal_finite_encoder m)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    X11 (StableHlo.launchContents m' c) (Proc.devRef .tc Cert.ReferenceIdeal.main_v133) = W35 m ρ c (Proc.devRef .tc Cert.KernelIdeal.main_v51)
      ∧ X11 (StableHlo.launchContents m' c) (Proc.devRef .tc Cert.ReferenceIdeal.main_v55) = W35 m ρ c (Proc.devRef .tc Cert.KernelIdeal.main_v52)
      ∧ X11 (StableHlo.launchContents m' c) (Proc.devRef .tc Cert.ReferenceIdeal.main_v75) = W35 m ρ c (Proc.devRef .tc Cert.KernelIdeal.main_v53) := by
  obtain ⟨a0, a1, a2, a3, a4, a5, a6, a7, a8, a9, a10, a11, a12, a13⟩ := hargs
  have h0 : rA (StableHlo.launchContents m' c) = kA m c := congrArg _ ((StableHlo.launchContents_devRef m' c Cert.ReferenceIdeal.main_arg0).trans a0)
  have h1 : rW1 (StableHlo.launchContents m' c) = kW1 m c := congrArg _ ((StableHlo.launchContents_devRef m' c Cert.ReferenceIdeal.main_arg1).trans a1)
  have h2 : rB1 (StableHlo.launchContents m' c) = kB1 m c := congrArg _ ((StableHlo.launchContents_devRef m' c Cert.ReferenceIdeal.main_arg2).trans a2)
  have h3 : rW2 (StableHlo.launchContents m' c) = kW2 m c := congrArg _ ((StableHlo.launchContents_devRef m' c Cert.ReferenceIdeal.main_arg3).trans a3)
  have h4 : rB2 (StableHlo.launchContents m' c) = kB2 m c := congrArg _ ((StableHlo.launchContents_devRef m' c Cert.ReferenceIdeal.main_arg4).trans a4)
  have h5 : rW3 (StableHlo.launchContents m' c) = kW3 m c := congrArg _ ((StableHlo.launchContents_devRef m' c Cert.ReferenceIdeal.main_arg5).trans a5)
  have h6 : rB3 (StableHlo.launchContents m' c) = kB3 m c := congrArg _ ((StableHlo.launchContents_devRef m' c Cert.ReferenceIdeal.main_arg6).trans a6)
  have h7 : rCB (StableHlo.launchContents m' c) = kCB m c := congrArg _ ((StableHlo.launchContents_devRef m' c Cert.ReferenceIdeal.main_arg7).trans a7)
  have h8 : rW4 (StableHlo.launchContents m' c) = kW4 m c := congrArg _ ((StableHlo.launchContents_devRef m' c Cert.ReferenceIdeal.main_arg8).trans a8)
  have h9 : rB4 (StableHlo.launchContents m' c) = kB4 m c := congrArg _ ((StableHlo.launchContents_devRef m' c Cert.ReferenceIdeal.main_arg9).trans a9)
  have h10 : rW5 (StableHlo.launchContents m' c) = kW5 m c := congrArg _ ((StableHlo.launchContents_devRef m' c Cert.ReferenceIdeal.main_arg10).trans a10)
  have h11 : rB5 (StableHlo.launchContents m' c) = kB5 m c := congrArg _ ((StableHlo.launchContents_devRef m' c Cert.ReferenceIdeal.main_arg11).trans a11)
  have h12 : rW6 (StableHlo.launchContents m' c) = kW6 m c := congrArg _ ((StableHlo.launchContents_devRef m' c Cert.ReferenceIdeal.main_arg12).trans a12)
  have h13 : rB6 (StableHlo.launchContents m' c) = kB6 m c := congrArg _ ((StableHlo.launchContents_devRef m' c Cert.ReferenceIdeal.main_arg13).trans a13)
  have hE : rE (StableHlo.launchContents m' c) = kE m c := by
    unfold rE kE
    rw [h0, h1, h2, h3, h4, h5, h6]
  have hQ : LQ (rE (StableHlo.launchContents m' c)) (rCB (StableHlo.launchContents m' c)) = kQ m c := by
    unfold kQ
    rw [hE, h7]
  have hf : ∀ n o i j, rE (StableHlo.launchContents m' c) n o i j ≠ ⊤ ∧ rE (StableHlo.launchContents m' c) n o i j ≠ ⊥ := fun n o i j => by
    obtain ⟨p0, p1, p2, p3, p4, p5, p6⟩ := pre_real _ _ _ _ _ _ _ _ _ _ _ _ _ _ (hpre c)
    rw [hE]
    exact (encoder_real (real_at4 p0) (real_at4 p1) (real_at4 p3) (real_at4 p5) (real_at1 p2) (real_at1 p4) (real_at1 p6) n o i j).ne
  refine ⟨ext4 (a := 8) (b := 3) (c := 224) (d := 224) fun n o i j _ _ _ _ => ?_, ext4 (a := 8) (b := 256) (c := 56) (d := 56) fun n o i j _ _ _ _ => ?_,
    ext4 (a := 8) (b := 256) (c := 56) (d := 56) fun n o i j _ _ _ _ => ?_⟩
  · refine (v133_at _ hf n o i j).trans (Eq.trans ?_ (v51_at m ρ c n o i j).symm)
    unfold kD
    rw [hQ, h8, h9, h10, h11, h12, h13]
  · refine (v55_at _ n o i j).trans (Eq.trans ?_ (v52_at m ρ c n o i j).symm)
    rw [hE]
  · refine (v75_at _ n o i j).trans (Eq.trans ?_ (v53_at m ρ c n o i j).symm)
    rw [hQ]

end Results

theorem claim : Cert.Claim := ⟨Cert.Kernel.Gen.facts, Cert.KernelIdeal.Gen.facts, Cert.ReferenceIdeal.Gen.facts, Cert.Pre_finite_encoder.Gen.facts,
  fun m g _ => Cert.Kernel.Gen.frame m g,
  fun m g _ => Cert.KernelIdeal.Gen.frame m g,
  fun m g _ => Cert.KernelIdeal.Gen.frame m g,
  fun m g _ => Cert.ReferenceIdeal.Layers.frame m g,
  fun m g _ => Cert.ReferenceIdeal.Layers.frame m g,
  trivial,
  fun m g m' g' hpre hargs => ⟨fun c => W35 m g c (Proc.devRef .tc Cert.KernelIdeal.main_v51), fun c => W35 m g c (Proc.devRef .tc Cert.KernelIdeal.main_v52),
    fun c => W35 m g c (Proc.devRef .tc Cert.KernelIdeal.main_v53),
    (θ_run _ _ _).mono (fun r h c => by
      obtain ⟨a0, a1, a2, a3, a4, a5, a6, a7, a8, a9, a10, a11, a12, a13, r1, r2, r3⟩ := h.1 c
      exact ⟨r1, r2, r3, a0, a1, a2, a3, a4, a5, a6, a7, a8, a9, a10, a11, a12, a13⟩) (Cert.KernelIdeal.Gen.run m g),
    (θ_run _ _ _).mono (fun r h c => by
      obtain ⟨r1, r2, r3⟩ := results m g m' c hpre (hargs c)
      exact ⟨(h c _).trans r1, (h c _).trans r2, (h c _).trans r3, (h c _).trans ((keep _ Cert.ReferenceIdeal.main_arg0 (by decide)).trans (StableHlo.launchContents_devRef m' c Cert.ReferenceIdeal.main_arg0)), (h c _).trans ((keep _ Cert.ReferenceIdeal.main_arg1 (by decide)).trans (StableHlo.launchContents_devRef m' c Cert.ReferenceIdeal.main_arg1)), (h c _).trans ((keep _ Cert.ReferenceIdeal.main_arg2 (by decide)).trans (StableHlo.launchContents_devRef m' c Cert.ReferenceIdeal.main_arg2)), (h c _).trans ((keep _ Cert.ReferenceIdeal.main_arg3 (by decide)).trans (StableHlo.launchContents_devRef m' c Cert.ReferenceIdeal.main_arg3)), (h c _).trans ((keep _ Cert.ReferenceIdeal.main_arg4 (by decide)).trans (StableHlo.launchContents_devRef m' c Cert.ReferenceIdeal.main_arg4)), (h c _).trans ((keep _ Cert.ReferenceIdeal.main_arg5 (by decide)).trans (StableHlo.launchContents_devRef m' c Cert.ReferenceIdeal.main_arg5)), (h c _).trans ((keep _ Cert.ReferenceIdeal.main_arg6 (by decide)).trans (StableHlo.launchContents_devRef m' c Cert.ReferenceIdeal.main_arg6)), (h c _).trans ((keep _ Cert.ReferenceIdeal.main_arg7 (by decide)).trans (StableHlo.launchContents_devRef m' c Cert.ReferenceIdeal.main_arg7)), (h c _).trans ((keep _ Cert.ReferenceIdeal.main_arg8 (by decide)).trans (StableHlo.launchContents_devRef m' c Cert.ReferenceIdeal.main_arg8)), (h c _).trans ((keep _ Cert.ReferenceIdeal.main_arg9 (by decide)).trans (StableHlo.launchContents_devRef m' c Cert.ReferenceIdeal.main_arg9)), (h c _).trans ((keep _ Cert.ReferenceIdeal.main_arg10 (by decide)).trans (StableHlo.launchContents_devRef m' c Cert.ReferenceIdeal.main_arg10)), (h c _).trans ((keep _ Cert.ReferenceIdeal.main_arg11 (by decide)).trans (StableHlo.launchContents_devRef m' c Cert.ReferenceIdeal.main_arg11)), (h c _).trans ((keep _ Cert.ReferenceIdeal.main_arg12 (by decide)).trans (StableHlo.launchContents_devRef m' c Cert.ReferenceIdeal.main_arg12)), (h c _).trans ((keep _ Cert.ReferenceIdeal.main_arg13 (by decide)).trans (StableHlo.launchContents_devRef m' c Cert.ReferenceIdeal.main_arg13))⟩)
      (Cert.ReferenceIdeal.Layers.run m' g')⟩⟩

end Cert.Proof

end
